-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_1)) (v1 : (c : Dev Cert.KernelIdeal.nD) → Buf (Elt Ideal) ((c.tc : Thread Cert.KernelIdeal.nD Cert.KernelIdeal.τ).loc Cert.KernelIdeal.main_v4_2)) (v2 : (c : Dev Cert.KernelIdeal.nD) → Buf (Elt Ideal) ((c.tc : Thread Cert.KernelIdeal.nD Cert.KernelIdeal.τ).loc Cert.KernelIdeal.main_v4_0)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_1) = v0 c
          ∧ r.2.mem ((c.tc : Thread Cert.KernelIdeal.nD Cert.KernelIdeal.τ).loc Cert.KernelIdeal.main_v4_2) = v1 c
          ∧ r.2.mem ((c.tc : Thread Cert.KernelIdeal.nD Cert.KernelIdeal.τ).loc Cert.KernelIdeal.main_v4_0) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v92) = v2 c
          ∧ r.2.mem ((c.tc : Thread Cert.ReferenceIdeal.nD Cert.ReferenceIdeal.τ).loc Cert.ReferenceIdeal.main_v50) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S11x1024x18944 : Shape := ⟨3, ![11, 1024, 18944]⟩
abbrev S256x1024 : Shape := ⟨2, ![256, 1024]⟩
abbrev S256 : Shape := ⟨1, ![256]⟩
abbrev S_ : Shape := ⟨0, ![]⟩
abbrev S1 : Shape := ⟨1, ![1]⟩
abbrev S11264x18944 : Shape := ⟨2, ![11264, 18944]⟩
abbrev S1x256 : Shape := ⟨2, ![1, 256]⟩
abbrev S256x18944 : Shape := ⟨2, ![256, 18944]⟩
abbrev S16x18944 : Shape := ⟨2, ![16, 18944]⟩
abbrev S148x1 : Shape := ⟨2, ![148, 1]⟩
abbrev S148x128 : Shape := ⟨2, ![148, 128]⟩
abbrev S148x256 : Shape := ⟨2, ![148, 256]⟩
abbrev S148 : Shape := ⟨1, ![148]⟩
abbrev S1x128 : Shape := ⟨2, ![1, 128]⟩
abbrev S16x128 : Shape := ⟨2, ![16, 128]⟩
abbrev S256x1 : Shape := ⟨2, ![256, 1]⟩
abbrev S256x256 : Shape := ⟨2, ![256, 256]⟩
abbrev S16x256 : Shape := ⟨2, ![16, 256]⟩
abbrev S32x256 : Shape := ⟨2, ![32, 256]⟩
abbrev S128 : Shape := ⟨1, ![128]⟩

abbrev nBuf : Space → Nat
  | .hbm => 28
  | .vmem => 12
  | .smem => 1
  | _ => 0

abbrev bufTy : (tb : Table) → Fin (tcTables nBuf tb) → BufTy
  | .hbm, ⟨0, _⟩ => ⟨S11x1024x18944, .bf16⟩
  | .hbm, ⟨1, _⟩ => ⟨S256x1024, .f32⟩
  | .hbm, ⟨2, _⟩ => ⟨S256, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i1⟩
  | .hbm, ⟨17, _⟩ => ⟨S_, .i1⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S1, .i32⟩
  | .hbm, ⟨22, _⟩ => ⟨S11264x18944, .bf16⟩
  | .hbm, ⟨23, _⟩ => ⟨S1x256, .f32⟩
  | .hbm, ⟨24, _⟩ => ⟨S11264x18944, .fp8e4m3⟩
  | .hbm, ⟨25, _⟩ => ⟨S1x256, .f32⟩
  | .hbm, ⟨26, _⟩ => ⟨S1x256, .f32⟩
  | .hbm, ⟨27, _⟩ => ⟨S1x256, .f32⟩
  | .local _ .vmem, ⟨0, _⟩ => ⟨S256x18944, .bf16⟩
  | .local _ .vmem, ⟨1, _⟩ => ⟨S256x18944, .bf16⟩
  | .local _ .vmem, ⟨2, _⟩ => ⟨S256x1024, .f32⟩
  | .local _ .vmem, ⟨3, _⟩ => ⟨S1x256, .f32⟩
  | .local _ .vmem, ⟨4, _⟩ => ⟨S256x18944, .fp8e4m3⟩
  | .local _ .vmem, ⟨5, _⟩ => ⟨S256x18944, .fp8e4m3⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S16x18944, .bf16⟩
  | .local _ .vmem, ⟨10, _⟩ => ⟨S16x18944, .bf16⟩
  | .local _ .vmem, ⟨11, _⟩ => ⟨S1x256, .f32⟩
  | .local _ .smem, ⟨0, _⟩ => ⟨S1, .i32⟩
  | _, _ => ⟨S11x1024x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_c_1 : Ref sig .tc := ⟨.hbm, 11, rfl⟩
abbrev main_call0_v4 : Ref sig .tc := ⟨.hbm, 12, rfl⟩
abbrev main_call0_c_2 : Ref sig .tc := ⟨.hbm, 13, rfl⟩
abbrev main_call0_v5 : Ref sig .tc := ⟨.hbm, 14, rfl⟩
abbrev main_call0_c_3 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4_0 : Ref sig .tc := ⟨.hbm, 24, rfl⟩
abbrev main_v4_1 : Ref sig .tc := ⟨.hbm, 25, rfl⟩
abbrev main_v4_2 : Ref sig .tc := ⟨.hbm, 26, rfl⟩
abbrev main_v4_3 : Ref sig .tc := ⟨.hbm, 27, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![44], ![false]⟩

@[reducible] def k0_t1_loop : Scf.Loop 32 :=
  let c0_i32_1 : BitVec 32 := 0#32
  let c74_i32 : BitVec 32 := 74#32
  let v3 : BitVec 32 := Scalar.addi c0_i32_1 c74_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg12 : BitVec 32 := Scf.iv c0_i32_1 c1_i32 k0_t1
  let c256_i32 : BitVec 32 := 256#32
  let v7 : BitVec 32 := Scalar.muli arg12 c256_i32
  v7
def k0_off1 (k0_t1 : Fin k0_t1_loop.trips) : Fin 2 → Nat :=
  let c0 : Index := 0#32
  let c0_i32_1 : BitVec 32 := 0#32
  let c1_i32 : BitVec 32 := 1#32
  let arg12 : BitVec 32 := Scf.iv c0_i32_1 c1_i32 k0_t1
  let c256_i32 : BitVec 32 := 256#32
  let v7 : BitVec 32 := Scalar.muli arg12 c256_i32
  let v8 : BitVec 32 := v7
  let v9 : Index := Scalar.indexCast v8
  ![0, v9.toNat]
def k0_off2 (k0_t1 : Fin k0_t1_loop.trips) : Fin 2 → Nat :=
  let c0_5 : Index := 0#32
  let c0_i32_1 : BitVec 32 := 0#32
  let c1_i32 : BitVec 32 := 1#32
  let arg12 : BitVec 32 := Scf.iv c0_i32_1 c1_i32 k0_t1
  let c256_i32 : BitVec 32 := 256#32
  let v7 : BitVec 32 := Scalar.muli arg12 c256_i32
  let v8 : BitVec 32 := v7
  let v13 : Index := Scalar.indexCast v8
  ![0, v13.toNat]
def k0_off3 (k0_t1 : Fin k0_t1_loop.trips) : Fin 2 → Nat :=
  let c16 : Index := 16#32
  let c0_i32_1 : BitVec 32 := 0#32
  let c1_i32 : BitVec 32 := 1#32
  let arg12 : BitVec 32 := Scf.iv c0_i32_1 c1_i32 k0_t1
  let c256_i32 : BitVec 32 := 256#32
  let v7 : BitVec 32 := Scalar.muli arg12 c256_i32
  let v8 : BitVec 32 := v7
  let v25 : Index := Scalar.indexCast v8
  ![16, v25.toNat]
def k0_off4 (k0_t1 : Fin k0_t1_loop.trips) : Fin 2 → Nat :=
  let c0_9 : Index := 0#32
  let c0_i32_1 : BitVec 32 := 0#32
  let c1_i32 : BitVec 32 := 1#32
  let arg12 : BitVec 32 := Scf.iv c0_i32_1 c1_i32 k0_t1
  let c256_i32 : BitVec 32 := 256#32
  let v7 : BitVec 32 := Scalar.muli arg12 c256_i32
  let v8 : BitVec 32 := v7
  let v39 : Index := Scalar.indexCast v8
  ![0, v39.toNat]
def k0_off5 (k0_t1 : Fin k0_t1_loop.trips) : Fin 2 → Nat :=
  let c32 : Index := 32#32
  let c0_i32_1 : BitVec 32 := 0#32
  let c1_i32 : BitVec 32 := 1#32
  let arg12 : BitVec 32 := Scf.iv c0_i32_1 c1_i32 k0_t1
  let c256_i32 : BitVec 32 := 256#32
  let v7 : BitVec 32 := Scalar.muli arg12 c256_i32
  let v8 : BitVec 32 := v7
  let v41 : Index := Scalar.indexCast v8
  ![32, v41.toNat]
def k0_off6 (k0_t1 : Fin k0_t1_loop.trips) : Fin 2 → Nat :=
  let c48 : Index := 48#32
  let c0_i32_1 : BitVec 32 := 0#32
  let c1_i32 : BitVec 32 := 1#32
  let arg12 : BitVec 32 := Scf.iv c0_i32_1 c1_i32 k0_t1
  let c256_i32 : BitVec 32 := 256#32
  let v7 : BitVec 32 := Scalar.muli arg12 c256_i32
  let v8 : BitVec 32 := v7
  let v53 : Index := Scalar.indexCast v8
  ![48, v53.toNat]
def k0_off7 (k0_t1 : Fin k0_t1_loop.trips) : Fin 2 → Nat :=
  let c32_14 : Index := 32#32
  let c0_i32_1 : BitVec 32 := 0#32
  let c1_i32 : BitVec 32 := 1#32
  let arg12 : BitVec 32 := Scf.iv c0_i32_1 c1_i32 k0_t1
  let c256_i32 : BitVec 32 := 256#32
  let v7 : BitVec 32 := Scalar.muli arg12 c256_i32
  let v8 : BitVec 32 := v7
  let v67 : Index := Scalar.indexCast v8
  ![32, v67.toNat]
def k0_off8 (k0_t1 : Fin k0_t1_loop.trips) : Fin 2 → Nat :=
  let c64 : Index := 64#32
  let c0_i32_1 : BitVec 32 := 0#32
  let c1_i32 : BitVec 32 := 1#32
  let arg12 : BitVec 32 := Scf.iv c0_i32_1 c1_i32 k0_t1
  let c256_i32 : BitVec 32 := 256#32
  let v7 : BitVec 32 := Scalar.muli arg12 c256_i32
  let v8 : BitVec 32 := v7
  let v69 : Index := Scalar.indexCast v8
  ![64, v69.toNat]
def k0_off9 (k0_t1 : Fin k0_t1_loop.trips) : Fin 2 → Nat :=
  let c80 : Index := 80#32
  let c0_i32_1 : BitVec 32 := 0#32
  let c1_i32 : BitVec 32 := 1#32
  let arg12 : BitVec 32 := Scf.iv c0_i32_1 c1_i32 k0_t1
  let c256_i32 : BitVec 32 := 256#32
  let v7 : BitVec 32 := Scalar.muli arg12 c256_i32
  let v8 : BitVec 32 := v7
  let v81 : Index := Scalar.indexCast v8
  ![80, v81.toNat]
def k0_off10 (k0_t1 : Fin k0_t1_loop.trips) : Fin 2 → Nat :=
  let c64_19 : Index := 64#32
  let c0_i32_1 : BitVec 32 := 0#32
  let c1_i32 : BitVec 32 := 1#32
  let arg12 : BitVec 32 := Scf.iv c0_i32_1 c1_i32 k0_t1
  let c256_i32 : BitVec 32 := 256#32
  let v7 : BitVec 32 := Scalar.muli arg12 c256_i32
  let v8 : BitVec 32 := v7
  let v95 : Index := Scalar.indexCast v8
  ![64, v95.toNat]
def k0_off11 (k0_t1 : Fin k0_t1_loop.trips) : Fin 2 → Nat :=
  let c96 : Index := 96#32
  let c0_i32_1 : BitVec 32 := 0#32
  let c1_i32 : BitVec 32 := 1#32
  let arg12 : BitVec 32 := Scf.iv c0_i32_1 c1_i32 k0_t1
  let c256_i32 : BitVec 32 := 256#32
  let v7 : BitVec 32 := Scalar.muli arg12 c256_i32
  let v8 : BitVec 32 := v7
  let v97 : Index := Scalar.indexCast v8
  ![96, v97.toNat]
def k0_off12 (k0_t1 : Fin k0_t1_loop.trips) : Fin 2 → Nat :=
  let c112 : Index := 112#32
  let c0_i32_1 : BitVec 32 := 0#32
  let c1_i32 : BitVec 32 := 1#32
  let arg12 : BitVec 32 := Scf.iv c0_i32_1 c1_i32 k0_t1
  let c256_i32 : BitVec 32 := 256#32
  let v7 : BitVec 32 := Scalar.muli arg12 c256_i32
  let v8 : BitVec 32 := v7
  let v109 : Index := Scalar.indexCast v8
  ![112, v109.toNat]
def k0_off13 (k0_t1 : Fin k0_t1_loop.trips) : Fin 2 → Nat :=
  let c96_24 : Index := 96#32
  let c0_i32_1 : BitVec 32 := 0#32
  let c1_i32 : BitVec 32 := 1#32
  let arg12 : BitVec 32 := Scf.iv c0_i32_1 c1_i32 k0_t1
  let c256_i32 : BitVec 32 := 256#32
  let v7 : BitVec 32 := Scalar.muli arg12 c256_i32
  let v8 : BitVec 32 := v7
  let v123 : Index := Scalar.indexCast v8
  ![96, v123.toNat]
def k0_off14 (k0_t1 : Fin k0_t1_loop.trips) : Fin 2 → Nat :=
  let c128 : Index := 128#32
  let c0_i32_1 : BitVec 32 := 0#32
  let c1_i32 : BitVec 32 := 1#32
  let arg12 : BitVec 32 := Scf.iv c0_i32_1 c1_i32 k0_t1
  let c256_i32 : BitVec 32 := 256#32
  let v7 : BitVec 32 := Scalar.muli arg12 c256_i32
  let v8 : BitVec 32 := v7
  let v125 : Index := Scalar.indexCast v8
  ![128, v125.toNat]
def k0_off15 (k0_t1 : Fin k0_t1_loop.trips) : Fin 2 → Nat :=
  let c144 : Index := 144#32
  let c0_i32_1 : BitVec 32 := 0#32
  let c1_i32 : BitVec 32 := 1#32
  let arg12 : BitVec 32 := Scf.iv c0_i32_1 c1_i32 k0_t1
  let c256_i32 : BitVec 32 := 256#32
  let v7 : BitVec 32 := Scalar.muli arg12 c256_i32
  let v8 : BitVec 32 := v7
  let v137 : Index := Scalar.indexCast v8
  ![144, v137.toNat]
def k0_off16 (k0_t1 : Fin k0_t1_loop.trips) : Fin 2 → Nat :=
  let c128_29 : Index := 128#32
  let c0_i32_1 : BitVec 32 := 0#32
  let c1_i32 : BitVec 32 := 1#32
  let arg12 : BitVec 32 := Scf.iv c0_i32_1 c1_i32 k0_t1
  let c256_i32 : BitVec 32 := 256#32
  let v7 : BitVec 32 := Scalar.muli arg12 c256_i32
  let v8 : BitVec 32 := v7
  let v151 : Index := Scalar.indexCast v8
  ![128, v151.toNat]
def k0_off17 (k0_t1 : Fin k0_t1_loop.trips) : Fin 2 → Nat :=
  let c160 : Index := 160#32
  let c0_i32_1 : BitVec 32 := 0#32
  let c1_i32 : BitVec 32 := 1#32
  let arg12 : BitVec 32 := Scf.iv c0_i32_1 c1_i32 k0_t1
  let c256_i32 : BitVec 32 := 256#32
  let v7 : BitVec 32 := Scalar.muli arg12 c256_i32
  let v8 : BitVec 32 := v7
  let v153 : Index := Scalar.indexCast v8
  ![160, v153.toNat]
def k0_off18 (k0_t1 : Fin k0_t1_loop.trips) : Fin 2 → Nat :=
  let c176 : Index := 176#32
  let c0_i32_1 : BitVec 32 := 0#32
  let c1_i32 : BitVec 32 := 1#32
  let arg12 : BitVec 32 := Scf.iv c0_i32_1 c1_i32 k0_t1
  let c256_i32 : BitVec 32 := 256#32
  let v7 : BitVec 32 := Scalar.muli arg12 c256_i32
  let v8 : BitVec 32 := v7
  let v165 : Index := Scalar.indexCast v8
  ![176, v165.toNat]
def k0_off19 (k0_t1 : Fin k0_t1_loop.trips) : Fin 2 → Nat :=
  let c160_34 : Index := 160#32
  let c0_i32_1 : BitVec 32 := 0#32
  let c1_i32 : BitVec 32 := 1#32
  let arg12 : BitVec 32 := Scf.iv c0_i32_1 c1_i32 k0_t1
  let c256_i32 : BitVec 32 := 256#32
  let v7 : BitVec 32 := Scalar.muli arg12 c256_i32
  let v8 : BitVec 32 := v7
  let v179 : Index := Scalar.indexCast v8
  ![160, v179.toNat]
def k0_off20 (k0_t1 : Fin k0_t1_loop.trips) : Fin 2 → Nat :=
  let c192 : Index := 192#32
  let c0_i32_1 : BitVec 32 := 0#32
  let c1_i32 : BitVec 32 := 1#32
  let arg12 : BitVec 32 := Scf.iv c0_i32_1 c1_i32 k0_t1
  let c256_i32 : BitVec 32 := 256#32
  let v7 : BitVec 32 := Scalar.muli arg12 c256_i32
  let v8 : BitVec 32 := v7
  let v181 : Index := Scalar.indexCast v8
  ![192, v181.toNat]
def k0_off21 (k0_t1 : Fin k0_t1_loop.trips) : Fin 2 → Nat :=
  let c208 : Index := 208#32
  let c0_i32_1 : BitVec 32 := 0#32
  let c1_i32 : BitVec 32 := 1#32
  let arg12 : BitVec 32 := Scf.iv c0_i32_1 c1_i32 k0_t1
  let c256_i32 : BitVec 32 := 256#32
  let v7 : BitVec 32 := Scalar.muli arg12 c256_i32
  let v8 : BitVec 32 := v7
  let v193 : Index := Scalar.indexCast v8
  ![208, v193.toNat]
def k0_off22 (k0_t1 : Fin k0_t1_loop.trips) : Fin 2 → Nat :=
  let c192_39 : Index := 192#32
  let c0_i32_1 : BitVec 32 := 0#32
  let c1_i32 : BitVec 32 := 1#32
  let arg12 : BitVec 32 := Scf.iv c0_i32_1 c1_i32 k0_t1
  let c256_i32 : BitVec 32 := 256#32
  let v7 : BitVec 32 := Scalar.muli arg12 c256_i32
  let v8 : BitVec 32 := v7
  let v207 : Index := Scalar.indexCast v8
  ![192, v207.toNat]
def k0_off23 (k0_t1 : Fin k0_t1_loop.trips) : Fin 2 → Nat :=
  let c224 : Index := 224#32
  let c0_i32_1 : BitVec 32 := 0#32
  let c1_i32 : BitVec 32 := 1#32
  let arg12 : BitVec 32 := Scf.iv c0_i32_1 c1_i32 k0_t1
  let c256_i32 : BitVec 32 := 256#32
  let v7 : BitVec 32 := Scalar.muli arg12 c256_i32
  let v8 : BitVec 32 := v7
  let v209 : Index := Scalar.indexCast v8
  ![224, v209.toNat]
def k0_off24 (k0_t1 : Fin k0_t1_loop.trips) : Fin 2 → Nat :=
  let c240 : Index := 240#32
  let c0_i32_1 : BitVec 32 := 0#32
  let c1_i32 : BitVec 32 := 1#32
  let arg12 : BitVec 32 := Scf.iv c0_i32_1 c1_i32 k0_t1
  let c256_i32 : BitVec 32 := 256#32
  let v7 : BitVec 32 := Scalar.muli arg12 c256_i32
  let v8 : BitVec 32 := v7
  let v221 : Index := Scalar.indexCast v8
  ![240, v221.toNat]
def k0_off25 (k0_t1 : Fin k0_t1_loop.trips) : Fin 2 → Nat :=
  let c224_44 : Index := 224#32
  let c0_i32_1 : BitVec 32 := 0#32
  let c1_i32 : BitVec 32 := 1#32
  let arg12 : BitVec 32 := Scf.iv c0_i32_1 c1_i32 k0_t1
  let c256_i32 : BitVec 32 := 256#32
  let v7 : BitVec 32 := Scalar.muli arg12 c256_i32
  let v8 : BitVec 32 := v7
  let v235 : Index := Scalar.indexCast v8
  ![224, v235.toNat]
def k0_cond2 (i : grid0.Coords) : BitVec 1 :=
  let arg0 : BitVec 32 := BitVec.ofNat 32 (i 0).val
  let c43_i32 : BitVec 32 := 43#32
  let v4 : BitVec 1 := Scalar.cmpi .eq arg0 c43_i32
  let v5 : BitVec 32 := Scalar.extui v4
  let c0_i32_3 : BitVec 32 := 0#32
  let v6 : BitVec 1 := Scalar.cmpi .ne v5 c0_i32_3
  v6

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x18944 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x18944 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S11x1024x18944 : Shape := ⟨3, ![11, 1024, 18944]⟩
abbrev S256x1024 : Shape := ⟨2, ![256, 1024]⟩
abbrev S256 : Shape := ⟨1, ![256]⟩
abbrev S_ : Shape := ⟨0, ![]⟩
abbrev S11264x256x74 : Shape := ⟨3, ![11264, 256, 74]⟩
abbrev S1 : Shape := ⟨1, ![1]⟩
abbrev S254 : Shape := ⟨1, ![254]⟩
abbrev S256x1 : Shape := ⟨2, ![256, 1]⟩
abbrev S1x254 : Shape := ⟨2, ![1, 254]⟩
abbrev S256x254 : Shape := ⟨2, ![256, 254]⟩
abbrev S1x256 : Shape := ⟨2, ![1, 256]⟩
abbrev S1x256x1 : Shape := ⟨3, ![1, 256, 1]⟩
abbrev S11264x18944 : Shape := ⟨2, ![11264, 18944]⟩

abbrev nBuf : Space → Nat
  | .hbm => 174
  | .vmem => 0
  | .smem => 0
  | _ => 0

abbrev hbmTy0_0 (i : Nat) : BufTy := match i % 128 with
  | 0 => ⟨S11x1024x18944, .bf16⟩
  | 1 => ⟨S256x1024, .f32⟩
  | 2 => ⟨S256, .f32⟩
  | 3 => ⟨S_, .i32⟩
  | 4 => ⟨S11264x256x74, .bf16⟩
  | 5 => ⟨S11264x256x74, .bf16⟩
  | 6 => ⟨S_, .bf16⟩
  | 7 => ⟨S256, .bf16⟩
  | 8 => ⟨S256, .f32⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S_, .i32⟩
  | 16 => ⟨S_, .i32⟩
  | 17 => ⟨S_, .i1⟩
  | 18 => ⟨S_, .i32⟩
  | 19 => ⟨S_, .i1⟩
  | 20 => ⟨S_, .i32⟩
  | 21 => ⟨S_, .i1⟩
  | 22 => ⟨S_, .i1⟩
  | 23 => ⟨S_, .i1⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S_, .i32⟩
  | 31 => ⟨S1, .i32⟩
  | 32 => ⟨S256x1024, .f32⟩
  | 33 => ⟨S_, .f32⟩
  | 34 => ⟨S256, .f32⟩
  | 35 => ⟨S_, .f32⟩
  | 36 => ⟨S256, .f32⟩
  | 37 => ⟨S256, .f32⟩
  | 38 => ⟨S254, .i32⟩
  | 39 => ⟨S_, .i32⟩
  | 40 => ⟨S254, .i32⟩
  | 41 => ⟨S254, .i32⟩
  | 42 => ⟨S254, .f32⟩
  | 43 => ⟨S256, .f32⟩
  | 44 => ⟨S256x1, .f32⟩
  | 45 => ⟨S_, .f32⟩
  | 46 => ⟨S254, .f32⟩
  | 47 => ⟨S254, .f32⟩
  | 48 => ⟨S1x254, .f32⟩
  | 49 => ⟨S256x254, .f32⟩
  | 50 => ⟨S256x254, .f32⟩
  | 51 => ⟨S256x254, .i1⟩
  | 52 => ⟨S1x254, .f32⟩
  | 53 => ⟨S_, .f32⟩
  | 54 => ⟨S1x254, .f32⟩
  | 55 => ⟨S1x254, .f32⟩
  | 56 => ⟨S_, .f32⟩
  | 57 => ⟨S_, .f32⟩
  | 58 => ⟨S256x254, .f32⟩
  | 59 => ⟨S256x254, .f32⟩
  | 60 => ⟨S256x254, .f32⟩
  | 61 => ⟨S_, .f32⟩
  | 62 => ⟨S256, .f32⟩
  | 63 => ⟨S_, .f32⟩
  | 64 => ⟨S256, .f32⟩
  | 65 => ⟨S256, .i1⟩
  | 66 => ⟨S256, .f32⟩
  | 67 => ⟨S_, .f32⟩
  | 68 => ⟨S256, .f32⟩
  | 69 => ⟨S256, .i1⟩
  | 70 => ⟨S256, .i1⟩
  | 71 => ⟨S_, .f32⟩
  | 72 => ⟨S_, .f32⟩
  | 73 => ⟨S256, .f32⟩
  | 74 => ⟨S256, .f32⟩
  | 75 => ⟨S_, .f32⟩
  | 76 => ⟨S256, .f32⟩
  | 77 => ⟨S256, .i1⟩
  | 78 => ⟨S_, .f32⟩
  | 79 => ⟨S_, .f32⟩
  | 80 => ⟨S256, .f32⟩
  | 81 => ⟨S256, .f32⟩
  | 82 => ⟨S_, .f32⟩
  | 83 => ⟨S256, .f32⟩
  | 84 => ⟨S256, .i1⟩
  | 85 => ⟨S_, .f32⟩
  | 86 => ⟨S256, .f32⟩
  | 87 => ⟨S256, .i1⟩
  | 88 => ⟨S_, .f32⟩
  | 89 => ⟨S256, .f32⟩
  | 90 => ⟨S256, .f32⟩
  | 91 => ⟨S_, .f32⟩
  | 92 => ⟨S_, .f32⟩
  | 93 => ⟨S256, .f32⟩
  | 94 => ⟨S256, .f32⟩
  | 95 => ⟨S_, .f32⟩
  | 96 => ⟨S_, .f32⟩
  | 97 => ⟨S256, .f32⟩
  | 98 => ⟨S256, .f32⟩
  | 99 => ⟨S1x256, .f32⟩
  | 100 => ⟨S1x256, .f32⟩
  | 101 => ⟨S1x256, .f32⟩
  | 102 => ⟨S254, .i32⟩
  | 103 => ⟨S_, .i32⟩
  | 104 => ⟨S254, .i32⟩
  | 105 => ⟨S254, .i32⟩
  | 106 => ⟨S254, .f32⟩
  | 107 => ⟨S256, .f32⟩
  | 108 => ⟨S256x1, .f32⟩
  | 109 => ⟨S_, .f32⟩
  | 110 => ⟨S254, .f32⟩
  | 111 => ⟨S254, .f32⟩
  | 112 => ⟨S1x254, .f32⟩
  | 113 => ⟨S256x254, .f32⟩
  | 114 => ⟨S256x254, .f32⟩
  | 115 => ⟨S256x254, .i1⟩
  | 116 => ⟨S1x254, .f32⟩
  | 117 => ⟨S_, .f32⟩
  | 118 => ⟨S1x254, .f32⟩
  | 119 => ⟨S1x254, .f32⟩
  | 120 => ⟨S_, .f32⟩
  | 121 => ⟨S_, .f32⟩
  | 122 => ⟨S256x254, .f32⟩
  | 123 => ⟨S256x254, .f32⟩
  | 124 => ⟨S256x254, .f32⟩
  | 125 => ⟨S_, .f32⟩
  | 126 => ⟨S256, .f32⟩
  | 127 => ⟨S_, .f32⟩
  | _ => ⟨S11x1024x18944, .bf16⟩

abbrev hbmTy0_1 (i : Nat) : BufTy := match i % 128 with
  | 0 => ⟨S256, .f32⟩
  | 1 => ⟨S256, .i1⟩
  | 2 => ⟨S256, .f32⟩
  | 3 => ⟨S_, .f32⟩
  | 4 => ⟨S256, .f32⟩
  | 5 => ⟨S256, .i1⟩
  | 6 => ⟨S256, .i1⟩
  | 7 => ⟨S_, .f32⟩
  | 8 => ⟨S_, .f32⟩
  | 9 => ⟨S256, .f32⟩
  | 10 => ⟨S256, .f32⟩
  | 11 => ⟨S_, .f32⟩
  | 12 => ⟨S256, .f32⟩
  | 13 => ⟨S256, .f32⟩
  | 14 => ⟨S_, .f32⟩
  | 15 => ⟨S256, .f32⟩
  | 16 => ⟨S256, .i1⟩
  | 17 => ⟨S_, .f32⟩
  | 18 => ⟨S256, .f32⟩
  | 19 => ⟨S256, .i1⟩
  | 20 => ⟨S_, .f32⟩
  | 21 => ⟨S256, .f32⟩
  | 22 => ⟨S256, .f32⟩
  | 23 => ⟨S_, .f32⟩
  | 24 => ⟨S_, .f32⟩
  | 25 => ⟨S256, .f32⟩
  | 26 => ⟨S256, .f32⟩
  | 27 => ⟨S_, .f32⟩
  | 28 => ⟨S_, .f32⟩
  | 29 => ⟨S256, .f32⟩
  | 30 => ⟨S256, .f32⟩
  | 31 => ⟨S11264x256x74, .bf16⟩
  | 32 => ⟨S11264x256x74, .f32⟩
  | 33 => ⟨S1x256x1, .f32⟩
  | 34 => ⟨S11264x256x74, .f32⟩
  | 35 => ⟨S11264x256x74, .f32⟩
  | 36 => ⟨S_, .f32⟩
  | 37 => ⟨S_, .f32⟩
  | 38 => ⟨S_, .f32⟩
  | 39 => ⟨S11264x256x74, .f32⟩
  | 40 => ⟨S11264x256x74, .f32⟩
  | 41 => ⟨S_, .f32⟩
  | 42 => ⟨S11264x256x74, .f32⟩
  | 43 => ⟨S11264x256x74, .f32⟩
  | 44 => ⟨S11264x256x74, .fp8e4m3⟩
  | 45 => ⟨S11264x18944, .fp8e4m3⟩
  | _ => ⟨S11x1024x18944, .bf16⟩

abbrev hbmTy (i : Nat) : BufTy := match i / 128 with
  | 0 => hbmTy0_0 i
  | 1 => hbmTy0_1 i
  | _ => ⟨S11x1024x18944, .bf16⟩

abbrev bufTy : (tb : Table) → Fin (tcTables nBuf tb) → BufTy
  | .hbm, ⟨i, _⟩ => hbmTy i
  | _, _ => ⟨S11x1024x18944, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_c_1 : Ref sig .tc := ⟨.hbm, 16, rfl⟩
abbrev main_call0_v4 : Ref sig .tc := ⟨.hbm, 17, rfl⟩
abbrev main_call0_c_2 : Ref sig .tc := ⟨.hbm, 18, rfl⟩
abbrev main_call0_v5 : Ref sig .tc := ⟨.hbm, 19, rfl⟩
abbrev main_call0_c_3 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_v4 : Ref sig .tc := ⟨.hbm, 25, rfl⟩
abbrev main_c_0 : Ref sig .tc := ⟨.hbm, 26, rfl⟩
abbrev main_v5 : Ref sig .tc := ⟨.hbm, 27, rfl⟩
abbrev main_c_1 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst_2 : Ref sig .tc := ⟨.hbm, 33, rfl⟩
abbrev main_v10 : Ref sig .tc := ⟨.hbm, 34, rfl⟩
abbrev main_cst_3 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_c_4 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_5 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_6 : Ref sig .tc := ⟨.hbm, 53, rfl⟩
abbrev main_v26 : Ref sig .tc := ⟨.hbm, 54, rfl⟩
abbrev main_v27 : Ref sig .tc := ⟨.hbm, 55, rfl⟩
abbrev main_cst_7 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v28 : Ref sig .tc := ⟨.hbm, 60, rfl⟩
abbrev main_cst_8 : Ref sig .tc := ⟨.hbm, 61, rfl⟩
abbrev main_v29 : Ref sig .tc := ⟨.hbm, 62, rfl⟩
abbrev main_cst_9 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_cst_10 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_cst_11 : Ref sig .tc := ⟨.hbm, 71, rfl⟩
abbrev main_call2_v0 : Ref sig .tc := ⟨.hbm, 72, rfl⟩
abbrev main_call2_v1 : Ref sig .tc := ⟨.hbm, 73, rfl⟩
abbrev main_v36 : Ref sig .tc := ⟨.hbm, 74, rfl⟩
abbrev main_cst_12 : Ref sig .tc := ⟨.hbm, 75, rfl⟩
abbrev main_v37 : Ref sig .tc := ⟨.hbm, 76, rfl⟩
abbrev main_v38 : Ref sig .tc := ⟨.hbm, 77, rfl⟩
abbrev main_cst_13 : Ref sig .tc := ⟨.hbm, 78, rfl⟩
abbrev main_call3_v0 : Ref sig .tc := ⟨.hbm, 79, rfl⟩
abbrev main_call3_v1 : Ref sig .tc := ⟨.hbm, 80, rfl⟩
abbrev main_v39 : Ref sig .tc := ⟨.hbm, 81, rfl⟩
abbrev main_cst_14 : Ref sig .tc := ⟨.hbm, 82, rfl⟩
abbrev main_v40 : Ref sig .tc := ⟨.hbm, 83, rfl⟩
abbrev main_v41 : Ref sig .tc := ⟨.hbm, 84, rfl⟩
abbrev main_cst_15 : Ref sig .tc := ⟨.hbm, 85, rfl⟩
abbrev main_v42 : Ref sig .tc := ⟨.hbm, 86, rfl⟩
abbrev main_v43 : Ref sig .tc := ⟨.hbm, 87, rfl⟩
abbrev main_cst_16 : Ref sig .tc := ⟨.hbm, 88, rfl⟩
abbrev main_v44 : Ref sig .tc := ⟨.hbm, 89, rfl⟩
abbrev main_v45 : Ref sig .tc := ⟨.hbm, 90, rfl⟩
abbrev main_cst_17 : Ref sig .tc := ⟨.hbm, 91, rfl⟩
abbrev main_call4_v0 : Ref sig .tc := ⟨.hbm, 92, rfl⟩
abbrev main_call4_v1 : Ref sig .tc := ⟨.hbm, 93, rfl⟩
abbrev main_v46 : Ref sig .tc := ⟨.hbm, 94, rfl⟩
abbrev main_cst_18 : Ref sig .tc := ⟨.hbm, 95, rfl⟩
abbrev main_call5_v0 : Ref sig .tc := ⟨.hbm, 96, rfl⟩
abbrev main_call5_v1 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_c_19 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_cst_20 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_cst_21 : Ref sig .tc := ⟨.hbm, 117, rfl⟩
abbrev main_v64 : Ref sig .tc := ⟨.hbm, 118, rfl⟩
abbrev main_v65 : Ref sig .tc := ⟨.hbm, 119, rfl⟩
abbrev main_cst_22 : Ref sig .tc := ⟨.hbm, 120, rfl⟩
abbrev main_call6_v0 : Ref sig .tc := ⟨.hbm, 121, rfl⟩
abbrev main_call6_v1 : Ref sig .tc := ⟨.hbm, 122, rfl⟩
abbrev main_call6_v2 : Ref sig .tc := ⟨.hbm, 123, rfl⟩
abbrev main_v66 : Ref sig .tc := ⟨.hbm, 124, rfl⟩
abbrev main_cst_23 : Ref sig .tc := ⟨.hbm, 125, rfl⟩
abbrev main_v67 : Ref sig .tc := ⟨.hbm, 126, rfl⟩
abbrev main_cst_24 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_cst_25 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_cst_26 : Ref sig .tc := ⟨.hbm, 135, rfl⟩
abbrev main_call7_v0 : Ref sig .tc := ⟨.hbm, 136, rfl⟩
abbrev main_call7_v1 : Ref sig .tc := ⟨.hbm, 137, rfl⟩
abbrev main_v74 : Ref sig .tc := ⟨.hbm, 138, rfl⟩
abbrev main_cst_27 : Ref sig .tc := ⟨.hbm, 139, rfl⟩
abbrev main_v75 : Ref sig .tc := ⟨.hbm, 140, rfl⟩
abbrev main_v76 : Ref sig .tc := ⟨.hbm, 141, rfl⟩
abbrev main_cst_28 : Ref sig .tc := ⟨.hbm, 142, rfl⟩
abbrev main_v77 : Ref sig .tc := ⟨.hbm, 143, rfl⟩
abbrev main_v78 : Ref sig .tc := ⟨.hbm, 144, rfl⟩
abbrev main_cst_29 : Ref sig .tc := ⟨.hbm, 145, rfl⟩
abbrev main_v79 : Ref sig .tc := ⟨.hbm, 146, rfl⟩
abbrev main_v80 : Ref sig .tc := ⟨.hbm, 147, rfl⟩
abbrev main_cst_30 : Ref sig .tc := ⟨.hbm, 148, rfl⟩
abbrev main_v81 : Ref sig .tc := ⟨.hbm, 149, rfl⟩
abbrev main_v82 : Ref sig .tc := ⟨.hbm, 150, rfl⟩
abbrev main_cst_31 : Ref sig .tc := ⟨.hbm, 151, rfl⟩
abbrev main_call8_v0 : Ref sig .tc := ⟨.hbm, 152, rfl⟩
abbrev main_call8_v1 : Ref sig .tc := ⟨.hbm, 153, rfl⟩
abbrev main_v83 : Ref sig .tc := ⟨.hbm, 154, rfl⟩
abbrev main_cst_32 : Ref sig .tc := ⟨.hbm, 155, rfl⟩
abbrev main_call9_v0 : Ref sig .tc := ⟨.hbm, 156, rfl⟩
abbrev main_call9_v1 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_cst_33 : Ref sig .tc := ⟨.hbm, 164, rfl⟩
abbrev main_cst_34 : Ref sig .tc := ⟨.hbm, 165, rfl⟩
abbrev main_call10_v0 : Ref sig .tc := ⟨.hbm, 166, rfl⟩
abbrev main_call10_v1 : Ref sig .tc := ⟨.hbm, 167, rfl⟩
abbrev main_call10_v2 : Ref sig .tc := ⟨.hbm, 168, rfl⟩
abbrev main_call10_v3 : Ref sig .tc := ⟨.hbm, 169, rfl⟩
abbrev main_call10_v4 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩

abbrev nD : Nat := 1
abbrev τ : Topo := Topo.v7x

variable {F : FTy → Type} [FloatOps F]
-- ==== Proof.Bits.Runs.lean ====
/- The facts of the grid points and the window schedules that the run of the kernel body is stated with:
   which points each case covers, where each window is idle, where it is written back. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      (Pipeline.RDat.FramePost.arr_in h c 2 rfl).trans ((hA c 2).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 44 = 0 :=
  (fun t => by
    have ht : t.val < 44 := Nat.lt_of_lt_of_eq t.isLt N_0
    have e0 : (grid0.coords t 0).val = t.val / 1 % 44 := Pipeline.Grid.coords_val t 0 (by decide) rfl
    simp only [cond0_0, k0_cond1, e0]
    word_cmp
   : ∀ t : Fin grid0.N, cond0_0 (grid0.coords t) ↔ t.val % 44 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 44 = 43 :=
  (fun t => by
    have ht : t.val < 44 := Nat.lt_of_lt_of_eq t.isLt N_0
    have e0 : (grid0.coords t 0).val = t.val / 1 % 44 := Pipeline.Grid.coords_val t 0 (by decide) rfl
    simp only [cond0_1, k0_cond2, e0]
    word_cmp
   : ∀ t : Fin grid0.N, cond0_1 (grid0.coords t) ↔ t.val % 44 = 43)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x18944 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x18944 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S16x18944 .bf16 := Memref.whole cc0_scratch0
abbrev scM0_1 : Memref sig .tc .vmem S16x18944 .bf16 := Memref.whole cc0_scratch1
abbrev scM0_2 : Memref sig .tc .vmem S1x256 .f32 := Memref.whole cc0_scratch2
/-- The scratch `arg9` the kernel carries between points, as a view: what it holds is stated through it. -/
abbrev VS0_0 : View sig .tc .vmem S16x18944 .bf16 := scM0_0.view
/-- The scratch `arg10` the kernel carries between points, as a view: what it holds is stated through it. -/
abbrev VS0_1 : View sig .tc .vmem S16x18944 .bf16 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Gen

end
-- ==== Proof.Bits.Loop.lean ====
/- The column loop's stores do not depend on what the codes block held before the loop: each trip loads the
   block's slab just before it stores it whole, and never uses the value. -/
module

public import proofs.«01_k».proof.Proof.Gen.Kernel.Loops

@[expose] public section

set_option maxRecDepth 16384

noncomputable section

namespace Cert.Kernel.Gen

open Idealize.ShloMosaic Idealize.ShloMosaic.TcCoe Idealize.ShloMosaic.Tactic
open Idealize.SL Idealize.SL.RA Idealize.SL.BI

variable {F : FTy → Type} [FloatOps F]

section
variable (𝒱 : Variants) (c : Dev nD) (bd : Option 𝒱.V) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (X_arg2 : BufTy.Contents (Elt F) arg2.view.ty) (X_arg9 : BufTy.Contents (Elt F) arg9.view.ty)

/-- One trip stores the same pieces whatever the codes block holds. -/
theorem tripL_k0_t1_base (k : Fin k0_t1_loop.trips) (f g : BufTy.Contents (Elt F) arg5.view.ty) (f10 : BufTy.Contents (Elt F) arg10.view.ty) :
    tripL_k0_t1 (F := F) 𝒱 c bd i arg1 harg1 arg2 harg2 arg3 harg3 arg4 harg4 arg5 harg5 arg6 harg6 arg7 harg7 arg8 harg8 arg9 harg9 arg10 harg10 arg11 harg11 X_arg2 X_arg9 k f f10
      = tripL_k0_t1 (F := F) 𝒱 c bd i arg1 harg1 arg2 harg2 arg3 harg3 arg4 harg4 arg5 harg5 arg6 harg6 arg7 harg7 arg8 harg8 arg9 harg9 arg10 harg10 arg11 harg11 X_arg2 X_arg9 k g f10 := by
  unfold tripL_k0_t1 trip_k0_t1
  rfl

/-- The pieces of the trips before `n` are the same whatever the codes block held at the loop's entry. -/
theorem pb_k0_t1_base (G_arg5 : BufTy.Contents (Elt F) arg5.view.ty) (G_arg10 : BufTy.Contents (Elt F) arg10.view.ty) (n : ℕ) :
    pb_k0_t1 (F := F) 𝒱 c bd i arg1 harg1 arg2 harg2 arg3 harg3 arg4 harg4 arg5 harg5 arg6 harg6 arg7 harg7 arg8 harg8 arg9 harg9 arg10 harg10 arg11 harg11 X_arg2 X_arg9 G_arg5 G_arg10 n
      = pb_k0_t1 (F := F) 𝒱 c bd i arg1 harg1 arg2 harg2 arg3 harg3 arg4 harg4 arg5 harg5 arg6 harg6 arg7 harg7 arg8 harg8 arg9 harg9 arg10 harg10 arg11 harg11 X_arg2 X_arg9 arg5.view.junk G_arg10 n := by
  induction n with
  | zero => rfl
  | succ n ih =>
    rw [pb_k0_t1.eq_2, pb_k0_t1.eq_2, ← ih]
    unfold pb_k0_t1Step
    by_cases h : n < k0_t1_loop.trips
    · rw [dif_pos h, dif_pos h, tripL_k0_t1_base (g := arg5.view.writes (Elt F) arg5.view.junk _)]
    · rw [dif_neg h, dif_neg h]

end

end Cert.Kernel.Gen

end
-- ==== Proof.Bits.RunA.lean ====
/- The run of the kernel body at the first grid point (case A): the scale is spread over the columns, the
   accumulator cleared, the history reduced, and then the column loop runs. -/
module

public import proofs.«01_k».proof.Proof.Bits.Runs
public import proofs.«01_k».proof.Proof.Bits.Loop

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2196000 in
/-- What the body's stores leave in each output's staging memref, as pieces (last first) IN CASE A (`scf.if` 0 taken, `scf.if` 1 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4, 5, 6, 7) at anything, handed back at some contents nothing names. -/
noncomputable def kernelRun0_A (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : cond0_0 i) (hc1 : ¬cond0_1 i)
    (x0 : Vec F S1 .i32) (x1 : Vec F S256x18944 .bf16) (x2 : Vec F S256x1024 .f32) (x3 : Vec F S1x256 .f32) :
    Σ' (LS0 : List (View.Piece (Elt F) S16x18944 .bf16)), { LS1 : List (View.Piece (Elt F) S16x18944 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ d, owns (c : Thread nD τ) arg11 fullShare d)) -∗ K ⟨⟩))
          ⊢ wp frame (wpE (defs₀ (F := F)) Variants.none c none) E (cc0_delayed_scaling i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_delayed_scaling_eq_skeleton]; unfold cc0_delayed_scaling_skel
    simp only [k0_part30_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    rw [pb_k0_t1_base (G_arg5 := f4)]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]; · iexists _; iexact HS0
    isplitl [HS1]; · iexists _; iexact HS1
    iexists _, _; isplitr; swap; · iexact HS2
    ipureintro; rfl

end Cert.Kernel.Gen

end
-- ==== Proof.Bits.RunB.lean ====
/- The run of the kernel body at the grid points in the middle (case B): the column loop alone. -/
module

public import proofs.«01_k».proof.Proof.Bits.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 42: 42 of 44), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4, 5, 6, 7) at anything, handed back at some contents nothing names. -/
noncomputable def kernelRun0_B (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : ¬cond0_0 i) (hc1 : ¬cond0_1 i)
    (x0 : Vec F S1 .i32) (x1 : Vec F S256x18944 .bf16) (x2 : Vec F S256x1024 .f32) (x3 : Vec F S1x256 .f32) (xs0 : Vec F S16x18944 .bf16) (xs1 : Vec F S16x18944 .bf16) :
    Σ' (LS0 : List (View.Piece (Elt F) S16x18944 .bf16)), { LS1 : List (View.Piece (Elt F) S16x18944 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ (∃ f, arg10.view.loc (c : Thread nD τ) ↦[arg10.view.set]{fullShare} arg10.view.writes (Elt F) f LS1) ∗ (∃ d, owns (c : Thread nD τ) arg11 fullShare d)) -∗ K ⟨⟩))
          ⊢ wp frame (wpE (defs₀ (F := F)) Variants.none c none) E (cc0_delayed_scaling i arg1 harg1 arg2 harg2 arg3 harg3 arg4 harg4 arg5 harg5 arg6 harg6 arg7 harg7 arg8 harg8 arg9 harg9 arg10 harg10 arg11 harg11) K } := by
  refine ⟨[], ?_, fun E K => ?run⟩
  case run =>
    simp only [cc0_delayed_scaling_eq_skeleton]; unfold cc0_delayed_scaling_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%fs0, %hfs0, HS0⟩, ⟨%fs1, %hfs1, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg9.eq_unread hfs0; obtain rfl := harg10.eq_unread hfs1
    sl_exec (disch := first | sl_exact hc0 | sl_exact hc1)
    sl_step
    rw [pb_k0_t1_base (G_arg5 := f4)]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _; isplitr; · ipureintro; exact harg9.read_unread _
      iexact HS0
    isplitl [HS1]; · iexists _; iexact HS1
    iexists _, _; isplitr; swap; · iexact HS2
    ipureintro; rfl

end Cert.Kernel.Gen

end
-- ==== Proof.Bits.RunC.lean ====
/- The run of the kernel body at the last grid point (case C): the column loop, and then the accumulator is
   reduced to the absolute maxima and the new scales. -/
module

public import proofs.«01_k».proof.Proof.Bits.RunB

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1516000 in
/-- What the body's stores leave in each output's staging memref, as pieces (last first) IN CASE C (`scf.if` 0 not taken, `scf.if` 1 taken: points 43), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4, 5, 6, 7) at anything, handed back at some contents nothing names. -/
noncomputable def kernelRun0_C (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : ¬cond0_0 i) (hc1 : cond0_1 i)
    (x0 : Vec F S1 .i32) (x1 : Vec F S256x18944 .bf16) (x2 : Vec F S256x1024 .f32) (x3 : Vec F S1x256 .f32) (xs0 : Vec F S16x18944 .bf16) (xs1 : Vec F S16x18944 .bf16) :
    Σ' (LS0 : List (View.Piece (Elt F) S16x18944 .bf16)), { LS1 : List (View.Piece (Elt F) S16x18944 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ (∃ f, arg10.view.loc (c : Thread nD τ) ↦[arg10.view.set]{fullShare} arg10.view.writes (Elt F) f LS1) ∗ (∃ d, owns (c : Thread nD τ) arg11 fullShare d)) -∗ K ⟨⟩))
          ⊢ wp frame (wpE (defs₀ (F := F)) Variants.none c none) E (cc0_delayed_scaling i arg1 harg1 arg2 harg2 arg3 harg3 arg4 harg4 arg5 harg5 arg6 harg6 arg7 harg7 arg8 harg8 arg9 harg9 arg10 harg10 arg11 harg11) K } := by
  refine ⟨[], ?_, fun E K => ?run⟩
  case run =>
    simp only [cc0_delayed_scaling_eq_skeleton]; unfold cc0_delayed_scaling_skel
    simp only [k0_part57_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%fs0, %hfs0, HS0⟩, ⟨%fs1, %hfs1, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg9.eq_unread hfs0; obtain rfl := harg10.eq_unread hfs1
    sl_exec (disch := first | sl_exact hc0 | sl_exact hc1)
    sl_step
    rw [pb_k0_t1_base (G_arg5 := f4)]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _; isplitr; · ipureintro; exact harg9.read_unread _
      iexact HS0
    isplitl [HS1]; · iexists _; iexact HS1
    iexists _, _; isplitr; swap; · iexact HS2
    ipureintro; rfl

end Cert.Kernel.Gen

end
-- ==== Proof.Bits.Frame.lean ====
/- The body obligation of the pipelined call at every grid point, and from it the frame of the program. -/
module

public import proofs.«01_k».proof.Proof.Bits.RunC
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg9`, which the kernel carries between points, cover it: 148 pieces of `S16x128` tiling it (Lib/Ring.lean `Piece.tiledL`). -/
theorem scover0_A_0 (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : cond0_0 i) (hc1 : ¬cond0_1 i)
    (x0 : Vec F S1 .i32) (x1 : Vec F S256x18944 .bf16) (x2 : Vec F S256x1024 .f32) (x3 : Vec F S1x256 .f32) (y : S16x18944.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3).1 S16x128.size (by sl_kernel_rfl) y

/-- What case A leaves in scratch `arg9`: its pieces read back over junk. -/
def sout0_A_0 (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : cond0_0 i) (hc1 : ¬cond0_1 i)
    (x0 : Vec F S1 .i32) (x1 : Vec F S256x18944 .bf16) (x2 : Vec F S256x1024 .f32) (x3 : Vec F S1x256 .f32) : Vec F S16x18944 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 hc1 x0 x1 x2 x3).1)

/-- Case A's pieces for scratch `arg10`, which the kernel carries between points, cover it: one of them a store of the WHOLE buffer (Lib/Ring.lean `sl_whole_mem`). -/
theorem scover0_A_1 (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : cond0_0 i) (hc1 : ¬cond0_1 i)
    (x0 : Vec F S1 .i32) (x1 : Vec F S256x18944 .bf16) (x2 : Vec F S256x1024 .f32) (x3 : Vec F S1x256 .f32) (y : S16x18944.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3).2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 hc0 hc1 x0 x1 x2 x3).2.1 (by sl_whole_mem) y

/-- What case A leaves in scratch `arg10`: its pieces read back over junk. -/
def sout0_A_1 (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : cond0_0 i) (hc1 : ¬cond0_1 i)
    (x0 : Vec F S1 .i32) (x1 : Vec F S256x18944 .bf16) (x2 : Vec F S256x1024 .f32) (x3 : Vec F S1x256 .f32) : Vec F S16x18944 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 hc0 hc1 x0 x1 x2 x3).2.1)

/-- Case B stores nothing into scratch `arg9`: it holds what the point before left. -/
def sout0_B_0 (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : ¬cond0_0 i) (hc1 : ¬cond0_1 i)
    (x0 : Vec F S1 .i32) (x1 : Vec F S256x18944 .bf16) (x2 : Vec F S256x1024 .f32) (x3 : Vec F S1x256 .f32) (xs0 : Vec F S16x18944 .bf16) (xs1 : Vec F S16x18944 .bf16) : Vec F S16x18944 .bf16 := xs0

/-- Case B's pieces for scratch `arg10`, which the kernel carries between points, cover it: 74 pieces of `S16x256` tiling it (Lib/Ring.lean `Piece.tiledL`). -/
theorem scover0_B_1 (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : ¬cond0_0 i) (hc1 : ¬cond0_1 i)
    (x0 : Vec F S1 .i32) (x1 : Vec F S256x18944 .bf16) (x2 : Vec F S256x1024 .f32) (x3 : Vec F S1x256 .f32) (xs0 : Vec F S16x18944 .bf16) (xs1 : Vec F S16x18944 .bf16) (y : S16x18944.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 xs0 xs1).2.1 S16x256.size (by sl_kernel_rfl) y

/-- What case B leaves in scratch `arg10`: its pieces read back over junk. -/
def sout0_B_1 (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : ¬cond0_0 i) (hc1 : ¬cond0_1 i)
    (x0 : Vec F S1 .i32) (x1 : Vec F S256x18944 .bf16) (x2 : Vec F S256x1024 .f32) (x3 : Vec F S1x256 .f32) (xs0 : Vec F S16x18944 .bf16) (xs1 : Vec F S16x18944 .bf16) : Vec F S16x18944 .bf16 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 hc0 hc1 x0 x1 x2 x3 xs0 xs1).2.1)

/-- Case C stores nothing into scratch `arg9`: it holds what the point before left. -/
def sout0_C_0 (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : ¬cond0_0 i) (hc1 : cond0_1 i)
    (x0 : Vec F S1 .i32) (x1 : Vec F S256x18944 .bf16) (x2 : Vec F S256x1024 .f32) (x3 : Vec F S1x256 .f32) (xs0 : Vec F S16x18944 .bf16) (xs1 : Vec F S16x18944 .bf16) : Vec F S16x18944 .bf16 := xs0

/-- Case C's pieces for scratch `arg10`, which the kernel carries between points, cover it: 74 pieces of `S16x256` tiling it (Lib/Ring.lean `Piece.tiledL`). -/
theorem scover0_C_1 (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : ¬cond0_0 i) (hc1 : cond0_1 i)
    (x0 : Vec F S1 .i32) (x1 : Vec F S256x18944 .bf16) (x2 : Vec F S256x1024 .f32) (x3 : Vec F S1x256 .f32) (xs0 : Vec F S16x18944 .bf16) (xs1 : Vec F S16x18944 .bf16) (y : S16x18944.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 xs0 xs1).2.1 S16x256.size (by sl_kernel_rfl) y

/-- What case C leaves in scratch `arg10`: its pieces read back over junk. -/
def sout0_C_1 (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : ¬cond0_0 i) (hc1 : cond0_1 i)
    (x0 : Vec F S1 .i32) (x1 : Vec F S256x18944 .bf16) (x2 : Vec F S256x1024 .f32) (x3 : Vec F S1x256 .f32) (xs0 : Vec F S16x18944 .bf16) (xs1 : Vec F S16x18944 .bf16) : Vec F S16x18944 .bf16 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 hc0 hc1 x0 x1 x2 x3 xs0 xs1).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S16x18944 .bf16 × Vec F S16x18944 .bf16
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 44 = 0 then
      if h1 : (n + 1) % 44 = 43 then
        False.elim (by have hN : n + 1 < 44 := lt_of_lt_of_eq hn (show cfg0.N = 44 from N_0); omega)
      else
        (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 44 = 43 then
        (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2)
      else
        (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2)

/-- `outsAt0` at a point of case A: that case's contents. -/
theorem outsAt0_A (c : Dev nD) (t : Fin cfg0.N) (h0 : t.val % 44 = 0) (h1 : ¬t.val % 44 = 43) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 44 = 0) (h1 : ¬t.val % 44 = 43) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 44 = 0) (h1 : t.val % 44 = 43) :
    outsAt0 m c t.val t.isLt = (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ owns (c : Thread nD τ) scM0_1 fullShare ((outsAt0 m c n hn).2) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ owns (c : Thread nD τ) scM0_1 fullShare ((outsAt0 m c n hn).2) ∗ (∃ d, owns (c : Thread nD τ) scM0_2 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ owns (c : Thread nD τ) scM0_1 fullShare ((outsAt0 m c (n - 1) (by omega)).2) ∗ (∃ d, owns (c : Thread nD τ) scM0_2 fullShare d)) ∗ (∃ r, prngReg c r)) := by
  cases n with
  | zero => exact absurd rfl hz
  | succ n => rfl

/-! ## The pipeline's proof data -/

/-- The output windows this certificate FORGETS (4, 5, 6, 7): nothing reads what the kernel leaves in them, so nothing
    of it is named (Lib/Pipeline/Dat.lean `Dat.toRForget`). -/
def forgets0 : Fin 8 → Bool := fun w => w.val == 4 || w.val == 5 || w.val == 6 || w.val == 7

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 44 := lt_of_lt_of_eq t.isLt (show cfg0.N = 44 from N_0)
  by_cases h0 : t.val % 44 = 0
  · by_cases h1 : t.val % 44 = 43
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      by_cases hz : t.val = 0
      · rw [PhiS_castSucc m c t, PhiS_zero m c _ _ hz, PhiA0_eq]
        rw [outsAt0_A m c t h0 h1]
        unfold sout0_A_0 sout0_A_1; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t)).2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexists _; iexact H7
        isplitl [HS0]; · iexact HS0
        isplitl [HS1]; · iexact HS1
        isplitl [HS2]; · iexact HS2
        iintro ⟨H0, H1, H2, H3, H4, H5, H6, H7, ⟨%es0, HS0⟩, ⟨%es1, HS1⟩, HS2⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _)
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      · exfalso; have hN : t.val < 44 := lt_of_lt_of_eq t.isLt (show cfg0.N = 44 from N_0); omega
  · by_cases h1 : t.val % 44 = 43
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      by_cases hz : t.val = 0
      · exfalso; have hN : t.val < 44 := lt_of_lt_of_eq t.isLt (show cfg0.N = 44 from N_0); omega
      · rw [PhiS_castSucc m c t, PhiS_pos m c _ _ hz]
        rw [outsAt0_C m c t h0 h1]
        unfold sout0_C_0 sout0_C_1; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) _ _).2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexists _; iexact H7
        isplitl [HS0]; · iexact HS0
        isplitl [HS1]; · iexact HS1
        isplitl [HS2]; · iexact HS2
        iintro ⟨H0, H1, H2, H3, H4, H5, H6, H7, HS0, ⟨%es1, HS1⟩, HS2⟩
        isplitl [HS0 HS1 HS2 Hg]
        · isplitl [HS0 HS1 HS2]
          · isplitl [HS0]
            · iexact HS0
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _)
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      by_cases hz : t.val = 0
      · exfalso; have hN : t.val < 44 := lt_of_lt_of_eq t.isLt (show cfg0.N = 44 from N_0); omega
      · rw [PhiS_castSucc m c t, PhiS_pos m c _ _ hz]
        rw [outsAt0_B m c t h0 h1]
        unfold sout0_B_0 sout0_B_1; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _).2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexists _; iexact H7
        isplitl [HS0]; · iexact HS0
        isplitl [HS1]; · iexact HS1
        isplitl [HS2]; · iexact HS2
        iintro ⟨H0, H1, H2, H3, H4, H5, H6, H7, HS0, ⟨%es1, HS1⟩, HS2⟩
        isplitl [HS0 HS1 HS2 Hg]
        · isplitl [HS0 HS1 HS2]
          · isplitl [HS0]
            · iexact HS0
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _)
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 44 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 4, 5, 6, 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Gen

end
-- ==== Proof.Ideal.Trips.lean ====
/- One trip of the column loop: its run, the pieces it stores into the codes block and into the running maximum,
   and the pieces of the trips before a given one. -/
module

public import proofs.«01_k».proof.Proof.Gen.KernelIdeal.Loops

@[expose] public section

set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (UR sig nD τ) ℕ
/-! ### `k0_t1_loop`: the generated invariant (classifier: affine) -/

/-- One trip's resources: what the region reads (arg2, arg9) at its contents, what it writes (arg5,
   arg10) at any. -/
abbrev Trip_k0_t1 (c : Dev nD) (arg2 : Memref sig .tc .vmem S256x18944 .bf16) (arg9 : Memref sig .tc .vmem S16x18944 .bf16) (arg5 : Memref sig .tc .vmem S256x18944 .fp8e4m3) (arg10 : Memref sig .tc .vmem S16x18944 .bf16) (X_arg2 : BufTy.Contents (Elt F) arg2.view.ty) (X_arg9 : BufTy.Contents (Elt F) arg9.view.ty) (f_arg5 : BufTy.Contents (Elt F) arg5.view.ty) (f_arg10 : BufTy.Contents (Elt F) arg10.view.ty) : sProp 𝕄G :=
  iprop((arg2.view.loc (c : Thread nD τ) ↦[arg2.view.set]{fullShare} X_arg2) ∗ (arg9.view.loc (c : Thread nD τ) ↦[arg9.view.set]{fullShare} X_arg9) ∗ (arg5.view.loc (c : Thread nD τ) ↦[arg5.view.set]{fullShare} f_arg5) ∗ (arg10.view.loc (c : Thread nD τ) ↦[arg10.view.set]{fullShare} f_arg10))

/-- ONE TRIP of `k0_t1_loop` at a symbolic `k`, run by `sl_exec` (its rectangles' offsets closed
   forms of `k`, their geometry linear arithmetic): the pieces it writes into arg5, arg10 are the
   run's own finds — the witnesses `sl_close` assigns handing the buffers to the continuation, as
   functions of the contents the trip finds in the memrefs it writes (the region loads some of them
   back). `@[irreducible]`: cited, never unfolded. -/
@[irreducible] def trip_k0_t1 (𝒱 : Variants) (c : Dev nD) (bd : Option 𝒱.V) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (X_arg2 : BufTy.Contents (Elt F) arg2.view.ty) (X_arg9 : BufTy.Contents (Elt F) arg9.view.ty) (k : Fin k0_t1_loop.trips) :
    Σ' (L_arg5 : (BufTy.Contents (Elt F) arg5.view.ty → BufTy.Contents (Elt F) arg10.view.ty → List (View.Piece (Elt F) S256x18944 .fp8e4m3))) , { L_arg10 : (BufTy.Contents (Elt F) arg5.view.ty → BufTy.Contents (Elt F) arg10.view.ty → List (View.Piece (Elt F) S16x18944 .bf16)) // ∀ (E : Set ℕ) (f_arg5 : BufTy.Contents (Elt F) arg5.view.ty) (f_arg10 : BufTy.Contents (Elt F) arg10.view.ty),
      Trip_k0_t1 (F := F) c arg2 arg9 arg5 arg10 X_arg2 X_arg9 f_arg5 f_arg10
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 k PUnit.unit)
          (fun _ => Trip_k0_t1 (F := F) c arg2 arg9 arg5 arg10 X_arg2 X_arg9 (arg5.view.writes (Elt F) f_arg5 (L_arg5 f_arg5 f_arg10)) (arg10.view.writes (Elt F) f_arg10 (L_arg10 f_arg5 f_arg10))) } := by
  have hk : k.val < 74 := Nat.lt_of_lt_of_le k.isLt k0_t1_abs.2.1
  refine ⟨?_, ?_, fun E f_arg5 f_arg10 => ?run⟩
  case run =>
    unfold k0_t1_body
    iintro ⟨HR_arg2, HR_arg9, HW_arg5, HW_arg10⟩
    sl_exec
    sl_step
    sl_close

/-- The trip's piece lists (plain projections of `trip_…`, for the recursion below to cite without
   its proof), at the contents the trip finds in the written memrefs. -/
abbrev tripL_k0_t1 (𝒱 : Variants) (c : Dev nD) (bd : Option 𝒱.V) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (X_arg2 : BufTy.Contents (Elt F) arg2.view.ty) (X_arg9 : BufTy.Contents (Elt F) arg9.view.ty) (k : Fin k0_t1_loop.trips) (f_arg5 : BufTy.Contents (Elt F) arg5.view.ty) (f_arg10 : BufTy.Contents (Elt F) arg10.view.ty) : List (View.Piece (Elt F) S256x18944 .fp8e4m3) × List (View.Piece (Elt F) S16x18944 .bf16) :=
  ((trip_k0_t1 (F := F) 𝒱 c bd i arg1 harg1 arg2 harg2 arg3 harg3 arg4 harg4 arg5 harg5 arg6 harg6 arg7 harg7 arg8 harg8 arg9 harg9 arg10 harg10 arg11 harg11 X_arg2 X_arg9 k).1 f_arg5 f_arg10, (trip_k0_t1 (F := F) 𝒱 c bd i arg1 harg1 arg2 harg2 arg3 harg3 arg4 harg4 arg5 harg5 arg6 harg6 arg7 harg7 arg8 harg8 arg9 harg9 arg10 harg10 arg11 harg11 X_arg2 X_arg9 k).2.1 f_arg5 f_arg10)

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (X_arg2 : BufTy.Contents (Elt F) arg2.view.ty) (X_arg9 : BufTy.Contents (Elt F) arg9.view.ty) (G_arg5 : BufTy.Contents (Elt F) arg5.view.ty) (G_arg10 : BufTy.Contents (Elt F) arg10.view.ty) (k : ℕ) (prev : List (View.Piece (Elt F) S256x18944 .fp8e4m3) × List (View.Piece (Elt F) S16x18944 .bf16)) : List (View.Piece (Elt F) S256x18944 .fp8e4m3) × List (View.Piece (Elt F) S16x18944 .bf16) :=
  if h : k < k0_t1_loop.trips then
    ((tripL_k0_t1 (F := F) 𝒱 c bd i arg1 harg1 arg2 harg2 arg3 harg3 arg4 harg4 arg5 harg5 arg6 harg6 arg7 harg7 arg8 harg8 arg9 harg9 arg10 harg10 arg11 harg11 X_arg2 X_arg9 ⟨k, h⟩ (arg5.view.writes (Elt F) G_arg5 prev.1) (arg10.view.writes (Elt F) G_arg10 prev.2)).1 ++ prev.1, (tripL_k0_t1 (F := F) 𝒱 c bd i arg1 harg1 arg2 harg2 arg3 harg3 arg4 harg4 arg5 harg5 arg6 harg6 arg7 harg7 arg8 harg8 arg9 harg9 arg10 harg10 arg11 harg11 X_arg2 X_arg9 ⟨k, h⟩ (arg5.view.writes (Elt F) G_arg5 prev.1) (arg10.view.writes (Elt F) G_arg10 prev.2)).2 ++ prev.2)
  else prev

/-- The pieces of the trips before `k` (last first), per written memref, starting from the contents
   `G_·` at loop entry; each trip's pieces taken at the contents the earlier trips left. -/
def pb_k0_t1 (𝒱 : Variants) (c : Dev nD) (bd : Option 𝒱.V) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (X_arg2 : BufTy.Contents (Elt F) arg2.view.ty) (X_arg9 : BufTy.Contents (Elt F) arg9.view.ty) (G_arg5 : BufTy.Contents (Elt F) arg5.view.ty) (G_arg10 : BufTy.Contents (Elt F) arg10.view.ty) : ℕ → List (View.Piece (Elt F) S256x18944 .fp8e4m3) × List (View.Piece (Elt F) S16x18944 .bf16)
  | 0 => ([], [])
  | k + 1 => pb_k0_t1Step 𝒱 c bd i arg1 harg1 arg2 harg2 arg3 harg3 arg4 harg4 arg5 harg5 arg6 harg6 arg7 harg7 arg8 harg8 arg9 harg9 arg10 harg10 arg11 harg11 X_arg2 X_arg9 G_arg5 G_arg10 k (pb_k0_t1 𝒱 c bd i arg1 harg1 arg2 harg2 arg3 harg3 arg4 harg4 arg5 harg5 arg6 harg6 arg7 harg7 arg8 harg8 arg9 harg9 arg10 harg10 arg11 harg11 X_arg2 X_arg9 G_arg5 G_arg10 k)

theorem pb_k0_t1_succ (𝒱 : Variants) (c : Dev nD) (bd : Option 𝒱.V) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (X_arg2 : BufTy.Contents (Elt F) arg2.view.ty) (X_arg9 : BufTy.Contents (Elt F) arg9.view.ty) (G_arg5 : BufTy.Contents (Elt F) arg5.view.ty) (G_arg10 : BufTy.Contents (Elt F) arg10.view.ty) (k : Fin k0_t1_loop.trips) :
    pb_k0_t1 (F := F) 𝒱 c bd i arg1 harg1 arg2 harg2 arg3 harg3 arg4 harg4 arg5 harg5 arg6 harg6 arg7 harg7 arg8 harg8 arg9 harg9 arg10 harg10 arg11 harg11 X_arg2 X_arg9 G_arg5 G_arg10 (k.val + 1)
      = ((tripL_k0_t1 (F := F) 𝒱 c bd i arg1 harg1 arg2 harg2 arg3 harg3 arg4 harg4 arg5 harg5 arg6 harg6 arg7 harg7 arg8 harg8 arg9 harg9 arg10 harg10 arg11 harg11 X_arg2 X_arg9 k (arg5.view.writes (Elt F) G_arg5 (pb_k0_t1 (F := F) 𝒱 c bd i arg1 harg1 arg2 harg2 arg3 harg3 arg4 harg4 arg5 harg5 arg6 harg6 arg7 harg7 arg8 harg8 arg9 harg9 arg10 harg10 arg11 harg11 X_arg2 X_arg9 G_arg5 G_arg10 k.val).1) (arg10.view.writes (Elt F) G_arg10 (pb_k0_t1 (F := F) 𝒱 c bd i arg1 harg1 arg2 harg2 arg3 harg3 arg4 harg4 arg5 harg5 arg6 harg6 arg7 harg7 arg8 harg8 arg9 harg9 arg10 harg10 arg11 harg11 X_arg2 X_arg9 G_arg5 G_arg10 k.val).2)).1 ++ (pb_k0_t1 (F := F) 𝒱 c bd i arg1 harg1 arg2 harg2 arg3 harg3 arg4 harg4 arg5 harg5 arg6 harg6 arg7 harg7 arg8 harg8 arg9 harg9 arg10 harg10 arg11 harg11 X_arg2 X_arg9 G_arg5 G_arg10 k.val).1, (tripL_k0_t1 (F := F) 𝒱 c bd i arg1 harg1 arg2 harg2 arg3 harg3 arg4 harg4 arg5 harg5 arg6 harg6 arg7 harg7 arg8 harg8 arg9 harg9 arg10 harg10 arg11 harg11 X_arg2 X_arg9 k (arg5.view.writes (Elt F) G_arg5 (pb_k0_t1 (F := F) 𝒱 c bd i arg1 harg1 arg2 harg2 arg3 harg3 arg4 harg4 arg5 harg5 arg6 harg6 arg7 harg7 arg8 harg8 arg9 harg9 arg10 harg10 arg11 harg11 X_arg2 X_arg9 G_arg5 G_arg10 k.val).1) (arg10.view.writes (Elt F) G_arg10 (pb_k0_t1 (F := F) 𝒱 c bd i arg1 harg1 arg2 harg2 arg3 harg3 arg4 harg4 arg5 harg5 arg6 harg6 arg7 harg7 arg8 harg8 arg9 harg9 arg10 harg10 arg11 harg11 X_arg2 X_arg9 G_arg5 G_arg10 k.val).2)).2 ++ (pb_k0_t1 (F := F) 𝒱 c bd i arg1 harg1 arg2 harg2 arg3 harg3 arg4 harg4 arg5 harg5 arg6 harg6 arg7 harg7 arg8 harg8 arg9 harg9 arg10 harg10 arg11 harg11 X_arg2 X_arg9 G_arg5 G_arg10 k.val).2) := by
  rw [pb_k0_t1.eq_2]; unfold pb_k0_t1Step; exact dif_pos k.isLt

end Cert.KernelIdeal.Gen

end
-- ==== Proof.Ideal.Loop.lean ====
/- The column loop's stores do not depend on what the codes block held before the loop: each trip loads the
   block's slab just before it stores it whole, and never uses the value. -/
module

public import proofs.«01_k».proof.Proof.Ideal.Trips

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section
variable (𝒱 : Variants) (c : Dev nD) (bd : Option 𝒱.V) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (X_arg2 : BufTy.Contents (Elt F) arg2.view.ty) (X_arg9 : BufTy.Contents (Elt F) arg9.view.ty)

/-- One trip stores the same pieces whatever the codes block holds. -/
theorem tripL_k0_t1_base (k : Fin k0_t1_loop.trips) (f g : BufTy.Contents (Elt F) arg5.view.ty) (f10 : BufTy.Contents (Elt F) arg10.view.ty) :
    tripL_k0_t1 (F := F) 𝒱 c bd i arg1 harg1 arg2 harg2 arg3 harg3 arg4 harg4 arg5 harg5 arg6 harg6 arg7 harg7 arg8 harg8 arg9 harg9 arg10 harg10 arg11 harg11 X_arg2 X_arg9 k f f10
      = tripL_k0_t1 (F := F) 𝒱 c bd i arg1 harg1 arg2 harg2 arg3 harg3 arg4 harg4 arg5 harg5 arg6 harg6 arg7 harg7 arg8 harg8 arg9 harg9 arg10 harg10 arg11 harg11 X_arg2 X_arg9 k g f10 := by
  unfold tripL_k0_t1 trip_k0_t1
  rfl

/-- The pieces of the trips before `n` are the same whatever the codes block held at the loop's entry. -/
theorem pb_k0_t1_base (G_arg5 : BufTy.Contents (Elt F) arg5.view.ty) (G_arg10 : BufTy.Contents (Elt F) arg10.view.ty) (n : ℕ) :
    pb_k0_t1 (F := F) 𝒱 c bd i arg1 harg1 arg2 harg2 arg3 harg3 arg4 harg4 arg5 harg5 arg6 harg6 arg7 harg7 arg8 harg8 arg9 harg9 arg10 harg10 arg11 harg11 X_arg2 X_arg9 G_arg5 G_arg10 n
      = pb_k0_t1 (F := F) 𝒱 c bd i arg1 harg1 arg2 harg2 arg3 harg3 arg4 harg4 arg5 harg5 arg6 harg6 arg7 harg7 arg8 harg8 arg9 harg9 arg10 harg10 arg11 harg11 X_arg2 X_arg9 arg5.view.junk G_arg10 n := by
  induction n with
  | zero => rfl
  | succ n ih =>
    rw [pb_k0_t1.eq_2, pb_k0_t1.eq_2, ← ih]
    unfold pb_k0_t1Step
    by_cases h : n < k0_t1_loop.trips
    · rw [dif_pos h, dif_pos h, tripL_k0_t1_base (g := arg5.view.writes (Elt F) arg5.view.junk _)]
    · rw [dif_neg h, dif_neg h]

/-- The pieces of the trips before `k + 1`, over the pieces before `k`, named without the contents of the codes block. -/
theorem pb_k0_t1_succ_junk (G_arg5 : BufTy.Contents (Elt F) arg5.view.ty) (G_arg10 : BufTy.Contents (Elt F) arg10.view.ty) (k : Fin k0_t1_loop.trips) :
    pb_k0_t1 (F := F) 𝒱 c bd i arg1 harg1 arg2 harg2 arg3 harg3 arg4 harg4 arg5 harg5 arg6 harg6 arg7 harg7 arg8 harg8 arg9 harg9 arg10 harg10 arg11 harg11 X_arg2 X_arg9 arg5.view.junk G_arg10 (k.val + 1)
      = ((tripL_k0_t1 (F := F) 𝒱 c bd i arg1 harg1 arg2 harg2 arg3 harg3 arg4 harg4 arg5 harg5 arg6 harg6 arg7 harg7 arg8 harg8 arg9 harg9 arg10 harg10 arg11 harg11 X_arg2 X_arg9 k (arg5.view.writes (Elt F) G_arg5 (pb_k0_t1 (F := F) 𝒱 c bd i arg1 harg1 arg2 harg2 arg3 harg3 arg4 harg4 arg5 harg5 arg6 harg6 arg7 harg7 arg8 harg8 arg9 harg9 arg10 harg10 arg11 harg11 X_arg2 X_arg9 arg5.view.junk G_arg10 k.val).1) (arg10.view.writes (Elt F) G_arg10 (pb_k0_t1 (F := F) 𝒱 c bd i arg1 harg1 arg2 harg2 arg3 harg3 arg4 harg4 arg5 harg5 arg6 harg6 arg7 harg7 arg8 harg8 arg9 harg9 arg10 harg10 arg11 harg11 X_arg2 X_arg9 arg5.view.junk G_arg10 k.val).2)).1 ++ (pb_k0_t1 (F := F) 𝒱 c bd i arg1 harg1 arg2 harg2 arg3 harg3 arg4 harg4 arg5 harg5 arg6 harg6 arg7 harg7 arg8 harg8 arg9 harg9 arg10 harg10 arg11 harg11 X_arg2 X_arg9 arg5.view.junk G_arg10 k.val).1,
        (tripL_k0_t1 (F := F) 𝒱 c bd i arg1 harg1 arg2 harg2 arg3 harg3 arg4 harg4 arg5 harg5 arg6 harg6 arg7 harg7 arg8 harg8 arg9 harg9 arg10 harg10 arg11 harg11 X_arg2 X_arg9 k (arg5.view.writes (Elt F) G_arg5 (pb_k0_t1 (F := F) 𝒱 c bd i arg1 harg1 arg2 harg2 arg3 harg3 arg4 harg4 arg5 harg5 arg6 harg6 arg7 harg7 arg8 harg8 arg9 harg9 arg10 harg10 arg11 harg11 X_arg2 X_arg9 arg5.view.junk G_arg10 k.val).1) (arg10.view.writes (Elt F) G_arg10 (pb_k0_t1 (F := F) 𝒱 c bd i arg1 harg1 arg2 harg2 arg3 harg3 arg4 harg4 arg5 harg5 arg6 harg6 arg7 harg7 arg8 harg8 arg9 harg9 arg10 harg10 arg11 harg11 X_arg2 X_arg9 arg5.view.junk G_arg10 k.val).2)).2 ++ (pb_k0_t1 (F := F) 𝒱 c bd i arg1 harg1 arg2 harg2 arg3 harg3 arg4 harg4 arg5 harg5 arg6 harg6 arg7 harg7 arg8 harg8 arg9 harg9 arg10 harg10 arg11 harg11 X_arg2 X_arg9 arg5.view.junk G_arg10 k.val).2) := by
  rw [pb_k0_t1_succ, tripL_k0_t1_base (g := arg5.view.writes (Elt F) G_arg5 (pb_k0_t1 (F := F) 𝒱 c bd i arg1 harg1 arg2 harg2 arg3 harg3 arg4 harg4 arg5 harg5 arg6 harg6 arg7 harg7 arg8 harg8 arg9 harg9 arg10 harg10 arg11 harg11 X_arg2 X_arg9 arg5.view.junk G_arg10 k.val).1)]

end

local notation "𝕄G" => MT nD τ sig Unit (Elt F) ℕ (UR sig nD τ) ℕ

/-- The loop's invariant, its pieces named without the contents the codes block held before the loop. -/
abbrev inv_k0_t1_junk (𝒱 : Variants) (c : Dev nD) (bd : Option 𝒱.V) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (X_arg2 : BufTy.Contents (Elt F) arg2.view.ty) (X_arg9 : BufTy.Contents (Elt F) arg9.view.ty) (G_arg5 : BufTy.Contents (Elt F) arg5.view.ty) (G_arg10 : BufTy.Contents (Elt F) arg10.view.ty) (k : ℕ) (_u : PUnit) : sProp 𝕄G :=
  iprop((arg2.view.loc (c : Thread nD τ) ↦[arg2.view.set]{fullShare} X_arg2) ∗ (arg9.view.loc (c : Thread nD τ) ↦[arg9.view.set]{fullShare} X_arg9) ∗ (∃ f, (arg5.view.loc (c : Thread nD τ) ↦[arg5.view.set]{fullShare} f) ∗ ⌜f = arg5.view.writes (Elt F) G_arg5 (pb_k0_t1 (F := F) 𝒱 c bd i arg1 harg1 arg2 harg2 arg3 harg3 arg4 harg4 arg5 harg5 arg6 harg6 arg7 harg7 arg8 harg8 arg9 harg9 arg10 harg10 arg11 harg11 X_arg2 X_arg9 arg5.view.junk G_arg10 k).1⌝) ∗ (∃ f, (arg10.view.loc (c : Thread nD τ) ↦[arg10.view.set]{fullShare} f) ∗ ⌜f = arg10.view.writes (Elt F) G_arg10 (pb_k0_t1 (F := F) 𝒱 c bd i arg1 harg1 arg2 harg2 arg3 harg3 arg4 harg4 arg5 harg5 arg6 harg6 arg7 harg7 arg8 harg8 arg9 harg9 arg10 harg10 arg11 harg11 X_arg2 X_arg9 arg5.view.junk G_arg10 k).2⌝))

set_option warn.classDefReducibility false in
/-- The loop by that invariant: the run of the body goes through the loop with it. -/
@[sl_loop] def loopInv_k0_t1_junk (𝒱 : Variants) (c : Dev nD) (bd : Option 𝒱.V) (E : Set ℕ) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (X_arg2 : BufTy.Contents (Elt F) arg2.view.ty) (X_arg9 : BufTy.Contents (Elt F) arg9.view.ty) (G_arg5 : BufTy.Contents (Elt F) arg5.view.ty) (G_arg10 : BufTy.Contents (Elt F) arg10.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 where
  inv := inv_k0_t1_junk (F := F) 𝒱 c bd i arg1 harg1 arg2 harg2 arg3 harg3 arg4 harg4 arg5 harg5 arg6 harg6 arg7 harg7 arg8 harg8 arg9 harg9 arg10 harg10 arg11 harg11 X_arg2 X_arg9 G_arg5 G_arg10
  step k acc := by
    iintro ⟨HR_arg2, HR_arg9, ⟨%f_arg5, HW_arg5, %h_arg5⟩, ⟨%f_arg10, HW_arg10, %h_arg10⟩⟩
    iapply (wp_wand_r Idealize.ShloMosaic.frame (wpE (defs₀ (F := F)) 𝒱 (c : Thread nD τ) bd) E)
    isplitl [HR_arg2 HR_arg9 HW_arg5 HW_arg10]
    · iapply ((trip_k0_t1 (F := F) 𝒱 c bd i arg1 harg1 arg2 harg2 arg3 harg3 arg4 harg4 arg5 harg5 arg6 harg6 arg7 harg7 arg8 harg8 arg9 harg9 arg10 harg10 arg11 harg11 X_arg2 X_arg9 k).2.2 E f_arg5 f_arg10)
      isplitl [HR_arg2]; · iexact HR_arg2
      isplitl [HR_arg9]; · iexact HR_arg9
      isplitl [HW_arg5]; · iexact HW_arg5
      iexact HW_arg10
    · iintro %_ ⟨HR_arg2, HR_arg9, HW_arg5, HW_arg10⟩
      isplitl [HR_arg2]; · iexact HR_arg2
      isplitl [HR_arg9]; · iexact HR_arg9
      rw [pb_k0_t1_succ_junk (G_arg5 := G_arg5)]
      isplitl [HW_arg5]
      · iexists _; isplitl [HW_arg5]; · iexact HW_arg5
        ipureintro; rw [h_arg5, h_arg10, ← View.writes_append]
      iexists _; isplitl [HW_arg10]; · iexact HW_arg10
      ipureintro; rw [h_arg5, h_arg10, ← View.writes_append]

end Cert.KernelIdeal.Gen

end
-- ==== Proof.Ideal.Runs.lean ====
/- The facts of the grid points and the window schedules that the run of the kernel body is stated with:
   which points each case covers, where each window is idle, where it is written back. -/
module

public import proofs.«01_k».proof.Proof.Gen.KernelIdeal.Launch
public import proofs.«01_k».proof.Proof.Gen.KernelIdeal.Skeleton
public import proofs.«01_k».proof.Proof.Ideal.Loop
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).1 2).trans (((dats 0 c).arrAt_in 2 rfl _).trans ((hA c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 44 = 0 :=
  (fun t => by
    have ht : t.val < 44 := Nat.lt_of_lt_of_eq t.isLt N_0
    have e0 : (grid0.coords t 0).val = t.val / 1 % 44 := Pipeline.Grid.coords_val t 0 (by decide) rfl
    simp only [cond0_0, k0_cond1, e0]
    word_cmp
   : ∀ t : Fin grid0.N, cond0_0 (grid0.coords t) ↔ t.val % 44 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 44 = 43 :=
  (fun t => by
    have ht : t.val < 44 := Nat.lt_of_lt_of_eq t.isLt N_0
    have e0 : (grid0.coords t 0).val = t.val / 1 % 44 := Pipeline.Grid.coords_val t 0 (by decide) rfl
    simp only [cond0_1, k0_cond2, e0]
    word_cmp
   : ∀ t : Fin grid0.N, cond0_1 (grid0.coords t) ↔ t.val % 44 = 43)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an output stored at every point, under no condition). -/
theorem liveAt0_4 : ∀ t : Fin cfg0.N, cfg0.idle 4 (grid0.coords t) = false := fun _ => rfl
/-- At the points of case A the printed configuration (`Cfg.idle`) calls output 5 idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → (cfg0.win 5).flush t = false := by decide +kernel
/-- At the points of case B the printed configuration (`Cfg.idle`) calls output 5 idle: the case stores nothing into it. -/
theorem idleAt0_5_B : ∀ t : Fin cfg0.N, ¬cond0_0 (grid0.coords t) → ¬cond0_1 (grid0.coords t) → cfg0.idle 5 (grid0.coords t) = true := by decide +kernel
/-- At the points of case B the pipeline does not write output 5's block back. -/
theorem noFlush0_5_B : ∀ t : Fin cfg0.N, ¬cond0_0 (grid0.coords t) → ¬cond0_1 (grid0.coords t) → (cfg0.win 5).flush t = false := by decide +kernel
/-- At the points of case C the printed configuration (`Cfg.idle`) calls output 5 live: the case stores into it. -/
theorem liveAt0_5_C : ∀ t : Fin cfg0.N, ¬cond0_0 (grid0.coords t) → cond0_1 (grid0.coords t) → cfg0.idle 5 (grid0.coords t) = false := by decide +kernel
/-- At the points of case A the printed configuration (`Cfg.idle`) calls output 6 idle: the case stores nothing into it. -/
theorem idleAt0_6_A : ∀ t : Fin cfg0.N, cond0_0 (grid0.coords t) → ¬cond0_1 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → (cfg0.win 6).flush t = false := by decide +kernel
/-- At the points of case B the printed configuration (`Cfg.idle`) calls output 6 idle: the case stores nothing into it. -/
theorem idleAt0_6_B : ∀ t : Fin cfg0.N, ¬cond0_0 (grid0.coords t) → ¬cond0_1 (grid0.coords t) → cfg0.idle 6 (grid0.coords t) = true := by decide +kernel
/-- At the points of case B the pipeline does not write output 6's block back. -/
theorem noFlush0_6_B : ∀ t : Fin cfg0.N, ¬cond0_0 (grid0.coords t) → ¬cond0_1 (grid0.coords t) → (cfg0.win 6).flush t = false := by decide +kernel
/-- At the points of case C the printed configuration (`Cfg.idle`) calls output 6 live: the case stores into it. -/
theorem liveAt0_6_C : ∀ t : Fin cfg0.N, ¬cond0_0 (grid0.coords t) → cond0_1 (grid0.coords t) → cfg0.idle 6 (grid0.coords t) = false := by decide +kernel
/-- Whether output 7's buffer is FRESH at each position `1 ‥ N` — holds nothing the body stored since the region's entry or the
    last write-back (written back at the point before, or idle there and fresh before it) —, as a bitmask the classifier
    computed, bit `n` for position `n + 1`; position 0 is fresh. `freshTab0_7_step` checks it against the configuration's own
    step point by point and Lib/Pipeline/TableIdle.lean `Cfg.fresh_tab` makes it `Cfg.fresh` (`fresh0_7_eq`). -/
def freshTab0_7 : ℕ → Bool
  | 0 => true
  | n + 1 => (0x80000000000 : ℕ).testBit n
theorem freshTab0_7_step : ∀ t : Fin cfg0.N,
    freshTab0_7 (t.val + 1) = ((cfg0.win 7).flush t || (cfg0.idle 7 (cfg0.grid.coords t) && freshTab0_7 t.val)) := by decide +kernel
theorem fresh0_7_eq (t : Fin cfg0.N) : cfg0.fresh 7 t.val = freshTab0_7 t.val :=
  Pipeline.Cfg.fresh_tab cfg0 7 freshTab0_7 rfl freshTab0_7_step t.val (Nat.le_of_lt t.isLt)
/-- At the points of case A the printed configuration (`Cfg.idle`) calls output 7 live: the case stores into it. -/
theorem liveAt0_7_A : ∀ t : Fin cfg0.N, cond0_0 (grid0.coords t) → ¬cond0_1 (grid0.coords t) → cfg0.idle 7 (grid0.coords t) = false := by decide +kernel
/-- At the points of case B the printed configuration (`Cfg.idle`) calls output 7 idle: the case stores nothing into it. -/
theorem idleAt0_7_B : ∀ t : Fin cfg0.N, ¬cond0_0 (grid0.coords t) → ¬cond0_1 (grid0.coords t) → cfg0.idle 7 (grid0.coords t) = true := by decide +kernel
/-- At the points of case B the pipeline does not write output 7's block back. -/
theorem noFlush0_7_B : ∀ t : Fin cfg0.N, ¬cond0_0 (grid0.coords t) → ¬cond0_1 (grid0.coords t) → (cfg0.win 7).flush t = false := by decide +kernel
/-- At the point of case C the printed configuration (`Cfg.idle`) calls output 7 idle: the case stores nothing into it. -/
theorem idleAt0_7_C : ∀ t : Fin cfg0.N, ¬cond0_0 (grid0.coords t) → cond0_1 (grid0.coords t) → cfg0.idle 7 (grid0.coords t) = true := by decide +kernel
/-- At the point of case C the pipeline writes output 7's block back. -/
theorem flushAt0_7_C : ∀ t : Fin cfg0.N, ¬cond0_0 (grid0.coords t) → cond0_1 (grid0.coords t) → (cfg0.win 7).flush t = true := by decide +kernel
/-- At the points of case C, which keeps output 7's prior contents (reads it before covering, or covers it in part), the
    window's buffer is not FRESH: something was stored into it since the region's entry or its last write-back, idle points
    between or not (Lib/Pipeline/TableIdle.lean `Cfg.fresh`, by the table `freshTab0_7`). -/
theorem notFresh0_7_C : ∀ t : Fin cfg0.N, ¬cond0_0 (grid0.coords t) → cond0_1 (grid0.coords t) → cfg0.fresh 7 t.val = false := by
  intro t; rw [fresh0_7_eq t]; revert t; decide +kernel

/-! ## The kernel body on any staging memrefs: a subtype the run finds -/

/-- One staging buffer of output window 4, through which its contents are stated (`View.read_writes_of_cover`: the
    choice does not matter). -/
abbrev VO0_4 : View sig .tc .vmem S256x18944 .fp8e4m3 := (Memref.whole cc0_stg4_0 : Memref sig .tc .vmem S256x18944 .fp8e4m3).view
/-- One staging buffer of output window 5, through which its contents are stated (`View.read_writes_of_cover`: the
    choice does not matter). -/
abbrev VO0_5 : View sig .tc .vmem S1x256 .f32 := (Memref.whole cc0_stg5_0 : Memref sig .tc .vmem S1x256 .f32).view
/-- One staging buffer of output window 6, through which its contents are stated (`View.read_writes_of_cover`: the
    choice does not matter). -/
abbrev VO0_6 : View sig .tc .vmem S1x256 .f32 := (Memref.whole cc0_stg6_0 : Memref sig .tc .vmem S1x256 .f32).view
/-- One staging buffer of output window 7, through which its contents are stated (`View.read_writes_of_cover`: the
    choice does not matter). -/
abbrev VO0_7 : View sig .tc .vmem S1x256 .f32 := (Memref.whole cc0_stg7_0 : Memref sig .tc .vmem S1x256 .f32).view
/-- Each window's current staging memref at point `t`, spelled as the pipeline passes it (`bodyAt0`), and its wholeness. -/
abbrev ms0_0 (t : Fin cfg0.N) : Memref sig .tc .smem S1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x18944 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x18944 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S16x18944 .bf16 := Memref.whole cc0_scratch0
abbrev scM0_1 : Memref sig .tc .vmem S16x18944 .bf16 := Memref.whole cc0_scratch1
abbrev scM0_2 : Memref sig .tc .vmem S1x256 .f32 := Memref.whole cc0_scratch2
/-- The scratch `arg9` the kernel carries between points, as a view: what it holds is stated through it. -/
abbrev VS0_0 : View sig .tc .vmem S16x18944 .bf16 := scM0_0.view
/-- The scratch `arg10` the kernel carries between points, as a view: what it holds is stated through it. -/
abbrev VS0_1 : View sig .tc .vmem S16x18944 .bf16 := scM0_1.view
/-- The scratch `arg11` the kernel carries between points, as a view: what it holds is stated through it. -/
abbrev VS0_2 : View sig .tc .vmem S1x256 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.Ideal.RunA.lean ====
/- The run of the kernel body at the first grid point (case A): the scale is spread over the columns, the
   accumulator cleared, the history reduced, and then the column loop runs. -/
module

public import proofs.«01_k».proof.Proof.Ideal.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2196000 in
/-- What the body's stores leave in each output's staging memref, as pieces (last first) IN CASE A (`scf.if` 0 taken, `scf.if` 1 not taken: points 0), WITH the
    proof that on whole staging memrefs — the inputs' at their contents, the outputs it leaves idle (5, 6: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : cond0_0 i) (hc1 : ¬cond0_1 i)
    (x0 : Vec F S1 .i32) (x1 : Vec F S256x18944 .bf16) (x2 : Vec F S256x1024 .f32) (x3 : Vec F S1x256 .f32) :
    Σ' (L4 : List (View.Piece (Elt F) S256x18944 .fp8e4m3)), Σ' (L5 : List (View.Piece (Elt F) S1x256 .f32)), Σ' (L6 : List (View.Piece (Elt F) S1x256 .f32)), Σ' (L7 : List (View.Piece (Elt F) S1x256 .f32)), Σ' (LS0 : List (View.Piece (Elt F) S16x18944 .bf16)), Σ' (LS1 : List (View.Piece (Elt F) S16x18944 .bf16)), { LS2 : List (View.Piece (Elt F) S1x256 .f32) //
      ∀ (xi5 : Vec F S1x256 .f32) (xi6 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0_delayed_scaling i arg1 harg1 arg2 harg2 arg3 harg3 arg4 harg4 arg5 harg5 arg6 harg6 arg7 harg7 arg8 harg8 arg9 harg9 arg10 harg10 arg11 harg11) K } := by
  refine ⟨?_, [], [], ?_, ?_, ?_, ?_, fun xi5 xi6 E K => ?run⟩
  case run =>
    simp only [cc0_delayed_scaling_eq_skeleton]; unfold cc0_delayed_scaling_skel
    simp only [k0_part30_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]; · iexists _; iexact HS0
    isplitl [HS1]; · iexists _; iexact HS1
    iexists _; iexact HS2

end Cert.KernelIdeal.Gen

end
-- ==== Proof.Ideal.RunB.lean ====
/- The run of the kernel body at the grid points in the middle (case B): the column loop alone. -/
module

public import proofs.«01_k».proof.Proof.Ideal.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 42: 42 of 44), WITH the
    proof that on whole staging memrefs — the inputs' at their contents, the outputs it leaves idle (5, 6, 7: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : ¬cond0_0 i) (hc1 : ¬cond0_1 i)
    (x0 : Vec F S1 .i32) (x1 : Vec F S256x18944 .bf16) (x2 : Vec F S256x1024 .f32) (x3 : Vec F S1x256 .f32) (xs0 : Vec F S16x18944 .bf16) (xs1 : Vec F S16x18944 .bf16) (xs2 : Vec F S1x256 .f32) :
    Σ' (L4 : List (View.Piece (Elt F) S256x18944 .fp8e4m3)), Σ' (L5 : List (View.Piece (Elt F) S1x256 .f32)), Σ' (L6 : List (View.Piece (Elt F) S1x256 .f32)), Σ' (L7 : List (View.Piece (Elt F) S1x256 .f32)), Σ' (LS0 : List (View.Piece (Elt F) S16x18944 .bf16)), Σ' (LS1 : List (View.Piece (Elt F) S16x18944 .bf16)), { LS2 : List (View.Piece (Elt F) S1x256 .f32) //
      ∀ (xi5 : Vec F S1x256 .f32) (xi6 : Vec F S1x256 .f32) (xi7 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xi7 ∗ owns (c : Thread nD τ) arg9 fullShare xs0 ∗ owns (c : Thread nD τ) arg10 fullShare xs1 ∗ owns (c : Thread nD τ) arg11 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ owns (c : Thread nD τ) arg8 fullShare xi7 ∗ owns (c : Thread nD τ) arg9 fullShare xs0 ∗ (∃ f, arg10.view.loc (c : Thread nD τ) ↦[arg10.view.set]{fullShare} arg10.view.writes (Elt F) f LS1) ∗ owns (c : Thread nD τ) arg11 fullShare xs2) -∗ K ⟨⟩))
          ⊢ wp frame (wpE (defs₀ (F := F)) Variants.none c none) E (cc0_delayed_scaling i arg1 harg1 arg2 harg2 arg3 harg3 arg4 harg4 arg5 harg5 arg6 harg6 arg7 harg7 arg8 harg8 arg9 harg9 arg10 harg10 arg11 harg11) K } := by
  refine ⟨?_, [], [], [], [], ?_, [], fun xi5 xi6 xi7 E K => ?run⟩
  case run =>
    simp only [cc0_delayed_scaling_eq_skeleton]; unfold cc0_delayed_scaling_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6; obtain rfl := harg8.eq_unread hf7; obtain rfl := harg9.eq_unread hfs0; obtain rfl := harg10.eq_unread hfs1; obtain rfl := harg11.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]
    · iexists _; isplitr; · ipureintro; exact harg9.read_unread _
      iexact HS0
    isplitl [HS1]; · iexists _; iexact HS1
    iexists _; isplitr; · ipureintro; exact harg11.read_unread _
    iexact HS2

end Cert.KernelIdeal.Gen

end
-- ==== Proof.Ideal.RunC.lean ====
/- The run of the kernel body at the last grid point (case C): the column loop, and then the accumulator is
   reduced to the absolute maxima and the new scales. -/
module

public import proofs.«01_k».proof.Proof.Ideal.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1516000 in
/-- What the body's stores leave in each output's staging memref, as pieces (last first) IN CASE C (`scf.if` 0 not taken, `scf.if` 1 taken: points 43), WITH the
    proof that on whole staging memrefs — the inputs' at their contents, the outputs it reads before covering (7) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : ¬cond0_0 i) (hc1 : cond0_1 i)
    (x0 : Vec F S1 .i32) (x1 : Vec F S256x18944 .bf16) (x2 : Vec F S256x1024 .f32) (x3 : Vec F S1x256 .f32) (xo7 : Vec F S1x256 .f32) (xs0 : Vec F S16x18944 .bf16) (xs1 : Vec F S16x18944 .bf16) (xs2 : Vec F S1x256 .f32) :
    Σ' (L4 : List (View.Piece (Elt F) S256x18944 .fp8e4m3)), Σ' (L5 : List (View.Piece (Elt F) S1x256 .f32)), Σ' (L6 : List (View.Piece (Elt F) S1x256 .f32)), Σ' (L7 : List (View.Piece (Elt F) S1x256 .f32)), Σ' (LS0 : List (View.Piece (Elt F) S16x18944 .bf16)), Σ' (LS1 : List (View.Piece (Elt F) S16x18944 .bf16)), { LS2 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xo7 ∗ owns (c : Thread nD τ) arg9 fullShare xs0 ∗ owns (c : Thread nD τ) arg10 fullShare xs1 ∗ owns (c : Thread nD τ) arg11 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ owns (c : Thread nD τ) arg8 fullShare xo7 ∗ owns (c : Thread nD τ) arg9 fullShare xs0 ∗ (∃ f, arg10.view.loc (c : Thread nD τ) ↦[arg10.view.set]{fullShare} arg10.view.writes (Elt F) f LS1) ∗ owns (c : Thread nD τ) arg11 fullShare xs2) -∗ K ⟨⟩))
          ⊢ wp frame (wpE (defs₀ (F := F)) Variants.none c none) E (cc0_delayed_scaling i arg1 harg1 arg2 harg2 arg3 harg3 arg4 harg4 arg5 harg5 arg6 harg6 arg7 harg7 arg8 harg8 arg9 harg9 arg10 harg10 arg11 harg11) K } := by
  refine ⟨?_, ?_, ?_, [], [], ?_, [], fun E K => ?run⟩
  case run =>
    simp only [cc0_delayed_scaling_eq_skeleton]; unfold cc0_delayed_scaling_skel
    simp only [k0_part57_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg8.eq_unread hf7; obtain rfl := harg9.eq_unread hfs0; obtain rfl := harg10.eq_unread hfs1; obtain rfl := harg11.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]
    · iexists _; isplitr; · ipureintro; exact harg8.read_unread _
      iexact H7
    isplitl [HS0]
    · iexists _; isplitr; · ipureintro; exact harg9.read_unread _
      iexact HS0
    isplitl [HS1]; · iexists _; iexact HS1
    iexists _; isplitr; · ipureintro; exact harg11.read_unread _
    iexact HS2

end Cert.KernelIdeal.Gen

end
-- ==== Proof.Ideal.Frame.lean ====
/- The body obligation of the pipelined call at every grid point, and from it the frame of the program. -/
module

public import proofs.«01_k».proof.Proof.Ideal.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 4 tile its block (592 stores of `S32x256`, checked by the kernel's evaluation: Lib/Ring.lean `Piece.tiledL`, linear in the pieces, through a loop's `@[irreducible]` trip theorem too), so they cover it. -/
theorem cover0_A_4 (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : cond0_0 i) (hc1 : ¬cond0_1 i)
    (x0 : Vec F S1 .i32) (x1 : Vec F S256x18944 .bf16) (x2 : Vec F S256x1024 .f32) (x3 : Vec F S1x256 .f32) (y : S256x18944.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3).1 S32x256.size (by sl_kernel_rfl) y

/-- What case A leaves in output 4's staging buffer: its pieces read back over junk. -/
def out0_A_4 (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : cond0_0 i) (hc1 : ¬cond0_1 i)
    (x0 : Vec F S1 .i32) (x1 : Vec F S256x18944 .bf16) (x2 : Vec F S256x1024 .f32) (x3 : Vec F S1x256 .f32) : Vec F S256x18944 .fp8e4m3 :=
  VO0_4.read (Elt F) (VO0_4.writes (Elt F) VO0_4.junk (kernelRun0_A c i arg1 harg1 arg2 harg2 arg3 harg3 arg4 harg4 arg5 harg5 arg6 harg6 arg7 harg7 arg8 harg8 arg9 harg9 arg10 harg10 arg11 harg11 hc0 hc1 x0 x1 x2 x3).1)

/-- Case A stores nothing into output 5 (the window is idle at its points and not written back there):
    no pieces — a placeholder (junk read back) that nothing consults, since at these points the window is neither
    written back nor read at the next point (Lib/Pipeline.lean "Idle points"). -/
def out0_A_5 (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : cond0_0 i) (hc1 : ¬cond0_1 i)
    (x0 : Vec F S1 .i32) (x1 : Vec F S256x18944 .bf16) (x2 : Vec F S256x1024 .f32) (x3 : Vec F S1x256 .f32) : Vec F S1x256 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 arg11 harg11 hc0 hc1 x0 x1 x2 x3).2.1)

/-- Case A stores nothing into output 6 (the window is idle at its points and not written back there):
    no pieces — a placeholder (junk read back) that nothing consults, since at these points the window is neither
    written back nor read at the next point (Lib/Pipeline.lean "Idle points"). -/
def out0_A_6 (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : cond0_0 i) (hc1 : ¬cond0_1 i)
    (x0 : Vec F S1 .i32) (x1 : Vec F S256x18944 .bf16) (x2 : Vec F S256x1024 .f32) (x3 : Vec F S1x256 .f32) : Vec F S1x256 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 hc0 hc1 x0 x1 x2 x3).2.2.1)

/-- Case A's pieces for output 7 tile its block (1 store of `S1x256`, checked by the kernel's evaluation: Lib/Ring.lean `Piece.tiledL`, linear in the pieces, through a loop's `@[irreducible]` trip theorem too), so they cover it. -/
theorem cover0_A_7 (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : cond0_0 i) (hc1 : ¬cond0_1 i)
    (x0 : Vec F S1 .i32) (x1 : Vec F S256x18944 .bf16) (x2 : Vec F S256x1024 .f32) (x3 : Vec F S1x256 .f32) (y : S1x256.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3).2.2.2.1 S1x256.size (by sl_kernel_rfl) y

/-- What case A leaves in output 7's staging buffer: its pieces read back over junk. -/
def out0_A_7 (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : cond0_0 i) (hc1 : ¬cond0_1 i)
    (x0 : Vec F S1 .i32) (x1 : Vec F S256x18944 .bf16) (x2 : Vec F S256x1024 .f32) (x3 : Vec F S1x256 .f32) : Vec F S1x256 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 hc0 hc1 x0 x1 x2 x3).2.2.2.1)

/-- Case A's pieces for scratch `arg9`, which the kernel carries between points, cover it: 148 pieces of `S16x128` tiling it (Lib/Ring.lean `Piece.tiledL`). -/
theorem scover0_A_0 (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : cond0_0 i) (hc1 : ¬cond0_1 i)
    (x0 : Vec F S1 .i32) (x1 : Vec F S256x18944 .bf16) (x2 : Vec F S256x1024 .f32) (x3 : Vec F S1x256 .f32) (y : S16x18944.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3).2.2.2.2.1 S16x128.size (by sl_kernel_rfl) y

/-- What case A leaves in scratch `arg9`: its pieces read back over junk. -/
def sout0_A_0 (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : cond0_0 i) (hc1 : ¬cond0_1 i)
    (x0 : Vec F S1 .i32) (x1 : Vec F S256x18944 .bf16) (x2 : Vec F S256x1024 .f32) (x3 : Vec F S1x256 .f32) : Vec F S16x18944 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 hc1 x0 x1 x2 x3).2.2.2.2.1)

/-- Case A's pieces for scratch `arg10`, which the kernel carries between points, cover it: one of them a store of the WHOLE buffer (Lib/Ring.lean `sl_whole_mem`). -/
theorem scover0_A_1 (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : cond0_0 i) (hc1 : ¬cond0_1 i)
    (x0 : Vec F S1 .i32) (x1 : Vec F S256x18944 .bf16) (x2 : Vec F S256x1024 .f32) (x3 : Vec F S1x256 .f32) (y : S16x18944.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3).2.2.2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 hc0 hc1 x0 x1 x2 x3).2.2.2.2.2.1 (by sl_whole_mem) y

/-- What case A leaves in scratch `arg10`: its pieces read back over junk. -/
def sout0_A_1 (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : cond0_0 i) (hc1 : ¬cond0_1 i)
    (x0 : Vec F S1 .i32) (x1 : Vec F S256x18944 .bf16) (x2 : Vec F S256x1024 .f32) (x3 : Vec F S1x256 .f32) : Vec F S16x18944 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 hc0 hc1 x0 x1 x2 x3).2.2.2.2.2.1)

/-- Case A's pieces for scratch `arg11`, which the kernel carries between points, cover it: 1 piece of `S1x256` tiling it (Lib/Ring.lean `Piece.tiledL`). -/
theorem scover0_A_2 (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : cond0_0 i) (hc1 : ¬cond0_1 i)
    (x0 : Vec F S1 .i32) (x1 : Vec F S256x18944 .bf16) (x2 : Vec F S256x1024 .f32) (x3 : Vec F S1x256 .f32) (y : S1x256.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3).2.2.2.2.2.2.1 S1x256.size (by sl_kernel_rfl) y

/-- What case A leaves in scratch `arg11`: its pieces read back over junk. -/
def sout0_A_2 (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : cond0_0 i) (hc1 : ¬cond0_1 i)
    (x0 : Vec F S1 .i32) (x1 : Vec F S256x18944 .bf16) (x2 : Vec F S256x1024 .f32) (x3 : Vec F S1x256 .f32) : Vec F S1x256 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 hc0 hc1 x0 x1 x2 x3).2.2.2.2.2.2.1)

/-- Case B's pieces for output 4 tile its block (592 stores of `S32x256`, checked by the kernel's evaluation: Lib/Ring.lean `Piece.tiledL`, linear in the pieces, through a loop's `@[irreducible]` trip theorem too), so they cover it. -/
theorem cover0_B_4 (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : ¬cond0_0 i) (hc1 : ¬cond0_1 i)
    (x0 : Vec F S1 .i32) (x1 : Vec F S256x18944 .bf16) (x2 : Vec F S256x1024 .f32) (x3 : Vec F S1x256 .f32) (xs0 : Vec F S16x18944 .bf16) (xs1 : Vec F S16x18944 .bf16) (xs2 : Vec F S1x256 .f32) (y : S256x18944.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 xs0 xs1 xs2).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 xs0 xs1 xs2).1 S32x256.size (by sl_kernel_rfl) y

/-- What case B leaves in output 4's staging buffer: its pieces read back over junk. -/
def out0_B_4 (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : ¬cond0_0 i) (hc1 : ¬cond0_1 i)
    (x0 : Vec F S1 .i32) (x1 : Vec F S256x18944 .bf16) (x2 : Vec F S256x1024 .f32) (x3 : Vec F S1x256 .f32) (xs0 : Vec F S16x18944 .bf16) (xs1 : Vec F S16x18944 .bf16) (xs2 : Vec F S1x256 .f32) : Vec F S256x18944 .fp8e4m3 :=
  VO0_4.read (Elt F) (VO0_4.writes (Elt F) VO0_4.junk (kernelRun0_B c i arg1 harg1 arg2 harg2 arg3 harg3 arg4 harg4 arg5 harg5 arg6 harg6 arg7 harg7 arg8 harg8 arg9 harg9 arg10 harg10 arg11 harg11 hc0 hc1 x0 x1 x2 x3 xs0 xs1 xs2).1)

/-- Case B stores nothing into output 5 (the window is idle at its points and not written back there):
    no pieces — a placeholder (junk read back) that nothing consults, since at these points the window is neither
    written back nor read at the next point (Lib/Pipeline.lean "Idle points"). -/
def out0_B_5 (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : ¬cond0_0 i) (hc1 : ¬cond0_1 i)
    (x0 : Vec F S1 .i32) (x1 : Vec F S256x18944 .bf16) (x2 : Vec F S256x1024 .f32) (x3 : Vec F S1x256 .f32) (xs0 : Vec F S16x18944 .bf16) (xs1 : Vec F S16x18944 .bf16) (xs2 : Vec F S1x256 .f32) : Vec F S1x256 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 arg11 harg11 hc0 hc1 x0 x1 x2 x3 xs0 xs1 xs2).2.1)

/-- Case B stores nothing into output 6 (the window is idle at its points and not written back there):
    no pieces — a placeholder (junk read back) that nothing consults, since at these points the window is neither
    written back nor read at the next point (Lib/Pipeline.lean "Idle points"). -/
def out0_B_6 (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : ¬cond0_0 i) (hc1 : ¬cond0_1 i)
    (x0 : Vec F S1 .i32) (x1 : Vec F S256x18944 .bf16) (x2 : Vec F S256x1024 .f32) (x3 : Vec F S1x256 .f32) (xs0 : Vec F S16x18944 .bf16) (xs1 : Vec F S16x18944 .bf16) (xs2 : Vec F S1x256 .f32) : Vec F S1x256 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 hc0 hc1 x0 x1 x2 x3 xs0 xs1 xs2).2.2.1)

/-- Case B stores nothing into output 7 (the window is idle at its points and not written back there) and another
    case keeps its prior contents (reads it before covering, or covers it in part): what its buffer holds after the body is what the
    point before left, CARRIED — an argument of this term alone, which the run does not take (Lib/Pipeline/TableIdle.lean `Dat.before_out_traj`). -/
def out0_B_7 (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : ¬cond0_0 i) (hc1 : ¬cond0_1 i)
    (x0 : Vec F S1 .i32) (x1 : Vec F S256x18944 .bf16) (x2 : Vec F S256x1024 .f32) (x3 : Vec F S1x256 .f32) (xs0 : Vec F S16x18944 .bf16) (xs1 : Vec F S16x18944 .bf16) (xs2 : Vec F S1x256 .f32) (xo7 : Vec F S1x256 .f32) : Vec F S1x256 .f32 := xo7

/-- Case B stores nothing into scratch `arg9`: it holds what the point before left. -/
def sout0_B_0 (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : ¬cond0_0 i) (hc1 : ¬cond0_1 i)
    (x0 : Vec F S1 .i32) (x1 : Vec F S256x18944 .bf16) (x2 : Vec F S256x1024 .f32) (x3 : Vec F S1x256 .f32) (xs0 : Vec F S16x18944 .bf16) (xs1 : Vec F S16x18944 .bf16) (xs2 : Vec F S1x256 .f32) : Vec F S16x18944 .bf16 := xs0

/-- Case B's pieces for scratch `arg10`, which the kernel carries between points, cover it: 74 pieces of `S16x256` tiling it (Lib/Ring.lean `Piece.tiledL`). -/
theorem scover0_B_1 (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : ¬cond0_0 i) (hc1 : ¬cond0_1 i)
    (x0 : Vec F S1 .i32) (x1 : Vec F S256x18944 .bf16) (x2 : Vec F S256x1024 .f32) (x3 : Vec F S1x256 .f32) (xs0 : Vec F S16x18944 .bf16) (xs1 : Vec F S16x18944 .bf16) (xs2 : Vec F S1x256 .f32) (y : S16x18944.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 xs0 xs1 xs2).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 xs0 xs1 xs2).2.2.2.2.2.1 S16x256.size (by sl_kernel_rfl) y

/-- What case B leaves in scratch `arg10`: its pieces read back over junk. -/
def sout0_B_1 (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : ¬cond0_0 i) (hc1 : ¬cond0_1 i)
    (x0 : Vec F S1 .i32) (x1 : Vec F S256x18944 .bf16) (x2 : Vec F S256x1024 .f32) (x3 : Vec F S1x256 .f32) (xs0 : Vec F S16x18944 .bf16) (xs1 : Vec F S16x18944 .bf16) (xs2 : Vec F S1x256 .f32) : Vec F S16x18944 .bf16 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 hc0 hc1 x0 x1 x2 x3 xs0 xs1 xs2).2.2.2.2.2.1)

/-- Case B stores nothing into scratch `arg11`: it holds what the point before left. -/
def sout0_B_2 (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : ¬cond0_0 i) (hc1 : ¬cond0_1 i)
    (x0 : Vec F S1 .i32) (x1 : Vec F S256x18944 .bf16) (x2 : Vec F S256x1024 .f32) (x3 : Vec F S1x256 .f32) (xs0 : Vec F S16x18944 .bf16) (xs1 : Vec F S16x18944 .bf16) (xs2 : Vec F S1x256 .f32) : Vec F S1x256 .f32 := xs2

/-- Case C's pieces for output 4 tile its block (592 stores of `S32x256`, checked by the kernel's evaluation: Lib/Ring.lean `Piece.tiledL`, linear in the pieces, through a loop's `@[irreducible]` trip theorem too), so they cover it. -/
theorem cover0_C_4 (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : ¬cond0_0 i) (hc1 : cond0_1 i)
    (x0 : Vec F S1 .i32) (x1 : Vec F S256x18944 .bf16) (x2 : Vec F S256x1024 .f32) (x3 : Vec F S1x256 .f32) (xo7 : Vec F S1x256 .f32) (xs0 : Vec F S16x18944 .bf16) (xs1 : Vec F S16x18944 .bf16) (xs2 : Vec F S1x256 .f32) (y : S256x18944.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2).1 S32x256.size (by sl_kernel_rfl) y

/-- What case C leaves in output 4's staging buffer: its pieces read back over junk. -/
def out0_C_4 (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : ¬cond0_0 i) (hc1 : cond0_1 i)
    (x0 : Vec F S1 .i32) (x1 : Vec F S256x18944 .bf16) (x2 : Vec F S256x1024 .f32) (x3 : Vec F S1x256 .f32) (xo7 : Vec F S1x256 .f32) (xs0 : Vec F S16x18944 .bf16) (xs1 : Vec F S16x18944 .bf16) (xs2 : Vec F S1x256 .f32) : Vec F S256x18944 .fp8e4m3 :=
  VO0_4.read (Elt F) (VO0_4.writes (Elt F) VO0_4.junk (kernelRun0_C c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2).1)

/-- Case C's pieces for output 5 tile its block (1 store of `S1x256`, checked by the kernel's evaluation: Lib/Ring.lean `Piece.tiledL`, linear in the pieces, through a loop's `@[irreducible]` trip theorem too), so they cover it. -/
theorem cover0_C_5 (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : ¬cond0_0 i) (hc1 : cond0_1 i)
    (x0 : Vec F S1 .i32) (x1 : Vec F S256x18944 .bf16) (x2 : Vec F S256x1024 .f32) (x3 : Vec F S1x256 .f32) (xo7 : Vec F S1x256 .f32) (xs0 : Vec F S16x18944 .bf16) (xs1 : Vec F S16x18944 .bf16) (xs2 : Vec F S1x256 .f32) (y : S1x256.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2).2.1 S1x256.size (by sl_kernel_rfl) y

/-- What case C leaves in output 5's staging buffer: its pieces read back over junk. -/
def out0_C_5 (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : ¬cond0_0 i) (hc1 : cond0_1 i)
    (x0 : Vec F S1 .i32) (x1 : Vec F S256x18944 .bf16) (x2 : Vec F S256x1024 .f32) (x3 : Vec F S1x256 .f32) (xo7 : Vec F S1x256 .f32) (xs0 : Vec F S16x18944 .bf16) (xs1 : Vec F S16x18944 .bf16) (xs2 : Vec F S1x256 .f32) : Vec F S1x256 .f32 :=
  VO0_5.read (Elt F) (VO0_5.writes (Elt F) VO0_5.junk (kernelRun0_C c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2).2.1)

/-- Case C's pieces for output 6 tile its block (1 store of `S1x256`, checked by the kernel's evaluation: Lib/Ring.lean `Piece.tiledL`, linear in the pieces, through a loop's `@[irreducible]` trip theorem too), so they cover it. -/
theorem cover0_C_6 (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : ¬cond0_0 i) (hc1 : cond0_1 i)
    (x0 : Vec F S1 .i32) (x1 : Vec F S256x18944 .bf16) (x2 : Vec F S256x1024 .f32) (x3 : Vec F S1x256 .f32) (xo7 : Vec F S1x256 .f32) (xs0 : Vec F S16x18944 .bf16) (xs1 : Vec F S16x18944 .bf16) (xs2 : Vec F S1x256 .f32) (y : S1x256.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2).2.2.1 S1x256.size (by sl_kernel_rfl) y

/-- What case C leaves in output 6's staging buffer: its pieces read back over junk. -/
def out0_C_6 (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : ¬cond0_0 i) (hc1 : cond0_1 i)
    (x0 : Vec F S1 .i32) (x1 : Vec F S256x18944 .bf16) (x2 : Vec F S256x1024 .f32) (x3 : Vec F S1x256 .f32) (xo7 : Vec F S1x256 .f32) (xs0 : Vec F S16x18944 .bf16) (xs1 : Vec F S16x18944 .bf16) (xs2 : Vec F S1x256 .f32) : Vec F S1x256 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2).2.2.1)

/-- Case C stores nothing into output 7, a live window: its staging buffer holds what the point before left. -/
def out0_C_7 (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : ¬cond0_0 i) (hc1 : cond0_1 i)
    (x0 : Vec F S1 .i32) (x1 : Vec F S256x18944 .bf16) (x2 : Vec F S256x1024 .f32) (x3 : Vec F S1x256 .f32) (xo7 : Vec F S1x256 .f32) (xs0 : Vec F S16x18944 .bf16) (xs1 : Vec F S16x18944 .bf16) (xs2 : Vec F S1x256 .f32) : Vec F S1x256 .f32 := xo7

/-- Case C stores nothing into scratch `arg9`: it holds what the point before left. -/
def sout0_C_0 (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : ¬cond0_0 i) (hc1 : cond0_1 i)
    (x0 : Vec F S1 .i32) (x1 : Vec F S256x18944 .bf16) (x2 : Vec F S256x1024 .f32) (x3 : Vec F S1x256 .f32) (xo7 : Vec F S1x256 .f32) (xs0 : Vec F S16x18944 .bf16) (xs1 : Vec F S16x18944 .bf16) (xs2 : Vec F S1x256 .f32) : Vec F S16x18944 .bf16 := xs0

/-- Case C's pieces for scratch `arg10`, which the kernel carries between points, cover it: 74 pieces of `S16x256` tiling it (Lib/Ring.lean `Piece.tiledL`). -/
theorem scover0_C_1 (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : ¬cond0_0 i) (hc1 : cond0_1 i)
    (x0 : Vec F S1 .i32) (x1 : Vec F S256x18944 .bf16) (x2 : Vec F S256x1024 .f32) (x3 : Vec F S1x256 .f32) (xo7 : Vec F S1x256 .f32) (xs0 : Vec F S16x18944 .bf16) (xs1 : Vec F S16x18944 .bf16) (xs2 : Vec F S1x256 .f32) (y : S16x18944.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2).2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2).2.2.2.2.2.1 S16x256.size (by sl_kernel_rfl) y

/-- What case C leaves in scratch `arg10`: its pieces read back over junk. -/
def sout0_C_1 (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : ¬cond0_0 i) (hc1 : cond0_1 i)
    (x0 : Vec F S1 .i32) (x1 : Vec F S256x18944 .bf16) (x2 : Vec F S256x1024 .f32) (x3 : Vec F S1x256 .f32) (xo7 : Vec F S1x256 .f32) (xs0 : Vec F S16x18944 .bf16) (xs1 : Vec F S16x18944 .bf16) (xs2 : Vec F S1x256 .f32) : Vec F S16x18944 .bf16 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2).2.2.2.2.2.1)

/-- Case C stores nothing into scratch `arg11`: it holds what the point before left. -/
def sout0_C_2 (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : ¬cond0_0 i) (hc1 : cond0_1 i)
    (x0 : Vec F S1 .i32) (x1 : Vec F S256x18944 .bf16) (x2 : Vec F S256x1024 .f32) (x3 : Vec F S1x256 .f32) (xo7 : Vec F S1x256 .f32) (xs0 : Vec F S16x18944 .bf16) (xs1 : Vec F S16x18944 .bf16) (xs2 : Vec F S1x256 .f32) : Vec F S1x256 .f32 := xs2

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S256x18944 .fp8e4m3 × Vec F S1x256 .f32 × Vec F S1x256 .f32 × Vec F S1x256 .f32 × Vec F S16x18944 .bf16 × Vec F S16x18944 .bf16 × Vec F S1x256 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 44 = 0 then
      if h1 : (n + 1) % 44 = 43 then
        False.elim (by have hN : n + 1 < 44 := lt_of_lt_of_eq hn (show cfg0.N = 44 from N_0); omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 44 = 43 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2 (outsAt0 c n (Nat.lt_of_succ_lt hn)).2.2.2.1, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2)

/-- `outsAt0` at a point of case A: that case's contents. -/
theorem outsAt0_A (c : Dev nD) (t : Fin cfg0.N) (h0 : t.val % 44 = 0) (h1 : ¬t.val % 44 = 43) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 44 = 0) (h1 : ¬t.val % 44 = 43) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (outsAt0 m c (t.val - 1) (Nat.lt_of_le_of_lt (Nat.sub_le _ _) t.isLt)).2.2.2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 44 = 0) (h1 : t.val % 44 = 43) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.1) ∗ owns (c : Thread nD τ) scM0_1 fullShare ((outsAt0 m c n hn).2.2.2.2.2.1) ∗ owns (c : Thread nD τ) scM0_2 fullShare ((outsAt0 m c n hn).2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.1) ∗ owns (c : Thread nD τ) scM0_1 fullShare ((outsAt0 m c n hn).2.2.2.2.2.1) ∗ owns (c : Thread nD τ) scM0_2 fullShare ((outsAt0 m c n hn).2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.1) ∗ owns (c : Thread nD τ) scM0_1 fullShare ((outsAt0 m c (n - 1) (by omega)).2.2.2.2.2.1) ∗ owns (c : Thread nD τ) scM0_2 fullShare ((outsAt0 m c (n - 1) (by omega)).2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
    | ⟨7, _⟩ => (outsAt0 m c t.val t.isLt).2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2.1 := by dsimp only [dats]
theorem after0_7 (c : Dev nD) (t : Fin cfg0.N) : (dats m 0 c).after 7 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Output 7's contents CARRY through the points that leave it idle: at such a point, its buffer not fresh, the proof data's
    `after` is the point before's (the case there stores nothing into the window and its term says so; a case that stores
    into it is not idle there by `liveAt0_7_κ`) — the hypothesis of Lib/Pipeline/TableIdle.lean `Dat.before_out_traj`. -/
theorem hcarry0_7 (c : Dev nD) : ∀ (t : Fin cfg0.N) (_ : t.val ≠ 0), cfg0.idle 7 (grid0.coords t) = true → cfg0.fresh 7 t.val = false →
    (dats m 0 c).after 7 t = (dats m 0 c).after 7 ⟨t.val - 1, by omega⟩ := by
  intro t _ hi _
  have hN : t.val < 44 := lt_of_lt_of_eq t.isLt (show cfg0.N = 44 from N_0)
  rw [after0_7, after0_7]
  by_cases h0 : t.val % 44 = 0
  · by_cases h1 : t.val % 44 = 43
    · exfalso; omega
    · rw [liveAt0_7_A t ((hcond0_0 t).mpr h0) (fun h => h1 ((hcond0_1 t).mp h))] at hi
      exact absurd hi Bool.false_ne_true
  · by_cases h1 : t.val % 44 = 43
    · rw [outsAt0_C m c t h0 h1]
      dsimp only
      unfold out0_C_7
      rfl
    · rw [outsAt0_B m c t h0 h1]
      dsimp only
      unfold out0_B_7
      rfl
/-- At a point of case C output 7's current staging buffer holds what the point before left: the buffer is not fresh
    there (`notFresh0_7_C`: stored into since the region's entry or the last write-back, carried through the points that
    leave it idle by `hcarry0_7`; Lib/Pipeline/TableIdle.lean `Dat.before_out_traj`). -/
theorem before0_7_C (c : Dev nD) (t : Fin cfg0.N) (h0 : ¬t.val % 44 = 0) (h1 : t.val % 44 = 43) (d) :
    (dats m 0 c).before 7 t d = (outsAt0 m c (t.val - 1) (Nat.lt_of_le_of_lt (Nat.sub_le _ _) t.isLt)).2.2.2.1 := by
  rw [Dat.before_out_traj _ 7 rfl (fun _ _ => rfl) (hcarry0_7 m c) t.val t rfl d,
    if_neg (by rw [notFresh0_7_C t (fun h => h0 ((hcond0_0 t).mp h)) ((hcond0_1 t).mpr h1)]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 12000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 44 := lt_of_lt_of_eq t.isLt (show cfg0.N = 44 from N_0)
  by_cases h0 : t.val % 44 = 0
  · by_cases h1 : t.val % 44 = 43
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
      rw [show (dats m 0 c).leavesExact 7 t = owns (c : Thread nD τ) (ms0_7 t) fullShare ((dats m 0 c).after 7 t) from by
      unfold Dat.leavesExact; rw [liveAt0_7_A t ((hcond0_0 t).mpr h0) (fun h => h1 ((hcond0_1 t).mp h))], after0_7]
      by_cases hz : t.val = 0
      · rw [PhiS_castSucc m c t, PhiS_zero m c _ _ hz, PhiA0_eq]
        rw [outsAt0_A m c t h0 h1]
        unfold out0_A_4 out0_A_7 sout0_A_0 sout0_A_1 sout0_A_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2.2.2.2 _ _ Set.univ _)
        isplitl [H0]; · iexact H0
        isplitl [H1]; · iexact H1
        isplitl [H2]; · iexact H2
        isplitl [H3]; · iexact H3
        isplitl [H4]; · iexists _; iexact H4
        isplitl [H5]; · iexact H5
        isplitl [H6]; · iexact H6
        isplitl [H7]; · iexists _; iexact H7
        isplitl [HS0]; · iexact HS0
        isplitl [HS1]; · iexact HS1
        isplitl [HS2]; · iexact HS2
        iintro ⟨H0, H1, H2, H3, ⟨%e4, H4⟩, H5, H6, ⟨%e7, H7⟩, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_A_4 c _ _ _ _ _ _ _ _ _ _ _ _ _ _ _ _ _ _ _ _ _ _ _ _ _ _ _ _ _)
        isplitl [H5]; · iexists _; iexact H5
        isplitl [H6]; · iexists _; iexact H6
        unfold owns; iexists _; isplitr
        swap; · iexact H7
        ipureintro; exact View.read_writes_of_cover _ _ _ _ _ (cover0_A_7 c _ _ _ _ _ _ _ _ _ _ _ _ _ _ _ _ _ _ _ _ _ _ _ _ _ _ _ _ _)
      · exfalso; have hN : t.val < 44 := lt_of_lt_of_eq t.isLt (show cfg0.N = 44 from N_0); omega
  · by_cases h1 : t.val % 44 = 43
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5_C t (fun h => h0 ((hcond0_0 t).mp h)) ((hcond0_1 t).mpr h1)], after0_5]
      rw [show (dats m 0 c).leavesExact 6 t = owns (c : Thread nD τ) (ms0_6 t) fullShare ((dats m 0 c).after 6 t) from by
      unfold Dat.leavesExact; rw [liveAt0_6_C t (fun h => h0 ((hcond0_0 t).mp h)) ((hcond0_1 t).mpr h1)], after0_6]
      rw [show (dats m 0 c).leavesExact 7 t = owns (c : Thread nD τ) (ms0_7 t) fullShare ((dats m 0 c).after 7 t) from by
      unfold Dat.leavesExact; rw [idleAt0_7_C t (fun h => h0 ((hcond0_0 t).mp h)) ((hcond0_1 t).mpr h1), flushAt0_7_C t (fun h => h0 ((hcond0_0 t).mp h)) ((hcond0_1 t).mpr h1)], after0_7]
      by_cases hz : t.val = 0
      · exfalso; have hN : t.val < 44 := lt_of_lt_of_eq t.isLt (show cfg0.N = 44 from N_0); omega
      · rw [PhiS_castSucc m c t, PhiS_pos m c _ _ hz]
        rw [outsAt0_C m c t h0 h1]
        simp only [before0_7_C m c t h0 h1]
        unfold out0_C_4 out0_C_5 out0_C_6 out0_C_7 sout0_C_0 sout0_C_1 sout0_C_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) _ _ _ _).2.2.2.2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexact H7
        isplitl [HS0]; · iexact HS0
        isplitl [HS1]; · iexact HS1
        isplitl [HS2]; · iexact HS2
        iintro ⟨H0, H1, H2, H3, ⟨%e4, H4⟩, ⟨%e5, H5⟩, ⟨%e6, H6⟩, H7, HS0, ⟨%es1, HS1⟩, HS2⟩
        isplitl [HS0 HS1 HS2 Hg]
        · isplitl [HS0 HS1 HS2]
          · isplitl [HS0]
            · iexact HS0
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _)
            iexact HS2
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover0_C_5 c _ _ _ _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _ _ _ _ _ _)
        iexact H7
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      by_cases hz : t.val = 0
      · exfalso; have hN : t.val < 44 := lt_of_lt_of_eq t.isLt (show cfg0.N = 44 from N_0); omega
      · rw [PhiS_castSucc m c t, PhiS_pos m c _ _ hz]
        rw [outsAt0_B m c t h0 h1]
        unfold out0_B_4 sout0_B_0 sout0_B_1 sout0_B_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _ _).2.2.2.2.2.2.2 _ _ _ Set.univ _)
        isplitl [H0]; · iexact H0
        isplitl [H1]; · iexact H1
        isplitl [H2]; · iexact H2
        isplitl [H3]; · iexact H3
        isplitl [H4]; · iexists _; iexact H4
        isplitl [H5]; · iexact H5
        isplitl [H6]; · iexact H6
        isplitl [H7]; · iexact H7
        isplitl [HS0]; · iexact HS0
        isplitl [HS1]; · iexact HS1
        isplitl [HS2]; · iexact HS2
        iintro ⟨H0, H1, H2, H3, ⟨%e4, H4⟩, H5, H6, H7, HS0, ⟨%es1, HS1⟩, HS2⟩
        isplitl [HS0 HS1 HS2 Hg]
        · isplitl [HS0 HS1 HS2]
          · isplitl [HS0]
            · iexact HS0
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _)
            iexact HS2
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_B_4 c _ _ _ _ _ _ _ _ _ _ _ _ _ _ _ _ _ _ _ _ _ _ _ _ _ _ _ _ _ _ _ _)
        isplitl [H5]; · iexists _; iexact H5
        isplitl [H6]; · iexists _; iexact H6
        iexists _; iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 44 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Gen

end
-- ==== Proof.Ref.Terms.lean ====
/- The reference's host operations, as functions of its arguments. -/
module

public import Idealize.ShloMosaic.PureOps.Ideal
public import Idealize.ShloMosaic.Lib.Pointwise
public import Idealize.ShloMosaic.Lib.Claim
public import proofs.«01_k».proof.Proof.Gen.ReferenceIdeal.Run

@[expose] public section

set_option maxRecDepth 16384
set_option maxHeartbeats 4000000

noncomputable section

namespace Cert.ReferenceIdeal.Terms

open Idealize.ShloMosaic Idealize.ShloMosaic.TcCoe Idealize.SL.Sem Cert.ReferenceIdeal Cert.ReferenceIdeal.Gen

/-- The row of maxima of the tensors. -/
def ampR (x : FVec Ideal S11x1024x18944 .bf16) : FVec Ideal S256 .f32 :=
  extf .f32 (Host.reduce FloatOps.maximumf (Host.absf (shapeCast S11264x256x74 x shapeCasts_S11x1024x18944_S11264x256x74)) (constant S_ .bf16 0xFF80#16) reducesTo_S11264x256x74_S256_d0_2 h_S_) bitsLt_bf16_f32

/-- The divisor of the remainder, one in place of zero. -/
def divR : IVec S_ 32 := select (cmpi .eq (constantI S_ 32 1024#32) (constantI S_ 32 0#32)) (constantI S_ 32 1#32) (constantI S_ 32 1024#32)

/-- The step modulo 1024. -/
def remR (s : IVec S_ 32) : IVec S_ 32 :=
  select (andi (cmpi .ne (cmpi .slt (Host.remsi s divR) (constantI S_ 32 0#32)) (cmpi .slt divR (constantI S_ 32 0#32))) (cmpi .ne (Host.remsi s divR) (constantI S_ 32 0#32)))
    (addi (Host.remsi s divR) divR) (Host.remsi s divR)

/-- The slot of the history that the step overwrites. -/
def slotR (s : IVec S_ 32) : IVec S1 32 :=
  broadcastInDim S1 ![] bcast_S_S1 (select (cmpi .slt (remR s) (constantI S_ 32 0#32)) (addi (remR s) (constantI S_ 32 1024#32)) (remR s))

/-- The greatest entry of each updated history. -/
def topR (x : FVec Ideal S11x1024x18944 .bf16) (h : FVec Ideal S256x1024 .f32) (s : IVec S_ 32) : FVec Ideal S256 .f32 :=
  Host.reduce FloatOps.maximumf (Host.scatter scatter_S256x1024_S1_S256_0_1_1_0 (fun _ b => b) h (slotR s) (ampR x)) (constant S_ .f32 0xFF800000#32) reducesTo_S256x1024_S256_d1 h_S_

/-- The exponents `-126 … 127`. -/
def expsR : FVec Ideal S254 .f32 := sitofp .f32 (addi (broadcastInDim S254 ![] bcast_S_S254 (constantI S_ 32 4294967170#32)) (iotaInDim S254 32 0))

/-- One more than the greatest exponent whose power of two is at most the magnitude, or minus infinity. -/
def rawR (a : FVec Ideal S256 .f32) : FVec Ideal S256 .f32 :=
  Host.reduce FloatOps.maximumf
    (select (cmpf .oge (broadcastInDim S256x254 ![0, 1] bcast_S256x1_S256x254_0_1 (broadcastInDim S256x1 ![0] bcast_S256_S256x1_0 (Host.absf a)))
        (broadcastInDim S256x254 ![0, 1] bcast_S1x254_S256x254_0_1 (broadcastInDim S1x254 ![1] bcast_S254_S1x254_1 (Host.powf (broadcastInDim S254 ![] bcast_S_S254 (constant S_ .f32 0x40000000#32)) expsR))))
      (broadcastInDim S256x254 ![0, 1] bcast_S1x254_S256x254_0_1 (addf (broadcastInDim S1x254 ![1] bcast_S254_S1x254_1 expsR) (broadcastInDim S1x254 ![] bcast_S_S1x254 (constant S_ .f32 0x3F800000#32))))
      (broadcastInDim S256x254 ![] bcast_S_S256x254 (constant S_ .f32 0xFF800000#32)))
    (constant S_ .f32 0xFF800000#32) reducesTo_S256x254_S256_d1 h_S_

/-- The exponent that `frexp` returns. -/
def frexpR (a : FVec Ideal S256 .f32) : FVec Ideal S256 .f32 :=
  select (ori (cmpf .oeq (rawR a) (broadcastInDim S256 ![] bcast_S_S256 (constant S_ .f32 0xFF800000#32))) (cmpf .oeq (Host.absf a) (broadcastInDim S256 ![] bcast_S_S256 (constant S_ .f32 0x7F800000#32))))
    (broadcastInDim S256 ![] bcast_S_S256 (constant S_ .f32 0x00000000#32)) (rawR a)

/-- `ldexp(1, e)`. -/
def ldexpR (e : FVec Ideal S256 .f32) : FVec Ideal S256 .f32 :=
  select (cmpf .ogt e (broadcastInDim S256 ![] bcast_S_S256 (constant S_ .f32 0x42FE0000#32))) (broadcastInDim S256 ![] bcast_S_S256 (constant S_ .f32 0x7F800000#32))
    (select (cmpf .olt e (broadcastInDim S256 ![] bcast_S_S256 (constant S_ .f32 0xC2FC0000#32))) (broadcastInDim S256 ![] bcast_S_S256 (constant S_ .f32 0x00000000#32))
      (Host.powf (broadcastInDim S256 ![] bcast_S_S256 (constant S_ .f32 0x40000000#32)) e))

/-- The new scales, from the greatest entries of the histories. -/
def newR (top : FVec Ideal S256 .f32) : FVec Ideal S256 .f32 :=
  ldexpR (select (cmpf .oeq top (broadcastInDim S256 ![] bcast_S_S256 (constant S_ .f32 0x00000000#32))) (broadcastInDim S256 ![] bcast_S_S256 (constant S_ .f32 0x00000000#32))
    (frexpR (mulf top (broadcastInDim S256 ![] bcast_S_S256 (constant S_ .f32 0x3B124925#32)))))

/-- The reciprocals of the scales. -/
def invR (s : FVec Ideal S256 .f32) : FVec Ideal S256 .f32 :=
  ldexpR (subf (broadcastInDim S256 ![] bcast_S_S256 (constant S_ .f32 0x3F800000#32)) (frexpR s))

/-- The clipped products. -/
def clipR (x : FVec Ideal S11x1024x18944 .bf16) (s : FVec Ideal S256 .f32) : FVec Ideal S11264x256x74 .f32 :=
  minimumf (broadcastInDim S11264x256x74 ![] bcast_S_S11264x256x74 (constant S_ .f32 0x43E00000#32))
    (maximumf (broadcastInDim S11264x256x74 ![] bcast_S_S11264x256x74 (constant S_ .f32 0xC3E00000#32))
      (mulf (extf .f32 (shapeCast S11264x256x74 x shapeCasts_S11x1024x18944_S11264x256x74) bitsLt_bf16_f32)
        (broadcastInDim S11264x256x74 ![0, 1, 2] bcast_S1x256x1_S11264x256x74_0_1_2 (broadcastInDim S1x256x1 ![1] bcast_S256_S1x256x1_1 (invR s)))))

variable (m : (ℓ : Loc nD τ sig) → Buf (Elt Ideal) ℓ)

/-- The arguments of the reference. -/
def x (c : Dev nD) : FVec Ideal S11x1024x18944 .bf16 := m ((c : Thread nD τ).loc main_arg0)
def h (c : Dev nD) : FVec Ideal S256x1024 .f32 := m ((c : Thread nD τ).loc main_arg1)
def s (c : Dev nD) : FVec Ideal S256 .f32 := m ((c : Thread nD τ).loc main_arg2)
def w (c : Dev nD) : IVec S_ 32 := m ((c : Thread nD τ).loc main_arg3)

/-- The generated term of the new scales is `newR` of `topR`. -/
theorem res49 (c : Dev nD) : Cert.ReferenceIdeal.Value.res_main_v49 m c = shapeCast S1x256 (newR (topR (x m c) (h m c) (w m c))) shapeCasts_S256_S1x256 := by
  unfold Cert.ReferenceIdeal.Value.res_main_v49
  rfl

/-- The generated term of the codes is `clipR`, the cast to fp8 being the identity on the extended reals. -/
theorem res92 (c : Dev nD) : (Cert.ReferenceIdeal.Value.res_main_v92 m c : S11264x18944.Idx → EReal) = shapeCast S11264x18944 (clipR (x m c) (s m c)) shapeCasts_S11264x256x74_S11264x18944 := by
  unfold Cert.ReferenceIdeal.Value.res_main_v92
  rfl

end Cert.ReferenceIdeal.Terms
end
-- ==== Proof.Ref.Run.lean ====
/- The reference's run: its four results over its arguments. -/
module

public import proofs.«01_k».proof.Proof.Ref.Terms
public import proofs.«01_k».proof.Proof.Gen.ReferenceIdeal.Run
public import Idealize.ShloMosaic.Lib.Quiescent

@[expose] public section

set_option maxRecDepth 16384
set_option maxHeartbeats 4000000

noncomputable section

namespace Cert.ReferenceIdeal.Terms

open Idealize.ShloMosaic Idealize.ShloMosaic.TcCoe Idealize.SL.Sem Cert.ReferenceIdeal Cert.ReferenceIdeal.Gen

variable (m : (ℓ : Loc nD τ sig) → Buf (Elt Ideal) ℓ) (ρ : Dev nD → PrngReg)

/-- The reference's run: each result as its term over the arguments, and the arguments unchanged. -/
theorem run : θ_run defs (onTc (τ := τ) (main (F := Ideal))) ⟨m, fun _ => 0, ρ⟩ fun r => ∀ c : Dev nD,
      r.2.mem ((c : Thread nD τ).loc main_v48) = shapeCast S1x256 (ampR (x m c)) shapeCasts_S256_S1x256
      ∧ r.2.mem ((c : Thread nD τ).loc main_v49) = shapeCast S1x256 (newR (topR (x m c) (h m c) (w m c))) shapeCasts_S256_S1x256
      ∧ r.2.mem ((c : Thread nD τ).loc main_v92) = shapeCast S11264x18944 (clipR (x m c) (s m c)) shapeCasts_S11264x256x74_S11264x18944
      ∧ r.2.mem ((c : Thread nD τ).loc main_v50) = shapeCast S1x256 (s m c) shapeCasts_S256_S1x256
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1, (h c).2.1.trans (res49 m c), (h c).2.2.1.trans (res92 m c), (h c).2.2.2.1, (h c).2.2.2.2⟩)
    (Cert.ReferenceIdeal.Value.run m ρ)

/-- The reference's run leaves its arguments, and every counter at zero. -/
theorem frame : θ_run defs (onTc (τ := τ) (main (F := Ideal))) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3))
      ∧ r.2.sem = fun _ => 0 :=
  (θ_run defs _ _).mono (fun r h => ⟨fun c => (h c).2.2.2.2, sem_eq_zero_of_no_sems (by decide) r.2⟩)
    (run m ρ)

end Cert.ReferenceIdeal.Terms
end
-- ==== Proof.Ideal.Value.lean ====
/- What the call leaves in its four results, as functions of what each grid point's run leaves. -/
module

public import proofs.«01_k».proof.Proof.Ideal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 4's array: the run's contents for that window after the body (`Gen.outsAt0`: its component 0), read through the window's block. -/
theorem flushed4 (c : Dev nD) (t : Fin cfg0.N) :
    (dats m 0 c).flushed 4 t = (cfg0.win 4).cut (grid0.coords t) ((outsAt0 m c t.val t.isLt).1) := by
  show (cfg0.win 4).cut (grid0.coords t) ((dats m 0 c).after 4 t) = _
  rw [after0_4]

/-- … so at a point where case A runs, what its write-back would write is that case's NAMED TERM for the window (`Gen.out0_A_4`: the pieces
    its run found, read back) at the point's memrefs and input blocks, and for an output the case reads back what the point before left (`Gen.outsAt0` at `t - 1`) — by the frame's rewriting lemma for the case. -/
theorem flushed4_A (c : Dev nD) (t : Fin cfg0.N) (h0 : t.val % 44 = 0) (h1 : ¬t.val % 44 = 43) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)) := by
  simp only [flushed4, outsAt0_A m c t h0 h1]

/-- … so at a point where case B runs, what its write-back would write is that case's NAMED TERM for the window (`Gen.out0_B_4`: the pieces
    its run found, read back) at the point's memrefs and input blocks, and for an output the case reads back what the point before left (`Gen.outsAt0` at `t - 1`) — by the frame's rewriting lemma for the case. -/
theorem flushed4_B (c : Dev nD) (t : Fin cfg0.N) (h0 : ¬t.val % 44 = 0) (h1 : ¬t.val % 44 = 43) :
    (dats m 0 c).flushed 4 t = (cfg0.win 4).cut (grid0.coords t) (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  simp only [flushed4, outsAt0_B m c t h0 h1]

/-- … so at a point where case C runs, what its write-back would write is that case's NAMED TERM for the window (`Gen.out0_C_4`: the pieces
    its run found, read back) at the point's memrefs and input blocks, and for an output the case reads back what the point before left (`Gen.outsAt0` at `t - 1`) — by the frame's rewriting lemma for the case. -/
theorem flushed4_C (c : Dev nD) (t : Fin cfg0.N) (h0 : ¬t.val % 44 = 0) (h1 : t.val % 44 = 43) :
    (dats m 0 c).flushed 4 t = (cfg0.win 4).cut (grid0.coords t) (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  simp only [flushed4, outsAt0_C m c t h0 h1]

/-- The index map sends distinct grid points to distinct block indices (decided over the 44 points). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S11264x18944.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the run's contents for that window after the body (`Gen.outsAt0`: its component 1), read through the window's block. -/
theorem flushed5 (c : Dev nD) (t : Fin cfg0.N) :
    (dats m 0 c).flushed 5 t = (cfg0.win 5).cut (grid0.coords t) ((outsAt0 m c t.val t.isLt).2.1) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — by the frame's rewriting lemma for the case. -/
theorem flushed5_A (c : Dev nD) (t : Fin cfg0.N) (h0 : t.val % 44 = 0) (h1 : ¬t.val % 44 = 43) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)) := by
  simp only [flushed5, outsAt0_A m c t h0 h1]

/-- … so at a point where case B runs, what its write-back would write is that case's NAMED TERM for the window (`Gen.out0_B_5`: the pieces
    its run found, read back) at the point's memrefs and input blocks, and for an output the case reads back what the point before left (`Gen.outsAt0` at `t - 1`) — by the frame's rewriting lemma for the case. -/
theorem flushed5_B (c : Dev nD) (t : Fin cfg0.N) (h0 : ¬t.val % 44 = 0) (h1 : ¬t.val % 44 = 43) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  simp only [flushed5, outsAt0_B m c t h0 h1]

/-- … so at a point where case C runs, what its write-back would write is that case's NAMED TERM for the window (`Gen.out0_C_5`: the pieces
    its run found, read back) at the point's memrefs and input blocks, and for an output the case reads back what the point before left (`Gen.outsAt0` at `t - 1`) — by the frame's rewriting lemma for the case. -/
theorem flushed5_C (c : Dev nD) (t : Fin cfg0.N) (h0 : ¬t.val % 44 = 0) (h1 : t.val % 44 = 43) :
    (dats m 0 c).flushed 5 t = (cfg0.win 5).cut (grid0.coords t) (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  simp only [flushed5, outsAt0_C m c t h0 h1]

-- no `blocks5`: window 5's index map revisits a block index, or its points could not be enumerated here;
-- the final array is still the frame's `arrAt`, to read with Lib/Pipeline/Value.lean's lemmas by hand

/-- An index that no flushing point's block covers keeps output window 5's array contents at region entry. -/
theorem entry5 (c : Dev nD) (i : S1x256.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the run's contents for that window after the body (`Gen.outsAt0`: its component 2), read through the window's block. -/
theorem flushed6 (c : Dev nD) (t : Fin cfg0.N) :
    (dats m 0 c).flushed 6 t = (cfg0.win 6).cut (grid0.coords t) ((outsAt0 m c t.val t.isLt).2.2.1) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — by the frame's rewriting lemma for the case. -/
theorem flushed6_A (c : Dev nD) (t : Fin cfg0.N) (h0 : t.val % 44 = 0) (h1 : ¬t.val % 44 = 43) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)) := by
  simp only [flushed6, outsAt0_A m c t h0 h1]

/-- … so at a point where case B runs, what its write-back would write is that case's NAMED TERM for the window (`Gen.out0_B_6`: the pieces
    its run found, read back) at the point's memrefs and input blocks, and for an output the case reads back what the point before left (`Gen.outsAt0` at `t - 1`) — by the frame's rewriting lemma for the case. -/
theorem flushed6_B (c : Dev nD) (t : Fin cfg0.N) (h0 : ¬t.val % 44 = 0) (h1 : ¬t.val % 44 = 43) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  simp only [flushed6, outsAt0_B m c t h0 h1]

/-- … so at a point where case C runs, what its write-back would write is that case's NAMED TERM for the window (`Gen.out0_C_6`: the pieces
    its run found, read back) at the point's memrefs and input blocks, and for an output the case reads back what the point before left (`Gen.outsAt0` at `t - 1`) — by the frame's rewriting lemma for the case. -/
theorem flushed6_C (c : Dev nD) (t : Fin cfg0.N) (h0 : ¬t.val % 44 = 0) (h1 : t.val % 44 = 43) :
    (dats m 0 c).flushed 6 t = (cfg0.win 6).cut (grid0.coords t) (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  simp only [flushed6, outsAt0_C m c t h0 h1]

-- no `blocks6`: window 6's index map revisits a block index, or its points could not be enumerated here;
-- the final array is still the frame's `arrAt`, to read with Lib/Pipeline/Value.lean's lemmas by hand

/-- An index that no flushing point's block covers keeps output window 6's array contents at region entry. -/
theorem entry6 (c : Dev nD) (i : S1x256.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the run's contents for that window after the body (`Gen.outsAt0`: its component 3), read through the window's block. -/
theorem flushed7 (c : Dev nD) (t : Fin cfg0.N) :
    (dats m 0 c).flushed 7 t = (cfg0.win 7).cut (grid0.coords t) ((outsAt0 m c t.val t.isLt).2.2.2.1) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — by the frame's rewriting lemma for the case. -/
theorem flushed7_A (c : Dev nD) (t : Fin cfg0.N) (h0 : t.val % 44 = 0) (h1 : ¬t.val % 44 = 43) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)) := by
  simp only [flushed7, outsAt0_A m c t h0 h1]

/-- … so at a point where case B runs, what its write-back would write is that case's NAMED TERM for the window (`Gen.out0_B_7`: the pieces
    its run found, read back) at the point's memrefs and input blocks, and for an output the case reads back what the point before left (`Gen.outsAt0` at `t - 1`) — by the frame's rewriting lemma for the case. -/
theorem flushed7_B (c : Dev nD) (t : Fin cfg0.N) (h0 : ¬t.val % 44 = 0) (h1 : ¬t.val % 44 = 43) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (outsAt0 m c (t.val - 1) (Nat.lt_of_le_of_lt (Nat.sub_le _ _) t.isLt)).2.2.2.1) := by
  simp only [flushed7, outsAt0_B m c t h0 h1]

/-- … so at a point where case C runs, what its write-back would write is that case's NAMED TERM for the window (`Gen.out0_C_7`: the pieces
    its run found, read back) at the point's memrefs and input blocks, and for an output the case reads back what the point before left (`Gen.outsAt0` at `t - 1`) — by the frame's rewriting lemma for the case. -/
theorem flushed7_C (c : Dev nD) (t : Fin cfg0.N) (h0 : ¬t.val % 44 = 0) (h1 : t.val % 44 = 43) :
    (dats m 0 c).flushed 7 t = (cfg0.win 7).cut (grid0.coords t) (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  simp only [flushed7, outsAt0_C m c t h0 h1]

-- no `blocks7`: window 7's index map revisits a block index, or its points could not be enumerated here;
-- the final array is still the frame's `arrAt`, to read with Lib/Pipeline/Value.lean's lemmas by hand

/-- An index that no flushing point's block covers keeps output window 7's array contents at region entry. -/
theorem entry7 (c : Dev nD) (i : S1x256.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v4_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v4_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v4_2) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v4_3) = (dats m 0 c).arrAt 7 cfg0.N :=
  (h c).1 7

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 2 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 2).trans (((dats m 0 c).arrAt_in 2 rfl _).trans ((A_eq m c 2).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v4_0) = (dats m 0 c).arrAt 4 cfg0.N
      ∧ r.2.mem ((c : Thread nD τ).loc main_v4_1) = (dats m 0 c).arrAt 5 cfg0.N
      ∧ r.2.mem ((c : Thread nD τ).loc main_v4_2) = (dats m 0 c).arrAt 6 cfg0.N
      ∧ r.2.mem ((c : Thread nD τ).loc main_v4_3) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      post5 m r h c,
      post6 m r h c,
      post7 m r h c,
      kept_main_arg0 m r h c,
      kept_main_arg1 m r h c,
      kept_main_arg2 m r h c,
      kept_main_arg3 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S16x18944 .bf16) : Vec F S16x18944 .bf16 :=
  if h0 : n % 44 = 0 then
    if h1 : n % 44 = 43 then
      acc
    else
      sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))
  else
    if h1 : n % 44 = 43 then
      sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.1 acc (outsAt0 m c ((⟨n, hb⟩ : Fin cfg0.N).val - 1) (Nat.lt_of_le_of_lt (Nat.sub_le _ _) (⟨n, hb⟩ : Fin cfg0.N).isLt)).2.2.2.2.2.1 (outsAt0 m c ((⟨n, hb⟩ : Fin cfg0.N).val - 1) (Nat.lt_of_le_of_lt (Nat.sub_le _ _) (⟨n, hb⟩ : Fin cfg0.N).isLt)).2.2.2.2.2.2
    else
      sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.2.2.2.1 (outsAt0 m c ((⟨n, hb⟩ : Fin cfg0.N).val - 1) (Nat.lt_of_le_of_lt (Nat.sub_le _ _) (⟨n, hb⟩ : Fin cfg0.N).isLt)).2.2.2.2.2.2

/-- WHAT CARRIED SCRATCH 0 HOLDS after point `t`: the fold of its run up to `t`, from the reset at the run's first point
    `44·(t / 44)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.2.2.1 = Pipeline.accAt (fun n h => scAt0_0 m c n h (VS0_0.read (Elt F) VS0_0.junk)) (scAt0_0 m c) (44 * (t.val / 44)) (t.val % 44)
      (by have h1 := t.isLt; have h2 := Nat.div_add_mod t.val 44; omega) :=
  Pipeline.eq_accAt_of_mod (fun n h => (outsAt0 m c n h).2.2.2.2.1) 44 (fun n h => scAt0_0 m c n h (VS0_0.read (Elt F) VS0_0.junk)) (scAt0_0 m c)
    (fun n h hn => by
      have hN := lt_of_lt_of_eq h (show cfg0.N = 44 from N_0)
      by_cases h0 : n % 44 = 0 <;> by_cases h1 : n % 44 = 43
      all_goals first | (exfalso; omega) | (rw [outsAt0_A m c ⟨n, h⟩ h0 h1]; dsimp only; unfold scAt0_0; rw [dif_pos h0, dif_neg h1] <;> try rfl) | (rw [outsAt0_B m c ⟨n, h⟩ h0 h1]; dsimp only; unfold scAt0_0; rw [dif_neg h0, dif_neg h1] <;> try rfl) | (rw [outsAt0_C m c ⟨n, h⟩ h0 h1]; dsimp only; unfold scAt0_0; rw [dif_neg h0, dif_pos h1] <;> try rfl))
    (fun n h hn => by
      have hN := lt_of_lt_of_eq h (show cfg0.N = 44 from N_0)
      by_cases h0 : (n + 1) % 44 = 0 <;> by_cases h1 : (n + 1) % 44 = 43
      all_goals first | (exfalso; omega) | (rw [outsAt0_A m c ⟨n + 1, h⟩ h0 h1]; dsimp only; unfold scAt0_0; rw [dif_pos h0, dif_neg h1] <;> try rfl) | (rw [outsAt0_B m c ⟨n + 1, h⟩ h0 h1]; dsimp only; unfold scAt0_0; rw [dif_neg h0, dif_neg h1] <;> try rfl) | (rw [outsAt0_C m c ⟨n + 1, h⟩ h0 h1]; dsimp only; unfold scAt0_0; rw [dif_neg h0, dif_pos h1] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2.2.2.1 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 44 from N_0)
  have hd : n / 44 = 0 := Nat.div_eq_of_lt hN
  have hm : n % 44 = n := Nat.mod_eq_of_lt hN
  simpa only [hd, hm, Nat.mul_zero] using e

/-! ## Carried scratch 1: what each point leaves in it, and its fold -/

/-- What point `n` leaves in carried scratch 1, over what the point before left in it (`acc`): the case the conditions'
    closed forms select at `n`, the frame's own term for it (`Gen.sout0_κ_1`; anything else the case takes of the point
    before, another carried scratch or an output it reads back, stays `Gen.outsAt0`'s at `n - 1`); a case at the first point
    stores the scratch whole without reading what it held, and `acc` does not enter there (nor where no point meets the
    conditions: `acc`, never read). -/
def scAt0_1 (c : Dev nD) (n : ℕ) (hb : n < cfg0.N) (acc : Vec F S16x18944 .bf16) : Vec F S16x18944 .bf16 :=
  if h0 : n % 44 = 0 then
    if h1 : n % 44 = 43 then
      acc
    else
      sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))
  else
    if h1 : n % 44 = 43 then
      sout0_C_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2.1 acc (outsAt0 m c ((⟨n, hb⟩ : Fin cfg0.N).val - 1) (Nat.lt_of_le_of_lt (Nat.sub_le _ _) (⟨n, hb⟩ : Fin cfg0.N).isLt)).2.2.2.2.2.2
    else
      sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.2.1 acc (outsAt0 m c ((⟨n, hb⟩ : Fin cfg0.N).val - 1) (Nat.lt_of_le_of_lt (Nat.sub_le _ _) (⟨n, hb⟩ : Fin cfg0.N).isLt)).2.2.2.2.2.2

/-- WHAT CARRIED SCRATCH 1 HOLDS after point `t`: the fold of its run up to `t`, from the reset at the run's first point
    `44·(t / 44)` (Lib/Pipeline/Value.lean `Pipeline.eq_accAt_of_mod`, by the frame's `outsAt0_κ`; without enumerating the points). -/
theorem soutsAt0_1_eq (c : Dev nD) (t : Fin cfg0.N) :
    (outsAt0 m c t.val t.isLt).2.2.2.2.2.1 = Pipeline.accAt (fun n h => scAt0_1 m c n h (VS0_1.read (Elt F) VS0_1.junk)) (scAt0_1 m c) (44 * (t.val / 44)) (t.val % 44)
      (by have h1 := t.isLt; have h2 := Nat.div_add_mod t.val 44; omega) :=
  Pipeline.eq_accAt_of_mod (fun n h => (outsAt0 m c n h).2.2.2.2.2.1) 44 (fun n h => scAt0_1 m c n h (VS0_1.read (Elt F) VS0_1.junk)) (scAt0_1 m c)
    (fun n h hn => by
      have hN := lt_of_lt_of_eq h (show cfg0.N = 44 from N_0)
      by_cases h0 : n % 44 = 0 <;> by_cases h1 : n % 44 = 43
      all_goals first | (exfalso; omega) | (rw [outsAt0_A m c ⟨n, h⟩ h0 h1]; dsimp only; unfold scAt0_1; rw [dif_pos h0, dif_neg h1] <;> try rfl) | (rw [outsAt0_B m c ⟨n, h⟩ h0 h1]; dsimp only; unfold scAt0_1; rw [dif_neg h0, dif_neg h1] <;> try rfl) | (rw [outsAt0_C m c ⟨n, h⟩ h0 h1]; dsimp only; unfold scAt0_1; rw [dif_neg h0, dif_pos h1] <;> try rfl))
    (fun n h hn => by
      have hN := lt_of_lt_of_eq h (show cfg0.N = 44 from N_0)
      by_cases h0 : (n + 1) % 44 = 0 <;> by_cases h1 : (n + 1) % 44 = 43
      all_goals first | (exfalso; omega) | (rw [outsAt0_A m c ⟨n + 1, h⟩ h0 h1]; dsimp only; unfold scAt0_1; rw [dif_pos h0, dif_neg h1] <;> try rfl) | (rw [outsAt0_B m c ⟨n + 1, h⟩ h0 h1]; dsimp only; unfold scAt0_1; rw [dif_neg h0, dif_neg h1] <;> try rfl) | (rw [outsAt0_C m c ⟨n + 1, h⟩ h0 h1]; dsimp only; unfold scAt0_1; rw [dif_neg h0, dif_pos h1] <;> try rfl))
    (by decide) t.val t.isLt _

/-- One run spans the grid (the only reset is at point 0): after point `n` the scratch is the fold from 0 to `n`. -/
theorem soutsAt0_1_sweep (c : Dev nD) (n : ℕ) (hn : n < cfg0.N) :
    (outsAt0 m c n hn).2.2.2.2.2.1 = Pipeline.accAt (fun n h => scAt0_1 m c n h (VS0_1.read (Elt F) VS0_1.junk)) (scAt0_1 m c) 0 n (by omega) := by
  have e := soutsAt0_1_eq m c ⟨n, hn⟩
  have hN := lt_of_lt_of_eq hn (show cfg0.N = 44 from N_0)
  have hd : n / 44 = 0 := Nat.div_eq_of_lt hN
  have hm : n % 44 = n := Nat.mod_eq_of_lt hN
  simpa only [hd, hm, Nat.mul_zero] using e

/-! ## Carried scratch 2: what each point leaves in it, and its fold -/

/-- What point `n` leaves in carried scratch 2, over what the point before left in it (`acc`): the case the conditions'
    closed forms select at `n`, the frame's own term for it (`Gen.sout0_κ_2`; anything else the case takes of the point
    before, another carried scratch or an output it reads back, stays `Gen.outsAt0`'s at `n - 1`); a case at the first point
    stores the scratch whole without reading what it held, and `acc` does not enter there (nor where no point meets the
    conditions: `acc`, never read). -/
def scAt0_2 (c : Dev nD) (n : ℕ) (hb : n < cfg0.N) (acc : Vec F S1x256 .f32) : Vec F S1x256 .f32 :=
  if h0 : n % 44 = 0 then
    if h1 : n % 44 = 43 then
      acc
    else
      sout0_A_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))
  else
    if h1 : n % 44 = 43 then
      sout0_C_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2.1 (outsAt0 m c ((⟨n, hb⟩ : Fin cfg0.N).val - 1) (Nat.lt_of_le_of_lt (Nat.sub_le _ _) (⟨n, hb⟩ : Fin cfg0.N).isLt)).2.2.2.2.2.1 acc
    else
      sout0_B_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.2.1 (outsAt0 m c ((⟨n, hb⟩ : Fin cfg0.N).val - 1) (Nat.lt_of_le_of_lt (Nat.sub_le _ _) (⟨n, hb⟩ : Fin cfg0.N).isLt)).2.2.2.2.2.1 acc

/-- WHAT CARRIED SCRATCH 2 HOLDS after point `t`: the fold of its run up to `t`, from the reset at the run's first point
    `44·(t / 44)` (Lib/Pipeline/Value.lean `Pipeline.eq_accAt_of_mod`, by the frame's `outsAt0_κ`; without enumerating the points). -/
theorem soutsAt0_2_eq (c : Dev nD) (t : Fin cfg0.N) :
    (outsAt0 m c t.val t.isLt).2.2.2.2.2.2 = Pipeline.accAt (fun n h => scAt0_2 m c n h (VS0_2.read (Elt F) VS0_2.junk)) (scAt0_2 m c) (44 * (t.val / 44)) (t.val % 44)
      (by have h1 := t.isLt; have h2 := Nat.div_add_mod t.val 44; omega) :=
  Pipeline.eq_accAt_of_mod (fun n h => (outsAt0 m c n h).2.2.2.2.2.2) 44 (fun n h => scAt0_2 m c n h (VS0_2.read (Elt F) VS0_2.junk)) (scAt0_2 m c)
    (fun n h hn => by
      have hN := lt_of_lt_of_eq h (show cfg0.N = 44 from N_0)
      by_cases h0 : n % 44 = 0 <;> by_cases h1 : n % 44 = 43
      all_goals first | (exfalso; omega) | (rw [outsAt0_A m c ⟨n, h⟩ h0 h1]; dsimp only; unfold scAt0_2; rw [dif_pos h0, dif_neg h1] <;> try rfl) | (rw [outsAt0_B m c ⟨n, h⟩ h0 h1]; dsimp only; unfold scAt0_2; rw [dif_neg h0, dif_neg h1] <;> try rfl) | (rw [outsAt0_C m c ⟨n, h⟩ h0 h1]; dsimp only; unfold scAt0_2; rw [dif_neg h0, dif_pos h1] <;> try rfl))
    (fun n h hn => by
      have hN := lt_of_lt_of_eq h (show cfg0.N = 44 from N_0)
      by_cases h0 : (n + 1) % 44 = 0 <;> by_cases h1 : (n + 1) % 44 = 43
      all_goals first | (exfalso; omega) | (rw [outsAt0_A m c ⟨n + 1, h⟩ h0 h1]; dsimp only; unfold scAt0_2; rw [dif_pos h0, dif_neg h1] <;> try rfl) | (rw [outsAt0_B m c ⟨n + 1, h⟩ h0 h1]; dsimp only; unfold scAt0_2; rw [dif_neg h0, dif_neg h1] <;> try rfl) | (rw [outsAt0_C m c ⟨n + 1, h⟩ h0 h1]; dsimp only; unfold scAt0_2; rw [dif_neg h0, dif_pos h1] <;> try rfl))
    (by decide) t.val t.isLt _

/-- One run spans the grid (the only reset is at point 0): after point `n` the scratch is the fold from 0 to `n`. -/
theorem soutsAt0_2_sweep (c : Dev nD) (n : ℕ) (hn : n < cfg0.N) :
    (outsAt0 m c n hn).2.2.2.2.2.2 = Pipeline.accAt (fun n h => scAt0_2 m c n h (VS0_2.read (Elt F) VS0_2.junk)) (scAt0_2 m c) 0 n (by omega) := by
  have e := soutsAt0_2_eq m c ⟨n, hn⟩
  have hN := lt_of_lt_of_eq hn (show cfg0.N = 44 from N_0)
  have hd : n / 44 = 0 := Nat.div_eq_of_lt hN
  have hm : n % 44 = n := Nat.mod_eq_of_lt hN
  simpa only [hd, hm, Nat.mul_zero] using e

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S256x18944 .fp8e4m3 × Vec F S1x256 .f32 × Vec F S1x256 .f32 × Vec F S1x256 .f32 × Vec F S16x18944 .bf16 × Vec F S16x18944 .bf16 × Vec F S1x256 .f32 :=
  ((VO0_4.read (Elt F) VO0_4.junk, VO0_5.read (Elt F) VO0_5.junk, VO0_6.read (Elt F) VO0_6.junk, VO0_7.read (Elt F) VO0_7.junk, VS0_0.read (Elt F) VS0_0.junk, VS0_1.read (Elt F) VS0_1.junk, VS0_2.read (Elt F) VS0_2.junk) : Vec F S256x18944 .fp8e4m3 × Vec F S1x256 .f32 × Vec F S1x256 .f32 × Vec F S1x256 .f32 × Vec F S16x18944 .bf16 × Vec F S16x18944 .bf16 × Vec F S1x256 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S256x18944 .fp8e4m3 × Vec F S1x256 .f32 × Vec F S1x256 .f32 × Vec F S1x256 .f32 × Vec F S16x18944 .bf16 × Vec F S16x18944 .bf16 × Vec F S1x256 .f32) : Vec F S256x18944 .fp8e4m3 × Vec F S1x256 .f32 × Vec F S1x256 .f32 × Vec F S1x256 .f32 × Vec F S16x18944 .bf16 × Vec F S16x18944 .bf16 × Vec F S1x256 .f32 :=
  if h0 : n % 44 = 0 then
    if h1 : n % 44 = 43 then
      False.elim (by have hN : n < 44 := lt_of_lt_of_eq hb (show cfg0.N = 44 from N_0); omega)
    else
      (out0_A_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)), out0_A_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)), out0_A_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)), out0_A_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)), sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)), sout0_A_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)))
  else
    if h1 : n % 44 = 43 then
      (out0_C_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.2.1 acc.2.2.2.2.1 acc.2.2.2.2.2.1 acc.2.2.2.2.2.2, out0_C_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.2.1 acc.2.2.2.2.1 acc.2.2.2.2.2.1 acc.2.2.2.2.2.2, out0_C_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.2.1 acc.2.2.2.2.1 acc.2.2.2.2.2.1 acc.2.2.2.2.2.2, out0_C_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.2.1 acc.2.2.2.2.1 acc.2.2.2.2.2.1 acc.2.2.2.2.2.2, sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.2.1 acc.2.2.2.2.1 acc.2.2.2.2.2.1 acc.2.2.2.2.2.2, sout0_C_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.2.1 acc.2.2.2.2.1 acc.2.2.2.2.2.1 acc.2.2.2.2.2.2, sout0_C_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.2.1 acc.2.2.2.2.1 acc.2.2.2.2.2.1 acc.2.2.2.2.2.2)
    else
      (out0_B_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.2.2.1 acc.2.2.2.2.2.1 acc.2.2.2.2.2.2, out0_B_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.2.2.1 acc.2.2.2.2.2.1 acc.2.2.2.2.2.2, out0_B_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.2.2.1 acc.2.2.2.2.2.1 acc.2.2.2.2.2.2, out0_B_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.2.2.1 acc.2.2.2.2.2.1 acc.2.2.2.2.2.2 acc.2.2.2.1, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.2.2.1 acc.2.2.2.2.2.1 acc.2.2.2.2.2.2, sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.2.2.1 acc.2.2.2.2.2.1 acc.2.2.2.2.2.2, sout0_B_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.2.2.1 acc.2.2.2.2.2.1 acc.2.2.2.2.2.2)

/-- `stAt0` at a point of case A: that case's contents. -/
theorem stAt0_A (c : Dev nD) (t : Fin cfg0.N) (acc : Vec F S256x18944 .fp8e4m3 × Vec F S1x256 .f32 × Vec F S1x256 .f32 × Vec F S1x256 .f32 × Vec F S16x18944 .bf16 × Vec F S16x18944 .bf16 × Vec F S1x256 .f32) (h0 : t.val % 44 = 0) (h1 : ¬t.val % 44 = 43) :
    stAt0 m c t.val t.isLt acc = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)) :=
  (dif_pos h0).trans ((dif_neg h1).trans rfl)

/-- `stAt0` at a point of case B: that case's contents, over `acc`. -/
theorem stAt0_B (c : Dev nD) (t : Fin cfg0.N) (acc : Vec F S256x18944 .fp8e4m3 × Vec F S1x256 .f32 × Vec F S1x256 .f32 × Vec F S1x256 .f32 × Vec F S16x18944 .bf16 × Vec F S16x18944 .bf16 × Vec F S1x256 .f32) (h0 : ¬t.val % 44 = 0) (h1 : ¬t.val % 44 = 43) :
    stAt0 m c t.val t.isLt acc = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) acc.2.2.2.2.1 acc.2.2.2.2.2.1 acc.2.2.2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) acc.2.2.2.2.1 acc.2.2.2.2.2.1 acc.2.2.2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) acc.2.2.2.2.1 acc.2.2.2.2.2.1 acc.2.2.2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) acc.2.2.2.2.1 acc.2.2.2.2.2.1 acc.2.2.2.2.2.2 acc.2.2.2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) acc.2.2.2.2.1 acc.2.2.2.2.2.1 acc.2.2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) acc.2.2.2.2.1 acc.2.2.2.2.2.1 acc.2.2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) acc.2.2.2.2.1 acc.2.2.2.2.2.1 acc.2.2.2.2.2.2) :=
  (dif_neg h0).trans ((dif_neg h1).trans rfl)

/-- `stAt0` at a point of case C: that case's contents, over `acc`. -/
theorem stAt0_C (c : Dev nD) (t : Fin cfg0.N) (acc : Vec F S256x18944 .fp8e4m3 × Vec F S1x256 .f32 × Vec F S1x256 .f32 × Vec F S1x256 .f32 × Vec F S16x18944 .bf16 × Vec F S16x18944 .bf16 × Vec F S1x256 .f32) (h0 : ¬t.val % 44 = 0) (h1 : t.val % 44 = 43) :
    stAt0 m c t.val t.isLt acc = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) acc.2.2.2.1 acc.2.2.2.2.1 acc.2.2.2.2.2.1 acc.2.2.2.2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) acc.2.2.2.1 acc.2.2.2.2.1 acc.2.2.2.2.2.1 acc.2.2.2.2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) acc.2.2.2.1 acc.2.2.2.2.1 acc.2.2.2.2.2.1 acc.2.2.2.2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) acc.2.2.2.1 acc.2.2.2.2.1 acc.2.2.2.2.2.1 acc.2.2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) acc.2.2.2.1 acc.2.2.2.2.1 acc.2.2.2.2.2.1 acc.2.2.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) acc.2.2.2.1 acc.2.2.2.2.1 acc.2.2.2.2.2.1 acc.2.2.2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) acc.2.2.2.1 acc.2.2.2.2.1 acc.2.2.2.2.2.1 acc.2.2.2.2.2.2) :=
  (dif_neg h0).trans ((dif_pos h1).trans rfl)

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _) (fun h => by (try dsimp only at h); omega)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 44 from N_0)
  have e := Pipeline.eq_accAt_of_mod (fun n h => outsAt0 m c n h) 44 (fun n h => stAt0 m c n h junk0) (stAt0 m c)
    (fun n h _ => by
      have hN := lt_of_lt_of_eq h (show cfg0.N = 44 from N_0)
      obtain rfl : n = 0 := by omega
      exact outsAt0_zero m c h)
    (fun n h _ => outsAt0_succ m c n h)
    (by decide) n hn (by have := Nat.div_add_mod n 44; omega)
  have hd : n / 44 = 0 := Nat.div_eq_of_lt hN
  have hm : n % 44 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 4 -/

/-- The block of the array that holds index `i`, numbered in the order the points write the blocks back (one per point),
    `i`'s place in it, and the point that writes it back. -/
abbrev run4Of (i : S11264x18944.Idx) : ℕ := 1 * ((i 0).val / 256 - 0) + 1 * ((i 1).val / 18944 - 0)
set_option backward.proofsInPublic true in
abbrev loc4Of (i : S11264x18944.Idx) : S256x18944.Idx := fun a => match a with
  | ⟨0, _⟩ => ⟨(i 0).val % 256, Nat.mod_lt _ (by decide)⟩
  | ⟨1, _⟩ => ⟨(i 1).val % 18944, Nat.mod_lt _ (by decide)⟩
abbrev pt4Of (i : S11264x18944.Idx) : ℕ := run4Of i

/-- WHAT THE ARRAY ENDS HOLDING at index `i` inside the box the flushing blocks fill: output 4's component of the carried
    state's fold at the point that writes `i`'s block back, at `i`'s place in the block. `G4` states the array's contents
    only inside the box. -/
def G4 (c : Dev nD) : Buf (Elt F) ((c : Thread nD τ).loc main_v4_0) := fun i =>
  if h : pt4Of i < cfg0.N then
    (Pipeline.accAt (fun n h => stAt0 m c n h junk0) (stAt0 m c) 0 (pt4Of i) (by omega)).1 (loc4Of i)
  else V m c (Pipeline.arrRef spec0 4) i

/-- The printed index map, decided over the grid: output window 4's block indices stay in the box, and the block number
    read off them is the point's (`t`). -/
theorem idx_facts4 : ∀ t : Fin cfg0.N, 0 ≤ win0_4.index t (0 : Fin 2) ∧ win0_4.index t (0 : Fin 2) ≤ 43
    ∧ 0 ≤ win0_4.index t (1 : Fin 2) ∧ win0_4.index t (1 : Fin 2) ≤ 0
    ∧ 1 * (win0_4.index t (0 : Fin 2) - 0) + 1 * (win0_4.index t (1 : Fin 2) - 0) = t.val :=
  (by decide +kernel : ∀ t : Fin grid0.N, _)

/-- Every block of the box is SOME flushing point's: `onto4Pt`, the point that writes back the block at place `q` of the box. -/
abbrev onto4Pt (q0 : Fin 44) (q1 : Fin 1) : Fin grid0.N :=
  ⟨1 * q0.val + 1 * q1.val, lt_of_lt_of_eq (by omega) N_0.symm⟩
theorem idx_onto4 : ∀ (q0 : Fin 44) (q1 : Fin 1), ∃ t : Fin cfg0.N, (cfg0.win 4).flush t = true ∧ win0_4.index t = ![q0.val + 0, q1.val + 0] :=
  fun q0 q1 => ⟨onto4Pt q0 q1, (by decide +kernel : ∀ (q0 : Fin 44) (q1 : Fin 1), win0_4.flush (onto4Pt q0 q1) = true ∧ win0_4.index (onto4Pt q0 q1) = ![q0.val + 0, q1.val + 0]) q0 q1⟩

/-- WHAT A FLUSHING POINT `t` WRITES BACK is block `t` of `G4`: output 4's component of the fold up to `t`. -/
theorem flushed4_eq (c : Dev nD) (t : Fin cfg0.N) (hf : (cfg0.win 4).flush t = true) :
    (dats m 0 c).flushed 4 t = ((cfg0.win 4).blk t).view.read (Elt F) (G4 m c) := by
  show (cfg0.win 4).cut (grid0.coords t) ((dats m 0 c).after 4 t) = _
  rw [after0_4, outsAt0_sweep]
  obtain ⟨e0, e1, e2⟩ := idx_facts4 t
  funext y
  have hy0 : (y 0).val < 256 := (y 0).isLt
  have hy1 : (y 1).val < 18944 := (y 1).isLt
  have hb0 : (((cfg0.win 4).blk t).view.emb y 0).val = win0_4.index t (0 : Fin 2) * 256 + 1 * (y 0).val := rfl
  have hb1 : (((cfg0.win 4).blk t).view.emb y 1).val = win0_4.index t (1 : Fin 2) * 18944 + 1 * (y 1).val := rfl
  have hr : run4Of (((cfg0.win 4).blk t).view.emb y) = t.val := by
    show 1 * ((((cfg0.win 4).blk t).view.emb y 0).val / 256 - 0) + 1 * ((((cfg0.win 4).blk t).view.emb y 1).val / 18944 - 0) = _
    rw [hb0, hb1]
    rw [show (win0_4.index t (0 : Fin 2) * 256 + 1 * (y 0).val) / 256 = win0_4.index t (0 : Fin 2) from by omega]; rw [show (win0_4.index t (1 : Fin 2) * 18944 + 1 * (y 1).val) / 18944 = win0_4.index t (1 : Fin 2) from by omega]
    omega
  have hl : loc4Of (((cfg0.win 4).blk t).view.emb y) = (cfg0.win 4).xinj (grid0.coords t) y := by
    funext a; apply Fin.ext
    match a with
    | ⟨0, _⟩ => show (((cfg0.win 4).blk t).view.emb y 0).val % 256 = (y 0).val; rw [hb0]; omega
    | ⟨1, _⟩ => show (((cfg0.win 4).blk t).view.emb y 1).val % 18944 = (y 1).val; rw [hb1]; omega
  have hp : pt4Of (((cfg0.win 4).blk t).view.emb y) = t.val := by
    exact hr
  show (Pipeline.accAt (fun n h => stAt0 m c n h junk0) (stAt0 m c) 0 t.val _).1 ((cfg0.win 4).xinj (grid0.coords t) y) = G4 m c (((cfg0.win 4).blk t).view.emb y)
  unfold G4
  rw [dif_pos (by rw [hp]; exact t.isLt), hl, fold0_congr m c _ _ _ _ hp.symm]

/-- An index of the array is in point `t`'s block iff each coordinate is in the block's range on its axis. -/
theorem mem_blk4 (t : Fin cfg0.N) (i : S11264x18944.Idx) :
    i ∈ ((cfg0.win 4).blk t).view.set ↔ ∀ a : Fin 2, win0_4.index t a * S256x18944.size a ≤ (i a).val ∧ (i a).val < win0_4.index t a * S256x18944.size a + S256x18944.size a := by
  show i ∈ ((View.whole main_v4_0).slice (win0_4.rect t)).set ↔ _
  rw [View.set_slice_whole, Rect.mem_set_unit]
  exact Iff.rfl

/-- THE COVERED INDICES: in some flushing point's block iff inside the box those blocks fill. -/
theorem covered_iff4 (i : S11264x18944.Idx) :
    (∃ t : Fin cfg0.N, (cfg0.win 4).flush t = true ∧ i ∈ ((cfg0.win 4).blk t).view.set) ↔ 0 ≤ (i 0).val ∧ (i 0).val < 11264 ∧ 0 ≤ (i 1).val ∧ (i 1).val < 18944 := by
  constructor
  · rintro ⟨t, -, hi⟩
    rw [mem_blk4] at hi
    have b0 : win0_4.index t (0 : Fin 2) * 256 ≤ (i 0).val ∧ (i 0).val < win0_4.index t (0 : Fin 2) * 256 + 256 := hi 0
    have b1 : win0_4.index t (1 : Fin 2) * 18944 ≤ (i 1).val ∧ (i 1).val < win0_4.index t (1 : Fin 2) * 18944 + 18944 := hi 1
    obtain ⟨e0, e1, e2⟩ := idx_facts4 t
    omega
  · intro h
    have hi0 : (i 0).val < 11264 := (i 0).isLt
    have hi1 : (i 1).val < 18944 := (i 1).isLt
    obtain ⟨t, hft, ht⟩ := idx_onto4 ⟨(i 0).val / 256 - 0, by omega⟩ ⟨(i 1).val / 18944 - 0, by omega⟩
    have q0 : win0_4.index t (0 : Fin 2) = (i 0).val / 256 - 0 + 0 := congrFun ht 0
    have q1 : win0_4.index t (1 : Fin 2) = (i 1).val / 18944 - 0 + 0 := congrFun ht 1
    refine ⟨t, hft, ?_⟩
    rw [mem_blk4]
    intro a
    match a with
    | ⟨0, _⟩ => show win0_4.index t (0 : Fin 2) * 256 ≤ (i 0).val ∧ (i 0).val < win0_4.index t (0 : Fin 2) * 256 + 256; omega
    | ⟨1, _⟩ => show win0_4.index t (1 : Fin 2) * 18944 ≤ (i 1).val ∧ (i 1).val < win0_4.index t (1 : Fin 2) * 18944 + 18944; omega

/-- THE ARRAY after the run: `G4` (the flushing blocks tile it). -/
theorem final4 (c : Dev nD) : (dats m 0 c).arrAt 4 cfg0.N = G4 m c :=
  (dats m 0 c).arrAt_eq_of_cover 4 _ (fun t hf => flushed4_eq m c t hf) (fun i => (covered_iff4 i).2 (by
    have h0 : (i 0).val < 11264 := (i 0).isLt; have h1 : (i 1).val < 18944 := (i 1).isLt; omega))

/-! ## Output window 5 -/

/-- The block of the array that holds index `i`, numbered in the order the points write the blocks back (one every 44 points),
    `i`'s place in it, and the point that writes it back (the last of its 44). -/
abbrev run5Of (i : S1x256.Idx) : ℕ := 1 * ((i 0).val / 1 - 0) + 1 * ((i 1).val / 256 - 0)
set_option backward.proofsInPublic true in
abbrev loc5Of (i : S1x256.Idx) : S1x256.Idx := fun a => match a with
  | ⟨0, _⟩ => ⟨(i 0).val % 1, Nat.mod_lt _ (by decide)⟩
  | ⟨1, _⟩ => ⟨(i 1).val % 256, Nat.mod_lt _ (by decide)⟩
abbrev pt5Of (i : S1x256.Idx) : ℕ := 44 * run5Of i + 43

/-- WHAT THE ARRAY ENDS HOLDING at index `i` inside the box the flushing blocks fill: output 5's component of the carried
    state's fold at the point that writes `i`'s block back, at `i`'s place in the block. `G5` states the array's contents
    only inside the box. -/
def G5 (c : Dev nD) : Buf (Elt F) ((c : Thread nD τ).loc main_v4_1) := fun i =>
  if h : pt5Of i < cfg0.N then
    (Pipeline.accAt (fun n h => stAt0 m c n h junk0) (stAt0 m c) 0 (pt5Of i) (by omega)).2.1 (loc5Of i)
  else V m c (Pipeline.arrRef spec0 5) i

/-- The printed index map, decided over the grid: output window 5's block indices stay in the box, and the block number
    read off them is the point's (`t / 44`). -/
theorem idx_facts5 : ∀ t : Fin cfg0.N, 0 ≤ win0_5.index t (0 : Fin 2) ∧ win0_5.index t (0 : Fin 2) ≤ 0
    ∧ 0 ≤ win0_5.index t (1 : Fin 2) ∧ win0_5.index t (1 : Fin 2) ≤ 0
    ∧ 1 * (win0_5.index t (0 : Fin 2) - 0) + 1 * (win0_5.index t (1 : Fin 2) - 0) = t.val / 44 :=
  (by decide +kernel : ∀ t : Fin grid0.N, _)

/-- Every block of the box is SOME flushing point's: `onto5Pt`, the point that writes back the block at place `q` of the box (the last point of its run). -/
abbrev onto5Pt (q0 : Fin 1) (q1 : Fin 1) : Fin grid0.N :=
  ⟨44 * (1 * q0.val + 1 * q1.val) + 43, lt_of_lt_of_eq (by omega) N_0.symm⟩
theorem idx_onto5 : ∀ (q0 : Fin 1) (q1 : Fin 1), ∃ t : Fin cfg0.N, (cfg0.win 5).flush t = true ∧ win0_5.index t = ![q0.val + 0, q1.val + 0] :=
  fun q0 q1 => ⟨onto5Pt q0 q1, (by decide +kernel : ∀ (q0 : Fin 1) (q1 : Fin 1), win0_5.flush (onto5Pt q0 q1) = true ∧ win0_5.index (onto5Pt q0 q1) = ![q0.val + 0, q1.val + 0]) q0 q1⟩

/-- WHAT A FLUSHING POINT `t` WRITES BACK is block `t` of `G5`: output 5's component of the fold up to `t`. -/
theorem flushed5_eq (c : Dev nD) (t : Fin cfg0.N) (hf : (cfg0.win 5).flush t = true) :
    (dats m 0 c).flushed 5 t = ((cfg0.win 5).blk t).view.read (Elt F) (G5 m c) := by
  show (cfg0.win 5).cut (grid0.coords t) ((dats m 0 c).after 5 t) = _
  rw [after0_5, outsAt0_sweep]
  have hm : t.val % 44 = 43 := (flush0_5 t).mp hf
  obtain ⟨e0, e1, e2⟩ := idx_facts5 t
  funext y
  have hy0 : (y 0).val < 1 := (y 0).isLt
  have hy1 : (y 1).val < 256 := (y 1).isLt
  have hb0 : (((cfg0.win 5).blk t).view.emb y 0).val = win0_5.index t (0 : Fin 2) * 1 + 1 * (y 0).val := rfl
  have hb1 : (((cfg0.win 5).blk t).view.emb y 1).val = win0_5.index t (1 : Fin 2) * 256 + 1 * (y 1).val := rfl
  have hr : run5Of (((cfg0.win 5).blk t).view.emb y) = t.val / 44 := by
    show 1 * ((((cfg0.win 5).blk t).view.emb y 0).val / 1 - 0) + 1 * ((((cfg0.win 5).blk t).view.emb y 1).val / 256 - 0) = _
    rw [hb0, hb1]
    rw [show (win0_5.index t (0 : Fin 2) * 1 + 1 * (y 0).val) / 1 = win0_5.index t (0 : Fin 2) from by omega]; rw [show (win0_5.index t (1 : Fin 2) * 256 + 1 * (y 1).val) / 256 = win0_5.index t (1 : Fin 2) from by omega]
    omega
  have hl : loc5Of (((cfg0.win 5).blk t).view.emb y) = (cfg0.win 5).xinj (grid0.coords t) y := by
    funext a; apply Fin.ext
    match a with
    | ⟨0, _⟩ => show (((cfg0.win 5).blk t).view.emb y 0).val % 1 = (y 0).val; rw [hb0]; omega
    | ⟨1, _⟩ => show (((cfg0.win 5).blk t).view.emb y 1).val % 256 = (y 1).val; rw [hb1]; omega
  have hp : pt5Of (((cfg0.win 5).blk t).view.emb y) = t.val := by
    show 44 * run5Of (((cfg0.win 5).blk t).view.emb y) + 43 = _
    rw [hr]; have := Nat.div_add_mod t.val 44; omega
  show (Pipeline.accAt (fun n h => stAt0 m c n h junk0) (stAt0 m c) 0 t.val _).2.1 ((cfg0.win 5).xinj (grid0.coords t) y) = G5 m c (((cfg0.win 5).blk t).view.emb y)
  unfold G5
  rw [dif_pos (by rw [hp]; exact t.isLt), hl, fold0_congr m c _ _ _ _ hp.symm]

/-- An index of the array is in point `t`'s block iff each coordinate is in the block's range on its axis. -/
theorem mem_blk5 (t : Fin cfg0.N) (i : S1x256.Idx) :
    i ∈ ((cfg0.win 5).blk t).view.set ↔ ∀ a : Fin 2, win0_5.index t a * S1x256.size a ≤ (i a).val ∧ (i a).val < win0_5.index t a * S1x256.size a + S1x256.size a := by
  show i ∈ ((View.whole main_v4_1).slice (win0_5.rect t)).set ↔ _
  rw [View.set_slice_whole, Rect.mem_set_unit]
  exact Iff.rfl

/-- THE COVERED INDICES: in some flushing point's block iff inside the box those blocks fill. -/
theorem covered_iff5 (i : S1x256.Idx) :
    (∃ t : Fin cfg0.N, (cfg0.win 5).flush t = true ∧ i ∈ ((cfg0.win 5).blk t).view.set) ↔ 0 ≤ (i 0).val ∧ (i 0).val < 1 ∧ 0 ≤ (i 1).val ∧ (i 1).val < 256 := by
  constructor
  · rintro ⟨t, -, hi⟩
    rw [mem_blk5] at hi
    have b0 : win0_5.index t (0 : Fin 2) * 1 ≤ (i 0).val ∧ (i 0).val < win0_5.index t (0 : Fin 2) * 1 + 1 := hi 0
    have b1 : win0_5.index t (1 : Fin 2) * 256 ≤ (i 1).val ∧ (i 1).val < win0_5.index t (1 : Fin 2) * 256 + 256 := hi 1
    obtain ⟨e0, e1, e2⟩ := idx_facts5 t
    omega
  · intro h
    have hi0 : (i 0).val < 1 := (i 0).isLt
    have hi1 : (i 1).val < 256 := (i 1).isLt
    obtain ⟨t, hft, ht⟩ := idx_onto5 ⟨(i 0).val / 1 - 0, by omega⟩ ⟨(i 1).val / 256 - 0, by omega⟩
    have q0 : win0_5.index t (0 : Fin 2) = (i 0).val / 1 - 0 + 0 := congrFun ht 0
    have q1 : win0_5.index t (1 : Fin 2) = (i 1).val / 256 - 0 + 0 := congrFun ht 1
    refine ⟨t, hft, ?_⟩
    rw [mem_blk5]
    intro a
    match a with
    | ⟨0, _⟩ => show win0_5.index t (0 : Fin 2) * 1 ≤ (i 0).val ∧ (i 0).val < win0_5.index t (0 : Fin 2) * 1 + 1; omega
    | ⟨1, _⟩ => show win0_5.index t (1 : Fin 2) * 256 ≤ (i 1).val ∧ (i 1).val < win0_5.index t (1 : Fin 2) * 256 + 256; omega

/-- THE ARRAY after the run: `G5` (the flushing blocks tile it). -/
theorem final5 (c : Dev nD) : (dats m 0 c).arrAt 5 cfg0.N = G5 m c :=
  (dats m 0 c).arrAt_eq_of_cover 5 _ (fun t hf => flushed5_eq m c t hf) (fun i => (covered_iff5 i).2 (by
    have h0 : (i 0).val < 1 := (i 0).isLt; have h1 : (i 1).val < 256 := (i 1).isLt; omega))

/-- Output 5 is written back ONCE, at the last point, and its block is its array: the array after the run is output 5's
    component of the fold over the whole grid — where a hand proof over this window starts. -/
theorem G5_last (c : Dev nD) :
    G5 m c = (Pipeline.accAt (fun n h => stAt0 m c n h junk0) (stAt0 m c) 0 43 (lt_of_lt_of_eq (by decide) N_0.symm)).2.1 := by
  funext i
  have hi0 : (i 0).val < 1 := (i 0).isLt
  have hi1 : (i 1).val < 256 := (i 1).isLt
  have hp : pt5Of i = 43 := by
    show 44 * (1 * ((i 0).val / 1 - 0) + 1 * ((i 1).val / 256 - 0)) + 43 = _
    omega
  have hl : loc5Of i = i := by
    funext a; apply Fin.ext
    match a with
    | ⟨0, _⟩ => show (i 0).val % 1 = (i 0).val; omega
    | ⟨1, _⟩ => show (i 1).val % 256 = (i 1).val; omega
  unfold G5
  rw [dif_pos (by rw [hp]; exact lt_of_lt_of_eq (by decide) N_0.symm), hl, fold0_congr m c _ _ _ _ hp]

/-! ## Output window 6 -/

/-- The block of the array that holds index `i`, numbered in the order the points write the blocks back (one every 44 points),
    `i`'s place in it, and the point that writes it back (the last of its 44). -/
abbrev run6Of (i : S1x256.Idx) : ℕ := 1 * ((i 0).val / 1 - 0) + 1 * ((i 1).val / 256 - 0)
set_option backward.proofsInPublic true in
abbrev loc6Of (i : S1x256.Idx) : S1x256.Idx := fun a => match a with
  | ⟨0, _⟩ => ⟨(i 0).val % 1, Nat.mod_lt _ (by decide)⟩
  | ⟨1, _⟩ => ⟨(i 1).val % 256, Nat.mod_lt _ (by decide)⟩
abbrev pt6Of (i : S1x256.Idx) : ℕ := 44 * run6Of i + 43

/-- WHAT THE ARRAY ENDS HOLDING at index `i` inside the box the flushing blocks fill: output 6's component of the carried
    state's fold at the point that writes `i`'s block back, at `i`'s place in the block. `G6` states the array's contents
    only inside the box. -/
def G6 (c : Dev nD) : Buf (Elt F) ((c : Thread nD τ).loc main_v4_2) := fun i =>
  if h : pt6Of i < cfg0.N then
    (Pipeline.accAt (fun n h => stAt0 m c n h junk0) (stAt0 m c) 0 (pt6Of i) (by omega)).2.2.1 (loc6Of i)
  else V m c (Pipeline.arrRef spec0 6) i

/-- The printed index map, decided over the grid: output window 6's block indices stay in the box, and the block number
    read off them is the point's (`t / 44`). -/
theorem idx_facts6 : ∀ t : Fin cfg0.N, 0 ≤ win0_6.index t (0 : Fin 2) ∧ win0_6.index t (0 : Fin 2) ≤ 0
    ∧ 0 ≤ win0_6.index t (1 : Fin 2) ∧ win0_6.index t (1 : Fin 2) ≤ 0
    ∧ 1 * (win0_6.index t (0 : Fin 2) - 0) + 1 * (win0_6.index t (1 : Fin 2) - 0) = t.val / 44 :=
  (by decide +kernel : ∀ t : Fin grid0.N, _)

/-- Every block of the box is SOME flushing point's: `onto6Pt`, the point that writes back the block at place `q` of the box (the last point of its run). -/
abbrev onto6Pt (q0 : Fin 1) (q1 : Fin 1) : Fin grid0.N :=
  ⟨44 * (1 * q0.val + 1 * q1.val) + 43, lt_of_lt_of_eq (by omega) N_0.symm⟩
theorem idx_onto6 : ∀ (q0 : Fin 1) (q1 : Fin 1), ∃ t : Fin cfg0.N, (cfg0.win 6).flush t = true ∧ win0_6.index t = ![q0.val + 0, q1.val + 0] :=
  fun q0 q1 => ⟨onto6Pt q0 q1, (by decide +kernel : ∀ (q0 : Fin 1) (q1 : Fin 1), win0_6.flush (onto6Pt q0 q1) = true ∧ win0_6.index (onto6Pt q0 q1) = ![q0.val + 0, q1.val + 0]) q0 q1⟩

/-- WHAT A FLUSHING POINT `t` WRITES BACK is block `t` of `G6`: output 6's component of the fold up to `t`. -/
theorem flushed6_eq (c : Dev nD) (t : Fin cfg0.N) (hf : (cfg0.win 6).flush t = true) :
    (dats m 0 c).flushed 6 t = ((cfg0.win 6).blk t).view.read (Elt F) (G6 m c) := by
  show (cfg0.win 6).cut (grid0.coords t) ((dats m 0 c).after 6 t) = _
  rw [after0_6, outsAt0_sweep]
  have hm : t.val % 44 = 43 := (flush0_6 t).mp hf
  obtain ⟨e0, e1, e2⟩ := idx_facts6 t
  funext y
  have hy0 : (y 0).val < 1 := (y 0).isLt
  have hy1 : (y 1).val < 256 := (y 1).isLt
  have hb0 : (((cfg0.win 6).blk t).view.emb y 0).val = win0_6.index t (0 : Fin 2) * 1 + 1 * (y 0).val := rfl
  have hb1 : (((cfg0.win 6).blk t).view.emb y 1).val = win0_6.index t (1 : Fin 2) * 256 + 1 * (y 1).val := rfl
  have hr : run6Of (((cfg0.win 6).blk t).view.emb y) = t.val / 44 := by
    show 1 * ((((cfg0.win 6).blk t).view.emb y 0).val / 1 - 0) + 1 * ((((cfg0.win 6).blk t).view.emb y 1).val / 256 - 0) = _
    rw [hb0, hb1]
    rw [show (win0_6.index t (0 : Fin 2) * 1 + 1 * (y 0).val) / 1 = win0_6.index t (0 : Fin 2) from by omega]; rw [show (win0_6.index t (1 : Fin 2) * 256 + 1 * (y 1).val) / 256 = win0_6.index t (1 : Fin 2) from by omega]
    omega
  have hl : loc6Of (((cfg0.win 6).blk t).view.emb y) = (cfg0.win 6).xinj (grid0.coords t) y := by
    funext a; apply Fin.ext
    match a with
    | ⟨0, _⟩ => show (((cfg0.win 6).blk t).view.emb y 0).val % 1 = (y 0).val; rw [hb0]; omega
    | ⟨1, _⟩ => show (((cfg0.win 6).blk t).view.emb y 1).val % 256 = (y 1).val; rw [hb1]; omega
  have hp : pt6Of (((cfg0.win 6).blk t).view.emb y) = t.val := by
    show 44 * run6Of (((cfg0.win 6).blk t).view.emb y) + 43 = _
    rw [hr]; have := Nat.div_add_mod t.val 44; omega
  show (Pipeline.accAt (fun n h => stAt0 m c n h junk0) (stAt0 m c) 0 t.val _).2.2.1 ((cfg0.win 6).xinj (grid0.coords t) y) = G6 m c (((cfg0.win 6).blk t).view.emb y)
  unfold G6
  rw [dif_pos (by rw [hp]; exact t.isLt), hl, fold0_congr m c _ _ _ _ hp.symm]

/-- An index of the array is in point `t`'s block iff each coordinate is in the block's range on its axis. -/
theorem mem_blk6 (t : Fin cfg0.N) (i : S1x256.Idx) :
    i ∈ ((cfg0.win 6).blk t).view.set ↔ ∀ a : Fin 2, win0_6.index t a * S1x256.size a ≤ (i a).val ∧ (i a).val < win0_6.index t a * S1x256.size a + S1x256.size a := by
  show i ∈ ((View.whole main_v4_2).slice (win0_6.rect t)).set ↔ _
  rw [View.set_slice_whole, Rect.mem_set_unit]
  exact Iff.rfl

/-- THE COVERED INDICES: in some flushing point's block iff inside the box those blocks fill. -/
theorem covered_iff6 (i : S1x256.Idx) :
    (∃ t : Fin cfg0.N, (cfg0.win 6).flush t = true ∧ i ∈ ((cfg0.win 6).blk t).view.set) ↔ 0 ≤ (i 0).val ∧ (i 0).val < 1 ∧ 0 ≤ (i 1).val ∧ (i 1).val < 256 := by
  constructor
  · rintro ⟨t, -, hi⟩
    rw [mem_blk6] at hi
    have b0 : win0_6.index t (0 : Fin 2) * 1 ≤ (i 0).val ∧ (i 0).val < win0_6.index t (0 : Fin 2) * 1 + 1 := hi 0
    have b1 : win0_6.index t (1 : Fin 2) * 256 ≤ (i 1).val ∧ (i 1).val < win0_6.index t (1 : Fin 2) * 256 + 256 := hi 1
    obtain ⟨e0, e1, e2⟩ := idx_facts6 t
    omega
  · intro h
    have hi0 : (i 0).val < 1 := (i 0).isLt
    have hi1 : (i 1).val < 256 := (i 1).isLt
    obtain ⟨t, hft, ht⟩ := idx_onto6 ⟨(i 0).val / 1 - 0, by omega⟩ ⟨(i 1).val / 256 - 0, by omega⟩
    have q0 : win0_6.index t (0 : Fin 2) = (i 0).val / 1 - 0 + 0 := congrFun ht 0
    have q1 : win0_6.index t (1 : Fin 2) = (i 1).val / 256 - 0 + 0 := congrFun ht 1
    refine ⟨t, hft, ?_⟩
    rw [mem_blk6]
    intro a
    match a with
    | ⟨0, _⟩ => show win0_6.index t (0 : Fin 2) * 1 ≤ (i 0).val ∧ (i 0).val < win0_6.index t (0 : Fin 2) * 1 + 1; omega
    | ⟨1, _⟩ => show win0_6.index t (1 : Fin 2) * 256 ≤ (i 1).val ∧ (i 1).val < win0_6.index t (1 : Fin 2) * 256 + 256; omega

/-- THE ARRAY after the run: `G6` (the flushing blocks tile it). -/
theorem final6 (c : Dev nD) : (dats m 0 c).arrAt 6 cfg0.N = G6 m c :=
  (dats m 0 c).arrAt_eq_of_cover 6 _ (fun t hf => flushed6_eq m c t hf) (fun i => (covered_iff6 i).2 (by
    have h0 : (i 0).val < 1 := (i 0).isLt; have h1 : (i 1).val < 256 := (i 1).isLt; omega))

/-- Output 6 is written back ONCE, at the last point, and its block is its array: the array after the run is output 6's
    component of the fold over the whole grid — where a hand proof over this window starts. -/
theorem G6_last (c : Dev nD) :
    G6 m c = (Pipeline.accAt (fun n h => stAt0 m c n h junk0) (stAt0 m c) 0 43 (lt_of_lt_of_eq (by decide) N_0.symm)).2.2.1 := by
  funext i
  have hi0 : (i 0).val < 1 := (i 0).isLt
  have hi1 : (i 1).val < 256 := (i 1).isLt
  have hp : pt6Of i = 43 := by
    show 44 * (1 * ((i 0).val / 1 - 0) + 1 * ((i 1).val / 256 - 0)) + 43 = _
    omega
  have hl : loc6Of i = i := by
    funext a; apply Fin.ext
    match a with
    | ⟨0, _⟩ => show (i 0).val % 1 = (i 0).val; omega
    | ⟨1, _⟩ => show (i 1).val % 256 = (i 1).val; omega
  unfold G6
  rw [dif_pos (by rw [hp]; exact lt_of_lt_of_eq (by decide) N_0.symm), hl, fold0_congr m c _ _ _ _ hp]

/-! ## Output window 7 -/

/-- The block of the array that holds index `i`, numbered in the order the points write the blocks back (one every 44 points),
    `i`'s place in it, and the point that writes it back (the last of its 44). -/
abbrev run7Of (i : S1x256.Idx) : ℕ := 1 * ((i 0).val / 1 - 0) + 1 * ((i 1).val / 256 - 0)
set_option backward.proofsInPublic true in
abbrev loc7Of (i : S1x256.Idx) : S1x256.Idx := fun a => match a with
  | ⟨0, _⟩ => ⟨(i 0).val % 1, Nat.mod_lt _ (by decide)⟩
  | ⟨1, _⟩ => ⟨(i 1).val % 256, Nat.mod_lt _ (by decide)⟩
abbrev pt7Of (i : S1x256.Idx) : ℕ := 44 * run7Of i + 43

/-- WHAT THE ARRAY ENDS HOLDING at index `i` inside the box the flushing blocks fill: output 7's component of the carried
    state's fold at the point that writes `i`'s block back, at `i`'s place in the block. `G7` states the array's contents
    only inside the box. -/
def G7 (c : Dev nD) : Buf (Elt F) ((c : Thread nD τ).loc main_v4_3) := fun i =>
  if h : pt7Of i < cfg0.N then
    (Pipeline.accAt (fun n h => stAt0 m c n h junk0) (stAt0 m c) 0 (pt7Of i) (by omega)).2.2.2.1 (loc7Of i)
  else V m c (Pipeline.arrRef spec0 7) i

/-- The printed index map, decided over the grid: output window 7's block indices stay in the box, and the block number
    read off them is the point's (`t / 44`). -/
theorem idx_facts7 : ∀ t : Fin cfg0.N, 0 ≤ win0_7.index t (0 : Fin 2) ∧ win0_7.index t (0 : Fin 2) ≤ 0
    ∧ 0 ≤ win0_7.index t (1 : Fin 2) ∧ win0_7.index t (1 : Fin 2) ≤ 0
    ∧ 1 * (win0_7.index t (0 : Fin 2) - 0) + 1 * (win0_7.index t (1 : Fin 2) - 0) = t.val / 44 :=
  (by decide +kernel : ∀ t : Fin grid0.N, _)

/-- Every block of the box is SOME flushing point's: `onto7Pt`, the point that writes back the block at place `q` of the box (the last point of its run). -/
abbrev onto7Pt (q0 : Fin 1) (q1 : Fin 1) : Fin grid0.N :=
  ⟨44 * (1 * q0.val + 1 * q1.val) + 43, lt_of_lt_of_eq (by omega) N_0.symm⟩
theorem idx_onto7 : ∀ (q0 : Fin 1) (q1 : Fin 1), ∃ t : Fin cfg0.N, (cfg0.win 7).flush t = true ∧ win0_7.index t = ![q0.val + 0, q1.val + 0] :=
  fun q0 q1 => ⟨onto7Pt q0 q1, (by decide +kernel : ∀ (q0 : Fin 1) (q1 : Fin 1), win0_7.flush (onto7Pt q0 q1) = true ∧ win0_7.index (onto7Pt q0 q1) = ![q0.val + 0, q1.val + 0]) q0 q1⟩

/-- WHAT A FLUSHING POINT `t` WRITES BACK is block `t` of `G7`: output 7's component of the fold up to `t`. -/
theorem flushed7_eq (c : Dev nD) (t : Fin cfg0.N) (hf : (cfg0.win 7).flush t = true) :
    (dats m 0 c).flushed 7 t = ((cfg0.win 7).blk t).view.read (Elt F) (G7 m c) := by
  show (cfg0.win 7).cut (grid0.coords t) ((dats m 0 c).after 7 t) = _
  rw [after0_7, outsAt0_sweep]
  have hm : t.val % 44 = 43 := (flush0_7 t).mp hf
  obtain ⟨e0, e1, e2⟩ := idx_facts7 t
  funext y
  have hy0 : (y 0).val < 1 := (y 0).isLt
  have hy1 : (y 1).val < 256 := (y 1).isLt
  have hb0 : (((cfg0.win 7).blk t).view.emb y 0).val = win0_7.index t (0 : Fin 2) * 1 + 1 * (y 0).val := rfl
  have hb1 : (((cfg0.win 7).blk t).view.emb y 1).val = win0_7.index t (1 : Fin 2) * 256 + 1 * (y 1).val := rfl
  have hr : run7Of (((cfg0.win 7).blk t).view.emb y) = t.val / 44 := by
    show 1 * ((((cfg0.win 7).blk t).view.emb y 0).val / 1 - 0) + 1 * ((((cfg0.win 7).blk t).view.emb y 1).val / 256 - 0) = _
    rw [hb0, hb1]
    rw [show (win0_7.index t (0 : Fin 2) * 1 + 1 * (y 0).val) / 1 = win0_7.index t (0 : Fin 2) from by omega]; rw [show (win0_7.index t (1 : Fin 2) * 256 + 1 * (y 1).val) / 256 = win0_7.index t (1 : Fin 2) from by omega]
    omega
  have hl : loc7Of (((cfg0.win 7).blk t).view.emb y) = (cfg0.win 7).xinj (grid0.coords t) y := by
    funext a; apply Fin.ext
    match a with
    | ⟨0, _⟩ => show (((cfg0.win 7).blk t).view.emb y 0).val % 1 = (y 0).val; rw [hb0]; omega
    | ⟨1, _⟩ => show (((cfg0.win 7).blk t).view.emb y 1).val % 256 = (y 1).val; rw [hb1]; omega
  have hp : pt7Of (((cfg0.win 7).blk t).view.emb y) = t.val := by
    show 44 * run7Of (((cfg0.win 7).blk t).view.emb y) + 43 = _
    rw [hr]; have := Nat.div_add_mod t.val 44; omega
  show (Pipeline.accAt (fun n h => stAt0 m c n h junk0) (stAt0 m c) 0 t.val _).2.2.2.1 ((cfg0.win 7).xinj (grid0.coords t) y) = G7 m c (((cfg0.win 7).blk t).view.emb y)
  unfold G7
  rw [dif_pos (by rw [hp]; exact t.isLt), hl, fold0_congr m c _ _ _ _ hp.symm]

/-- An index of the array is in point `t`'s block iff each coordinate is in the block's range on its axis. -/
theorem mem_blk7 (t : Fin cfg0.N) (i : S1x256.Idx) :
    i ∈ ((cfg0.win 7).blk t).view.set ↔ ∀ a : Fin 2, win0_7.index t a * S1x256.size a ≤ (i a).val ∧ (i a).val < win0_7.index t a * S1x256.size a + S1x256.size a := by
  show i ∈ ((View.whole main_v4_3).slice (win0_7.rect t)).set ↔ _
  rw [View.set_slice_whole, Rect.mem_set_unit]
  exact Iff.rfl

/-- THE COVERED INDICES: in some flushing point's block iff inside the box those blocks fill. -/
theorem covered_iff7 (i : S1x256.Idx) :
    (∃ t : Fin cfg0.N, (cfg0.win 7).flush t = true ∧ i ∈ ((cfg0.win 7).blk t).view.set) ↔ 0 ≤ (i 0).val ∧ (i 0).val < 1 ∧ 0 ≤ (i 1).val ∧ (i 1).val < 256 := by
  constructor
  · rintro ⟨t, -, hi⟩
    rw [mem_blk7] at hi
    have b0 : win0_7.index t (0 : Fin 2) * 1 ≤ (i 0).val ∧ (i 0).val < win0_7.index t (0 : Fin 2) * 1 + 1 := hi 0
    have b1 : win0_7.index t (1 : Fin 2) * 256 ≤ (i 1).val ∧ (i 1).val < win0_7.index t (1 : Fin 2) * 256 + 256 := hi 1
    obtain ⟨e0, e1, e2⟩ := idx_facts7 t
    omega
  · intro h
    have hi0 : (i 0).val < 1 := (i 0).isLt
    have hi1 : (i 1).val < 256 := (i 1).isLt
    obtain ⟨t, hft, ht⟩ := idx_onto7 ⟨(i 0).val / 1 - 0, by omega⟩ ⟨(i 1).val / 256 - 0, by omega⟩
    have q0 : win0_7.index t (0 : Fin 2) = (i 0).val / 1 - 0 + 0 := congrFun ht 0
    have q1 : win0_7.index t (1 : Fin 2) = (i 1).val / 256 - 0 + 0 := congrFun ht 1
    refine ⟨t, hft, ?_⟩
    rw [mem_blk7]
    intro a
    match a with
    | ⟨0, _⟩ => show win0_7.index t (0 : Fin 2) * 1 ≤ (i 0).val ∧ (i 0).val < win0_7.index t (0 : Fin 2) * 1 + 1; omega
    | ⟨1, _⟩ => show win0_7.index t (1 : Fin 2) * 256 ≤ (i 1).val ∧ (i 1).val < win0_7.index t (1 : Fin 2) * 256 + 256; omega

/-- THE ARRAY after the run: `G7` (the flushing blocks tile it). -/
theorem final7 (c : Dev nD) : (dats m 0 c).arrAt 7 cfg0.N = G7 m c :=
  (dats m 0 c).arrAt_eq_of_cover 7 _ (fun t hf => flushed7_eq m c t hf) (fun i => (covered_iff7 i).2 (by
    have h0 : (i 0).val < 1 := (i 0).isLt; have h1 : (i 1).val < 256 := (i 1).isLt; omega))

/-- Output 7 is written back ONCE, at the last point, and its block is its array: the array after the run is output 7's
    component of the fold over the whole grid — where a hand proof over this window starts. -/
theorem G7_last (c : Dev nD) :
    G7 m c = (Pipeline.accAt (fun n h => stAt0 m c n h junk0) (stAt0 m c) 0 43 (lt_of_lt_of_eq (by decide) N_0.symm)).2.2.2.1 := by
  funext i
  have hi0 : (i 0).val < 1 := (i 0).isLt
  have hi1 : (i 1).val < 256 := (i 1).isLt
  have hp : pt7Of i = 43 := by
    show 44 * (1 * ((i 0).val / 1 - 0) + 1 * ((i 1).val / 256 - 0)) + 43 = _
    omega
  have hl : loc7Of i = i := by
    funext a; apply Fin.ext
    match a with
    | ⟨0, _⟩ => show (i 0).val % 1 = (i 0).val; omega
    | ⟨1, _⟩ => show (i 1).val % 256 = (i 1).val; omega
  unfold G7
  rw [dif_pos (by rw [hp]; exact lt_of_lt_of_eq (by decide) N_0.symm), hl, fold0_congr m c _ _ _ _ hp]

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v4_0) = G4 m c
      ∧ r.2.mem ((c : Thread nD τ).loc main_v4_1) = G5 m c
      ∧ r.2.mem ((c : Thread nD τ).loc main_v4_2) = G6 m c
      ∧ r.2.mem ((c : Thread nD τ).loc main_v4_3) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post4 m r h c).trans (final4 m c),
      (post5 m r h c).trans (final5 m c),
      (post6 m r h c).trans (final6 m c),
      (post7 m r h c).trans (final7 m c),
      kept_main_arg0 m r h c,
      kept_main_arg1 m r h c,
      kept_main_arg2 m r h c,
      kept_main_arg3 m r h c⟩)
    (run_main m ρ)

end Cert.KernelIdeal.Value

end
-- ==== Proof.Ideal.TripSpec.lean ====
/- The codes of a block and its running maximum, element by element, over the extended reals. -/
module

public import proofs.«01_k».proof.Proof.Ideal.Loop
public import Idealize.ShloMosaic.PureOps.Ideal
public import Idealize.ShloMosaic.Lib.Pointwise
public import Idealize.ShloMosaic.Lib.Pipeline.Value

@[expose] public section

set_option maxRecDepth 16384
set_option maxHeartbeats 4000000

noncomputable section

namespace Cert.KernelIdeal.Gen

open Idealize.ShloMosaic Idealize.ShloMosaic.TcCoe Idealize.SL.Sem

/-- A product clipped to the range of the codes. -/
def clip448 (x : EReal) : EReal := min (Ideal.ofBits .f32 0x43E00000#32) (max (Ideal.ofBits .f32 0xC3E00000#32) x)

/-- The code of the element `y` of a block, from the block and the rows of reciprocals (sixteen equal rows). -/
def codeAt (X : S256x18944.Idx → EReal) (I : S16x18944.Idx → EReal) (y : S256x18944.Idx) : EReal :=
  clip448 (X y * I (ix2 ⟨(y 0).val % 16, Nat.mod_lt _ (by decide)⟩ (y 1)))

/-- Two elements of a matrix with the same coordinates are one. -/
theorem idx2_ext {n m : Nat} {y z : (⟨2, ![n, m]⟩ : Shape).Idx} (h0 : (y 0).val = (z 0).val) (h1 : (y 1).val = (z 1).val) : y = z := by
  funext a; apply Fin.ext
  match a with
  | ⟨0, _⟩ => exact h0
  | ⟨1, _⟩ => exact h1

theorem code_eq {X : S256x18944.Idx → EReal} {I : S16x18944.Idx → EReal} {y a : S256x18944.Idx} {b : S16x18944.Idx}
    (h0 : (a 0).val = (y 0).val) (h1 : (a 1).val = (y 1).val) (h2 : (b 0).val = (y 0).val % 16) (h3 : (b 1).val = (y 1).val) :
    min (Ideal.ofBits FTy.f32 1138753536#32) (max (Ideal.ofBits FTy.f32 3286237184#32) (X a * I b)) = codeAt X I y := by
  have ha : a = y := idx2_ext h0 h1
  have hb : b = ix2 ⟨(y 0).val % 16, Nat.mod_lt _ (by decide)⟩ (y 1) := idx2_ext h2 h3
  subst ha; subst hb; rfl

/-- The running maximum at the element `y` once a block is taken in: what it was, and the magnitudes of the sixteen rows of
    the block that fall on `y`'s row. -/
def maxAt (X : S256x18944.Idx → EReal) (A : S16x18944.Idx → EReal) (y : S16x18944.Idx) : EReal :=
  max (A y) (Finset.univ.sup fun j : Fin 16 =>
    max (X (ix2 ⟨16 * j.val + (y 0).val, by have h0 : (y 0).val < 16 := (y 0).isLt; have := j.isLt; omega⟩ (y 1))) (-(X (ix2 ⟨16 * j.val + (y 0).val, by have h0 : (y 0).val < 16 := (y 0).isLt; have := j.isLt; omega⟩ (y 1)))))

end Cert.KernelIdeal.Gen
end
-- ==== Proof.Ideal.Words.lean ====
/- Which tensor a column belongs to, in the words the kernel computes it with. -/
module

public import proofs.«01_k».proof.Proof.Ideal.TripSpec
public import proofs.«01_k».proof.Proof.Gen.KernelIdeal.Skeleton

@[expose] public section

set_option maxRecDepth 16384
set_option maxHeartbeats 4000000

noncomputable section

namespace Cert.KernelIdeal.Gen

open Idealize.ShloMosaic Idealize.ShloMosaic.TcCoe Idealize.SL.Sem

/-- The quotient by 74 rounded down, as the words are computed. -/
def floor74 (w : BitVec 32) : BitVec 32 :=
  Scalar.select
      (IntOp.andi
        (IntOp.cmpi CmpIPredicate.ne
          (IntOp.subi (BitVec.setWidth 32 (IntOp.cmpi CmpIPredicate.sgt w 0#32))
            (BitVec.setWidth 32 (IntOp.cmpi CmpIPredicate.slt w 0#32)))
          (Scalar.subi (Scalar.extui (Scalar.cmpi CmpIPredicate.sgt 74#32 0#32))
            (Scalar.extui (Scalar.cmpi CmpIPredicate.slt 74#32 0#32))))
        (IntOp.cmpi CmpIPredicate.ne (IntOp.remsi ArithUnit.vector w 74#32) 0#32))
      (IntOp.subi (IntOp.divsi ArithUnit.vector w 74#32) 1#32) (IntOp.divsi ArithUnit.vector w 74#32)

/-- On the columns' numbers it is the quotient of naturals. -/
theorem floor74_eq : ∀ n : Fin 18944, floor74 (BitVec.ofNat 32 n.val) = BitVec.ofNat 32 (n.val / 74) := by decide +kernel

/-- The first tensor of a tile of 128 columns. -/
theorem first_apply (j : Fin 148) (z : Fin 1) : k0_pay12 (ix2 j z) = BitVec.ofNat 32 (128 * j.val / 74) := by
  have h : ∀ j : Fin 148, floor74 (IntOp.muli (BitVec.ofNat 32 j.val) 128#32) = BitVec.ofNat 32 (128 * j.val / 74) := by decide +kernel
  rw [← h j]
  pointwise [k0_pay12, floor74]

/-- A column's number. -/
theorem col_apply (j : Fin 148) (l : Fin 128) : k0_pay13 (ix2 j l) = BitVec.ofNat 32 (128 * j.val + l.val) := by
  pointwise [k0_pay13]
  apply BitVec.eq_of_toNat_eq
  simp [IntOp.addi, IntOp.muli]
  omega

/-- The tensor a column belongs to. -/
theorem owner_apply (j : Fin 148) (l : Fin 128) : k0_pay16 k0_pay13 74#32 k0_pay14 k0_pay15 0#32 (ix2 j l) = BitVec.ofNat 32 ((128 * j.val + l.val) / 74) := by
  have h := floor74_eq ⟨128 * j.val + l.val, by have := j.isLt; have := l.isLt; omega⟩
  dsimp only at h
  rw [← h, ← col_apply]
  pointwise [k0_pay16, k0_pay14, k0_pay15, floor74]
end Cert.KernelIdeal.Gen
end
-- ==== Proof.Ideal.Exponent.lean ====
/- The exponent of a magnitude, as a natural number, and the search that finds it bit by bit. -/
module

public import Idealize.ShloMosaic.PureOps.Ideal
public import Idealize.ShloMosaic.Lib.Pointwise

@[expose] public section

set_option maxRecDepth 16384

noncomputable section

namespace Cert.Exponent

open Idealize.ShloMosaic

/-- The number whose biased exponent field is `e` and whose fraction is zero: 0 for `e = 0`, the power of two
    `2 ^ (e - 127)`, infinity from 255 on. -/
def pw (e : ℕ) : EReal := if e = 0 then 0 else if 255 ≤ e then ⊤ else (((2 : ℝ) ^ ((e : ℤ) - 127) : ℝ) : EReal)

/-- The word `e << 23`, read as a float, is that number. -/
theorem ofBits_shl (e : ℕ) (h : e ≤ 255) : Ideal.ofBits .f32 (BitVec.ofNat 32 e <<< 23) = pw e := by
  unfold pw
  have e1 : ∀ e : Fin 256, (BitVec.ofNat 32 e.val <<< 23).extractLsb' 23 8 = BitVec.ofNat 8 e.val := by decide +kernel
  have e2 : ∀ e : Fin 256, (BitVec.ofNat 32 e.val <<< 23).extractLsb' 0 23 = 0#23 := by decide +kernel
  have e3 : ∀ e : Fin 256, (BitVec.ofNat 32 e.val <<< 23).extractLsb' (8 + 23) 1 = 0#1 := by decide +kernel
  have e1 := e1 ⟨e, by omega⟩
  have e2 := e2 ⟨e, by omega⟩
  have e3 := e3 ⟨e, by omega⟩
  dsimp only at e1 e2 e3
  show Ideal.ieee 8 23 (BitVec.ofNat 32 e <<< 23) = _
  unfold Ideal.ieee
  rw [e1, e2, e3]
  have hb : (BitVec.ofNat 8 e).toNat = e := by rw [BitVec.toNat_ofNat]; exact Nat.mod_eq_of_lt (by omega)
  simp only [hb]
  by_cases h255 : e = 255
  · subst h255; simp
  by_cases h0 : e = 0
  · subst h0; simp
  have hs : ¬ (((0#1 : BitVec 1) == 1#1) = true) := by decide
  rw [if_neg (show ¬ e = 2 ^ 8 - 1 by omega), if_neg h0, if_neg h0, if_neg (show ¬ 255 ≤ e by omega), if_neg hs]
  congr 1
  simp only [BitVec.toNat_ofNat, Nat.zero_mod, Nat.add_zero, one_mul]
  rw [show ((2 ^ 23 : ℕ) : ℝ) = (2 : ℝ) ^ (23 : ℤ) by norm_num, ← zpow_add₀ (by norm_num : (2 : ℝ) ≠ 0)]
  congr 1
  norm_num

theorem pw_mono {m n : ℕ} (h : m ≤ n) : pw m ≤ pw n := by
  unfold pw
  by_cases hm : m = 0
  · rw [if_pos hm]
    split
    · exact le_rfl
    · split
      · exact le_top
      · exact_mod_cast (by positivity : (0 : ℝ) ≤ (2 : ℝ) ^ ((n : ℤ) - 127))
  · rw [if_neg hm, if_neg (by omega : ¬ n = 0)]
    by_cases hn : 255 ≤ n
    · rw [if_pos hn]; exact le_top
    · rw [if_neg hn, if_neg (by omega)]
      exact EReal.coe_le_coe_iff.mpr (zpow_le_zpow_right₀ (by norm_num : (1 : ℝ) ≤ 2) (by omega))

/-- The biased exponent of a magnitude `a`: the greatest `e ≤ 255` whose number `a` reaches. -/
@[irreducible] def expo (a : EReal) : ℕ := Nat.findGreatest (fun e => pw e ≤ a) 255

theorem expo_le (a : EReal) : expo a ≤ 255 := by
  unfold expo; exact Nat.findGreatest_le 255

/-- A magnitude reaches the number of `m` exactly when `m` is no greater than its exponent. -/
theorem pw_le_iff {a : EReal} (ha : 0 ≤ a) {m : ℕ} (hm : m ≤ 255) : pw m ≤ a ↔ m ≤ expo a := by
  unfold expo
  constructor
  · intro h; exact Nat.le_findGreatest hm h
  · intro h
    have h0 : pw (Nat.findGreatest (fun e => pw e ≤ a) 255) ≤ a :=
      Nat.findGreatest_spec (P := fun e => pw e ≤ a) (Nat.zero_le 255) (by show pw 0 ≤ a; simpa [pw] using ha)
    exact (pw_mono h).trans h0

/-- One step of the search: from a candidate `m` that is at most the exponent and less than `2 b` below it, to the
    candidate that is less than `b` below it. -/
def stepW (a : EReal) (b e : BitVec 32) : BitVec 32 :=
  Scalar.select (Ideal.cmp .oge a (Ideal.ofBits .f32 ((e + b) <<< 23))) (e + b) e

theorem stepW_spec {a : EReal} (ha : 0 ≤ a) (m b : ℕ) (h1 : m ≤ expo a) (h2 : expo a < m + 2 * b) (h3 : m + 2 * b ≤ 256) (hb : 0 < b) :
    ∃ m', stepW a (BitVec.ofNat 32 b) (BitVec.ofNat 32 m) = BitVec.ofNat 32 m' ∧ m' ≤ expo a ∧ expo a < m' + b ∧ m' + b ≤ 256 := by
  have e : BitVec.ofNat 32 m + BitVec.ofNat 32 b = BitVec.ofNat 32 (m + b) := by
    apply BitVec.eq_of_toNat_eq; simp
  unfold stepW
  rw [e, ofBits_shl _ (by omega)]
  by_cases h : m + b ≤ expo a
  · have := (pw_le_iff ha (by omega)).mpr h
    refine ⟨m + b, ?_, h, by omega, by omega⟩
    simp [Scalar.select, Ideal.cmp, this]
  · have : ¬ pw (m + b) ≤ a := fun h' => h ((pw_le_iff ha (by omega : m + b ≤ 255)).mp h')
    refine ⟨m, ?_, h1, by omega, by omega⟩
    simp [Scalar.select, Ideal.cmp, this]

/-- The search, from the highest bit to the lowest. -/
def searchW (a : EReal) : BitVec 32 :=
  stepW a 1#32 (stepW a 2#32 (stepW a 4#32 (stepW a 8#32 (stepW a 16#32 (stepW a 32#32 (stepW a 64#32 (stepW a 128#32 0#32)))))))

/-- The search finds the biased exponent. -/
theorem searchW_eq {a : EReal} (ha : 0 ≤ a) : searchW a = BitVec.ofNat 32 (expo a) := by
  have hl := expo_le a
  obtain ⟨m1, e1, a1, b1, c1⟩ := stepW_spec ha 0 128 (by omega) (by omega) (by omega) (by omega)
  obtain ⟨m2, e2, a2, b2, c2⟩ := stepW_spec ha m1 64 a1 (by omega) (by omega) (by omega)
  obtain ⟨m3, e3, a3, b3, c3⟩ := stepW_spec ha m2 32 a2 (by omega) (by omega) (by omega)
  obtain ⟨m4, e4, a4, b4, c4⟩ := stepW_spec ha m3 16 a3 (by omega) (by omega) (by omega)
  obtain ⟨m5, e5, a5, b5, c5⟩ := stepW_spec ha m4 8 a4 (by omega) (by omega) (by omega)
  obtain ⟨m6, e6, a6, b6, c6⟩ := stepW_spec ha m5 4 a5 (by omega) (by omega) (by omega)
  obtain ⟨m7, e7, a7, b7, c7⟩ := stepW_spec ha m6 2 a6 (by omega) (by omega) (by omega)
  obtain ⟨m8, e8, a8, b8, c8⟩ := stepW_spec ha m7 1 a7 (by omega) (by omega) (by omega)
  unfold searchW
  rw [show (0#32) = BitVec.ofNat 32 0 from rfl, e1, e2, e3, e4, e5, e6, e7, e8]
  have : m8 = expo a := by omega
  rw [this]

theorem pw_127 : pw 127 = 1 := by
  unfold pw; rw [if_neg (by omega), if_neg (by omega)]; norm_num
theorem pw_128 : pw 128 = 2 := by
  unfold pw; rw [if_neg (by omega), if_neg (by omega)]; norm_num; rfl

theorem pw_nonneg (e : ℕ) : 0 ≤ pw e := by
  have := pw_mono (Nat.zero_le e)
  rwa [show pw 0 = 0 from if_pos rfl] at this

/-- A magnitude's exponent field says nothing about it: it is below the least normal number, or infinite. -/
def Special (a : EReal) : Prop := expo a = 0 ∨ expo a = 255

/-- The power of two above `a`; 1 where the exponent says nothing. -/
def up (a : EReal) : EReal := open Classical in if Special a then 1 else pw (expo a + 1)

/-- The reciprocal of the power of two above half of `a`; 2 where the exponent says nothing. -/
def recip (a : EReal) : EReal := open Classical in if Special a then 2 else pw (254 - expo a)

theorem recip_nonneg (a : EReal) : 0 ≤ recip a := by
  unfold recip; split
  · norm_num
  · exact pw_nonneg _

theorem Scalar.select_def' {α : Type} (c : BitVec 1) (x y : α) : Scalar.select c x y = if c = 1#1 then x else y := rfl

theorem special_word (a : EReal) : IntOp.ori (IntOp.cmpi .eq (BitVec.ofNat 32 (expo a)) 0#32) (IntOp.cmpi .eq (BitVec.ofNat 32 (expo a)) 255#32) = 1#1 ↔ Special a := by
  have h : ∀ n : Fin 256, IntOp.ori (IntOp.cmpi .eq (BitVec.ofNat 32 n.val) 0#32) (IntOp.cmpi .eq (BitVec.ofNat 32 n.val) 255#32) = 1#1 ↔ (n.val = 0 ∨ n.val = 255) := by decide +kernel
  have hl := expo_le a
  exact h ⟨expo a, by omega⟩

theorem up_word (a : EReal) :
    Ideal.ofBits .f32 (Scalar.select (IntOp.ori (IntOp.cmpi .eq (BitVec.ofNat 32 (expo a)) 0#32) (IntOp.cmpi .eq (BitVec.ofNat 32 (expo a)) 255#32)) 127#32 (BitVec.ofNat 32 (expo a) + 1#32) <<< 23) = up a := by
  have hl := expo_le a
  unfold up; rw [Scalar.select_def']
  by_cases h : Special a
  · rw [if_pos ((special_word a).mpr h), if_pos h, show (127#32) = BitVec.ofNat 32 127 from rfl, ofBits_shl _ (by omega), pw_127]
  · rw [if_neg (fun h' => h ((special_word a).mp h')), if_neg h, show BitVec.ofNat 32 (expo a) + 1#32 = BitVec.ofNat 32 (expo a + 1) by apply BitVec.eq_of_toNat_eq; simp, ofBits_shl]
    have : ¬ expo a = 255 := fun h' => h (.inr h')
    omega

theorem recip_word (a : EReal) :
    Ideal.ofBits .f32 (Scalar.select (IntOp.ori (IntOp.cmpi .eq (BitVec.ofNat 32 (expo a)) 0#32) (IntOp.cmpi .eq (BitVec.ofNat 32 (expo a)) 255#32)) 128#32 (254#32 - BitVec.ofNat 32 (expo a)) <<< 23) = recip a := by
  have hl := expo_le a
  unfold recip; rw [Scalar.select_def']
  by_cases h : Special a
  · rw [if_pos ((special_word a).mpr h), if_pos h, show (128#32) = BitVec.ofNat 32 128 from rfl, ofBits_shl _ (by omega), pw_128]
  · have h1 : ¬ expo a = 255 := fun h' => h (.inr h')
    rw [if_neg (fun h' => h ((special_word a).mp h')), if_neg h, show 254#32 - BitVec.ofNat 32 (expo a) = BitVec.ofNat 32 (254 - expo a) by
      have h : ∀ n : Fin 255, 254#32 - BitVec.ofNat 32 n.val = BitVec.ofNat 32 (254 - n.val) := by decide +kernel
      exact h ⟨expo a, by omega⟩, ofBits_shl _ (by omega)]

end Cert.Exponent
end
-- ==== Proof.Ideal.Spread.lean ====
/- The row of reciprocals spread from the tensors to their columns. -/
module

public import proofs.«01_k».proof.Proof.Ideal.Words
public import proofs.«01_k».proof.Proof.Ideal.Exponent

@[expose] public section

set_option maxRecDepth 16384
set_option maxHeartbeats 4000000

noncomputable section

namespace Cert.KernelIdeal.Gen

open Idealize.ShloMosaic Idealize.ShloMosaic.TcCoe Idealize.SL.Sem

/-- The words of two numbers below `2 ^ 32` are equal exactly when the numbers are. -/
theorem eq_word {a b : ℕ} (ha : a < 4294967296) (hb : b < 4294967296) : IntOp.cmpi .eq (BitVec.ofNat 32 a) (BitVec.ofNat 32 b) = BitVec.ofBool (decide (a = b)) := by
  have : (BitVec.ofNat 32 a = BitVec.ofNat 32 b) ↔ a = b := by
    constructor
    · intro h
      have := congrArg BitVec.toNat h
      simpa [BitVec.toNat_ofNat, Nat.mod_eq_of_lt ha, Nat.mod_eq_of_lt hb] using this
    · rintro rfl; rfl
  show BitVec.ofBool (BitVec.ofNat 32 a == BitVec.ofNat 32 b) = _
  congr 1
  by_cases h : a = b
  · subst h; simp
  · rw [decide_eq_false h]
    simp only [beq_eq_false_iff_ne, ne_eq]
    rw [this]; exact h

theorem add_word (a b : ℕ) : IntOp.addi (BitVec.ofNat 32 a) (BitVec.ofNat 32 b) = BitVec.ofNat 32 (a + b) := by
  apply BitVec.eq_of_toNat_eq
  simp [IntOp.addi]

/-- The float word of minus infinity. -/
theorem neg_inf : Ideal.ofBits .f32 4286578688#32 = ⊥ := by
  show Ideal.ieee 8 23 (4286578688#32 : BitVec 32) = _
  unfold Ideal.ieee
  simp

theorem select_ofBool {α : Type} (p : Prop) [Decidable p] (x y : α) : Scalar.select (BitVec.ofBool (decide p)) x y = if p then x else y := by
  by_cases h : p <;> simp [Scalar.select, h]

/-- A maximum over the tensors that lets one tensor's value through and zero for the others picks that value. -/
theorem pick (q : Fin 256 → EReal) (hq : ∀ t, 0 ≤ q t) (n : ℕ) (h : n < 256) :
    Finset.univ.fold max (Ideal.ofBits FTy.f32 4286578688#32) (fun t : Fin 256 => Scalar.select (IntOp.cmpi .eq (BitVec.ofNat 32 t.val) (BitVec.ofNat 32 n)) (q t) 0) = q ⟨n, h⟩ := by
  rw [neg_inf]
  apply le_antisymm
  · refine (Finset.fold_max_le _).mpr ⟨bot_le, fun t _ => ?_⟩
    rw [eq_word (by have := t.isLt; omega) (by omega), select_ofBool]
    split
    · rename_i e; subst e; exact le_rfl
    · exact hq _
  · refine (Finset.le_fold_max _).mpr (.inr ⟨⟨n, h⟩, Finset.mem_univ _, ?_⟩)
    rw [eq_word (by omega) (by omega), select_ofBool, if_pos rfl]

/-- The spread of a row over the columns: column `128 j + l` gets the value of the tensor it belongs to. -/
theorem spread_apply (v : FVec Ideal S1x256 .f32) (hv : ∀ t : Fin 256, 0 ≤ v (ix2 0 t)) (j : Fin 148) (l : Fin 128) :
    k0_pay19 (F := Ideal) v k0_pay12 (k0_pay16 k0_pay13 74#32 k0_pay14 k0_pay15 0#32) (iota .tc S148x256 32 [1] iota_S148x256_d1_w32)
      (k0_pay17 v k0_pay12 k0_pay13 74#32 k0_pay14 k0_pay15 0#32) (k0_pay18 v k0_pay12) (ix2 j l)
      = v (ix2 0 ⟨(128 * j.val + l.val) / 74, by have := j.isLt; have := l.isLt; omega⟩) := by
  pointwise [k0_pay19, k0_pay17, k0_pay18]
  have hj := j.isLt
  have hl := l.isLt
  have ho : (128 * j.val + l.val) / 74 < 256 := by omega
  simp only [owner_apply, first_apply, add_word]
  rw [eq_word (by omega) (by omega), eq_word (by omega) (by omega), eq_word (by omega) (by omega), select_ofBool, select_ofBool, select_ofBool]
  have key : ∀ n (h : (128 * j.val + l.val) / 74 = n), (Finset.univ.fold max (Ideal.ofBits FTy.f32 4286578688#32) (fun t : Fin 256 => Scalar.select (IntOp.cmpi .eq (BitVec.ofNat 32 t.val) (BitVec.ofNat 32 n)) (v (ix2 0 t)) 0)) = v (ix2 0 ⟨(128 * j.val + l.val) / 74, ho⟩) := by
    intro n h
    subst h
    exact pick (fun t => v (ix2 0 t)) hv _ ho
  split
  · rename_i h; exact key _ h
  · split
    · rename_i h; exact key _ h
    · split
      · rename_i h; exact key _ h
      · omega
end Cert.KernelIdeal.Gen
end
-- ==== Proof.Ideal.Recip.lean ====
/- The reciprocal of each tensor's power-of-two scale, as the kernel computes it. -/
module

public import proofs.«01_k».proof.Proof.Ideal.Spread
public import proofs.«01_k».proof.Proof.Ideal.Exponent

@[expose] public section

set_option maxRecDepth 16384
set_option maxHeartbeats 4000000

noncomputable section

namespace Cert.KernelIdeal.Gen

open Idealize.ShloMosaic Idealize.ShloMosaic.TcCoe Idealize.SL.Sem Cert.Exponent

theorem step_if (a : EReal) (e b : BitVec 32) [Decidable (Ideal.ofBits .f32 (IntOp.shli .vector (IntOp.addi e b) 23#32) ≤ a)] :
    (if Ideal.ofBits .f32 (IntOp.shli .vector (IntOp.addi e b) 23#32) ≤ a then IntOp.addi e b else e) = stepW a b e := by
  have h : IntOp.shli .vector (IntOp.addi e b) 23#32 = (e + b) <<< 23 := rfl
  have hs : stepW a b e = if Ideal.ofBits .f32 ((e + b) <<< 23) ≤ a then e + b else e := by
    unfold stepW
    rw [show Ideal.cmp .oge a (Ideal.ofBits .f32 ((e + b) <<< 23)) = BitVec.ofBool (decide (Ideal.ofBits .f32 ((e + b) <<< 23) ≤ a)) from rfl, select_ofBool]
  rw [hs]
  simp only [h]
  rfl

/-- The row of reciprocals: tensor `t` gets the reciprocal that belongs to the absolute value of its scale. -/
theorem recip_apply (v : Vec Ideal S1x256 .f32) (t : Fin 256) :
    k0_pay11 (F := Ideal) (k0_pay8 (k0_pay4 v) (k0_pay5 v) (k0_pay6 v) k0_pay7) (k0_pay9 (k0_pay4 v) (k0_pay5 v) (k0_pay6 v) k0_pay7) (k0_pay10 (k0_pay4 v) (k0_pay5 v) (k0_pay6 v) k0_pay7) (ix2 0 t)
      = recip (max (v (ix2 0 t)) (-(v (ix2 0 t)))) := by
  pointwise [k0_pay11, k0_pay8, k0_pay4, k0_pay5, k0_pay6, k0_pay7, k0_pay9, k0_pay10]
  rw [show FloatOps.absf (F := Ideal) (φ := .f32) (v (ix2 0 t)) = max (v (ix2 0 t)) (-(v (ix2 0 t))) from rfl]
  have h0 : (0 : EReal) ≤ max (v (ix2 0 t)) (-(v (ix2 0 t))) := by
    rcases le_total 0 (v (ix2 0 t)) with h | h
    · exact le_max_of_le_left h
    · exact le_max_of_le_right (by simpa using EReal.neg_le_neg_iff.mpr h)
  generalize max (v (ix2 0 t)) (-(v (ix2 0 t))) = a at h0 ⊢
  simp only [step_if]
  have hw := searchW_eq h0
  unfold searchW at hw
  simp only [hw]
  exact recip_word a

end Cert.KernelIdeal.Gen
-- ==== Proof.Ideal.InvRow.lean ====
/- The reciprocals in the scratch that holds one row of them for all columns. -/
module

public import proofs.«01_k».proof.Proof.Ideal.Recip
public import proofs.«01_k».proof.Proof.Ideal.Exponent

public import proofs.«01_k».proof.Proof.Ideal.Frame

@[expose] public section

set_option maxRecDepth 16384
set_option maxHeartbeats 4000000

noncomputable section

namespace Cert.KernelIdeal.Gen

open Idealize.ShloMosaic Idealize.ShloMosaic.TcCoe Idealize.SL.Sem Cert.Exponent

/-- What the scratch of reciprocals holds: at column `n` the reciprocal of the tensor that column belongs to. -/
def invG (x3 : Vec Ideal S1x256 .f32) : Vec Ideal S16x18944 .bf16 := fun y =>
  recip (max (x3 (ix2 0 ⟨(y 1).val / 74, by have : (y 1).val < 18944 := (y 1).isLt; omega⟩)) (-(x3 (ix2 0 ⟨(y 1).val / 74, by have : (y 1).val < 18944 := (y 1).isLt; omega⟩))))

theorem invG_apply (x3 : Vec Ideal S1x256 .f32) (y : S16x18944.Idx) (n : ℕ) (hn : (y 1).val = n) (h : n / 74 < 256) :
    invG x3 y = recip (max (x3 (ix2 0 ⟨n / 74, h⟩)) (-(x3 (ix2 0 ⟨n / 74, h⟩)))) := by
  subst hn; rfl

/-- A piece that agrees with `G` on its rectangle. -/
def Agrees {S : Shape} {e : EltTy} (G : Vec Ideal S e) (pc : View.Piece (Elt Ideal) S e) : Prop := ∀ x, pc.2 x = G (pc.1.emb x)

/-- Row `j` of the spread, repeated sixteen times, is what the scratch holds in columns `128 j` to `128 j + 127`. -/
theorem inv_row (x3 : Vec Ideal S1x256 .f32) (S : FVec Ideal S148x128 .f32)
    (hS : ∀ (j : Fin 148) (l : Fin 128), S (ix2 j l) = recip (max (x3 (ix2 0 ⟨(128 * j.val + l.val) / 74, by omega⟩)) (-(x3 (ix2 0 ⟨(128 * j.val + l.val) / 74, by omega⟩)))))
    (J o : ℕ) (ho : o = 128 * J) (hJ : J < 148) (hs : S148x128.Slices ![J, 0] S1x128) (inb : ∀ a, (![0, o] : Fin 2 → Nat) a + S16x128.size a ≤ S16x18944.size a) :
    Agrees (invG x3) (⟨Rect.unit ![0, o] S16x128.size inb, shapeCast S16x128 (truncf .bf16 (broadcastTo S16x128 (shapeCast S1x128 (extractStridedSlice S1x128 ![J, 0] S hs) shapeCasts_S1x128_S1x128) broadcasts_S1x128_S16x128) bitsLt_bf16_f32) shapeCasts_S16x128_S16x128⟩ : View.Piece (Elt Ideal) S16x18944 .bf16) := by
  subst ho
  intro x
  change S16x128.Idx at x
  idx_vars x
  have e : ((Rect.unit (s := S16x18944) ![0, 128 * J] S16x128.size inb).emb (ix2 x0 x1) 1).val = 128 * J + x1.val := by
    simp only [Rect.emb_apply, Rect.off_unit, Rect.stride_unit]
    show 128 * J + 1 * x1.val = _
    omega
  have hx := x1.isLt
  rw [invG_apply x3 _ _ e (by omega), ← hS ⟨J, hJ⟩ x1]
  pointwise []

end Cert.KernelIdeal.Gen
end
-- ==== Proof.Ideal.InvScale.lean ====
/- What the first grid point leaves in the scratch of reciprocals. -/
module

public import proofs.«01_k».proof.Proof.Ideal.InvRow
public import proofs.«01_k».proof.Proof.Ideal.TripSpec
public import proofs.«01_k».proof.Proof.Ideal.Exponent

public import proofs.«01_k».proof.Proof.Ideal.Frame

@[expose] public section

set_option maxRecDepth 16384
set_option maxHeartbeats 4000000

noncomputable section

namespace Cert.KernelIdeal.Gen

open Idealize.ShloMosaic Idealize.ShloMosaic.TcCoe Idealize.SL.Sem Cert.Exponent

variable (c : Dev nD) (arg4 : Memref sig .tc .vmem S1x256 .f32) (harg4 : arg4.IsWhole) (x3 : Vec Ideal S1x256 .f32)

/-- A load of the whole row. -/
def loadRow : Vec Ideal S1x256 .f32 := View.readAt (Elt Ideal) arg4.view (Rect.unit (s := S1x256) ![0, 0] ![1, 256] inb_S1x256_S1x256_0_0).toLoadRect (harg4.unread x3)

/-- A load of the whole row reads the row. -/
theorem load_row (t : Fin 256) :
    loadRow arg4 harg4 x3 (ix2 0 t) = x3 (ix2 0 t) := by
  have e : loadRow arg4 harg4 x3 (ix2 0 t)
      = arg4.view.read (Elt Ideal) (harg4.unread x3) ((Rect.unit (s := S1x256) ![0, 0] ![1, 256] inb_S1x256_S1x256_0_0).emb (ix2 0 t)) := rfl
  rw [e, harg4.read_unread]
  congr 1
  refine idx2_ext ?_ ?_
  · rfl
  · simp only [Rect.emb_apply, Rect.off_unit, Rect.stride_unit]
    show 0 + 1 * t.val = t.val
    omega

/-- The spread of the reciprocals of a row `v`. -/
theorem spread_recip (v : Vec Ideal S1x256 .f32) (j : Fin 148) (l : Fin 128) :
    k0_pay19 (F := Ideal) (k0_pay11 (F := Ideal) (k0_pay8 (k0_pay4 v) (k0_pay5 v) (k0_pay6 v) k0_pay7) (k0_pay9 (k0_pay4 v) (k0_pay5 v) (k0_pay6 v) k0_pay7) (k0_pay10 (k0_pay4 v) (k0_pay5 v) (k0_pay6 v) k0_pay7)) k0_pay12 (k0_pay16 k0_pay13 74#32 k0_pay14 k0_pay15 0#32) (iota .tc S148x256 32 [1] iota_S148x256_d1_w32)
      (k0_pay17 (k0_pay11 (F := Ideal) (k0_pay8 (k0_pay4 v) (k0_pay5 v) (k0_pay6 v) k0_pay7) (k0_pay9 (k0_pay4 v) (k0_pay5 v) (k0_pay6 v) k0_pay7) (k0_pay10 (k0_pay4 v) (k0_pay5 v) (k0_pay6 v) k0_pay7)) k0_pay12 k0_pay13 74#32 k0_pay14 k0_pay15 0#32)
      (k0_pay18 (k0_pay11 (F := Ideal) (k0_pay8 (k0_pay4 v) (k0_pay5 v) (k0_pay6 v) k0_pay7) (k0_pay9 (k0_pay4 v) (k0_pay5 v) (k0_pay6 v) k0_pay7) (k0_pay10 (k0_pay4 v) (k0_pay5 v) (k0_pay6 v) k0_pay7)) k0_pay12) (ix2 j l)
      = recip (max (v (ix2 0 ⟨(128 * j.val + l.val) / 74, by have := j.isLt; have := l.isLt; omega⟩)) (-(v (ix2 0 ⟨(128 * j.val + l.val) / 74, by have := j.isLt; have := l.isLt; omega⟩)))) := by
  have h := recip_apply v
  generalize k0_pay11 (F := Ideal) (k0_pay8 (k0_pay4 v) (k0_pay5 v) (k0_pay6 v) k0_pay7) (k0_pay9 (k0_pay4 v) (k0_pay5 v) (k0_pay6 v) k0_pay7) (k0_pay10 (k0_pay4 v) (k0_pay5 v) (k0_pay6 v) k0_pay7) = w at h ⊢
  rw [spread_apply w (fun t => by rw [h t]; exact recip_nonneg _) j l, h]

/-- The spread reciprocals at the first grid point. -/
theorem spread_scale (j : Fin 148) (l : Fin 128) :
    kernelRun0_A.sl.r_10 (F := Ideal) c arg4 harg4 x3 (ix2 j l) = recip (max (x3 (ix2 0 ⟨(128 * j.val + l.val) / 74, by have := j.isLt; have := l.isLt; omega⟩)) (-(x3 (ix2 0 ⟨(128 * j.val + l.val) / 74, by have := j.isLt; have := l.isLt; omega⟩)))) := by
  have h := spread_recip (loadRow arg4 harg4 x3) j l
  rw [load_row] at h
  rw [← h]
  unfold kernelRun0_A.sl.r_10
  dsimp only [kernelRun0_A.sl.r_9,kernelRun0_A.sl.r_8,kernelRun0_A.sl.r_7,kernelRun0_A.sl.r_6,kernelRun0_A.sl.r_5,kernelRun0_A.sl.r_4,kernelRun0_A.sl.r_3,kernelRun0_A.sl.r_2,kernelRun0_A.sl.r_1,kernelRun0_A.sl.r, kernelRun0_A.sl.v159]
  unfold loadRow
  rfl

end Cert.KernelIdeal.Gen
end
-- ==== Proof.Ideal.InvValue.lean ====
/- What the first grid point leaves in the scratch of reciprocals. -/
module

public import proofs.«01_k».proof.Proof.Ideal.InvScale
public import proofs.«01_k».proof.Proof.Ideal.Frame

@[expose] public section

set_option maxRecDepth 16384
set_option maxHeartbeats 4000000

noncomputable section

namespace Cert.KernelIdeal.Gen

open Idealize.ShloMosaic Idealize.ShloMosaic.TcCoe Idealize.SL.Sem Cert.Exponent

theorem inv_pieces (c : Dev nD) (arg4 : Memref sig .tc .vmem S1x256 .f32) (harg4 : arg4.IsWhole) (x3 : Vec Ideal S1x256 .f32) :
    ∀ pc ∈ kernelRun0_A.sl.HS0_148 (F := Ideal) c arg4 harg4 x3, Agrees (invG x3) pc := by
  unfold kernelRun0_A.sl.HS0_148
  exact (
    List.forall_mem_cons.mpr ⟨inv_row x3 _ (spread_scale c arg4 harg4 x3) 147 18816 rfl (by decide) slices_S148x128_o147_0_S1x128 inb_S16x18944_S16x128_0_18816,
    List.forall_mem_cons.mpr ⟨inv_row x3 _ (spread_scale c arg4 harg4 x3) 146 18688 rfl (by decide) slices_S148x128_o146_0_S1x128 inb_S16x18944_S16x128_0_18688,
    List.forall_mem_cons.mpr ⟨inv_row x3 _ (spread_scale c arg4 harg4 x3) 145 18560 rfl (by decide) slices_S148x128_o145_0_S1x128 inb_S16x18944_S16x128_0_18560,
    List.forall_mem_cons.mpr ⟨inv_row x3 _ (spread_scale c arg4 harg4 x3) 144 18432 rfl (by decide) slices_S148x128_o144_0_S1x128 inb_S16x18944_S16x128_0_18432,
    List.forall_mem_cons.mpr ⟨inv_row x3 _ (spread_scale c arg4 harg4 x3) 143 18304 rfl (by decide) slices_S148x128_o143_0_S1x128 inb_S16x18944_S16x128_0_18304,
    List.forall_mem_cons.mpr ⟨inv_row x3 _ (spread_scale c arg4 harg4 x3) 142 18176 rfl (by decide) slices_S148x128_o142_0_S1x128 inb_S16x18944_S16x128_0_18176,
    List.forall_mem_cons.mpr ⟨inv_row x3 _ (spread_scale c arg4 harg4 x3) 141 18048 rfl (by decide) slices_S148x128_o141_0_S1x128 inb_S16x18944_S16x128_0_18048,
    List.forall_mem_cons.mpr ⟨inv_row x3 _ (spread_scale c arg4 harg4 x3) 140 17920 rfl (by decide) slices_S148x128_o140_0_S1x128 inb_S16x18944_S16x128_0_17920,
    List.forall_mem_cons.mpr ⟨inv_row x3 _ (spread_scale c arg4 harg4 x3) 139 17792 rfl (by decide) slices_S148x128_o139_0_S1x128 inb_S16x18944_S16x128_0_17792,
    List.forall_mem_cons.mpr ⟨inv_row x3 _ (spread_scale c arg4 harg4 x3) 138 17664 rfl (by decide) slices_S148x128_o138_0_S1x128 inb_S16x18944_S16x128_0_17664,
    List.forall_mem_cons.mpr ⟨inv_row x3 _ (spread_scale c arg4 harg4 x3) 137 17536 rfl (by decide) slices_S148x128_o137_0_S1x128 inb_S16x18944_S16x128_0_17536,
    List.forall_mem_cons.mpr ⟨inv_row x3 _ (spread_scale c arg4 harg4 x3) 136 17408 rfl (by decide) slices_S148x128_o136_0_S1x128 inb_S16x18944_S16x128_0_17408,
    List.forall_mem_cons.mpr ⟨inv_row x3 _ (spread_scale c arg4 harg4 x3) 135 17280 rfl (by decide) slices_S148x128_o135_0_S1x128 inb_S16x18944_S16x128_0_17280,
    List.forall_mem_cons.mpr ⟨inv_row x3 _ (spread_scale c arg4 harg4 x3) 134 17152 rfl (by decide) slices_S148x128_o134_0_S1x128 inb_S16x18944_S16x128_0_17152,
    List.forall_mem_cons.mpr ⟨inv_row x3 _ (spread_scale c arg4 harg4 x3) 133 17024 rfl (by decide) slices_S148x128_o133_0_S1x128 inb_S16x18944_S16x128_0_17024,
    List.forall_mem_cons.mpr ⟨inv_row x3 _ (spread_scale c arg4 harg4 x3) 132 16896 rfl (by decide) slices_S148x128_o132_0_S1x128 inb_S16x18944_S16x128_0_16896,
    List.forall_mem_cons.mpr ⟨inv_row x3 _ (spread_scale c arg4 harg4 x3) 131 16768 rfl (by decide) slices_S148x128_o131_0_S1x128 inb_S16x18944_S16x128_0_16768,
    List.forall_mem_cons.mpr ⟨inv_row x3 _ (spread_scale c arg4 harg4 x3) 130 16640 rfl (by decide) slices_S148x128_o130_0_S1x128 inb_S16x18944_S16x128_0_16640,
    List.forall_mem_cons.mpr ⟨inv_row x3 _ (spread_scale c arg4 harg4 x3) 129 16512 rfl (by decide) slices_S148x128_o129_0_S1x128 inb_S16x18944_S16x128_0_16512,
    List.forall_mem_cons.mpr ⟨inv_row x3 _ (spread_scale c arg4 harg4 x3) 128 16384 rfl (by decide) slices_S148x128_o128_0_S1x128 inb_S16x18944_S16x128_0_16384,
    List.forall_mem_cons.mpr ⟨inv_row x3 _ (spread_scale c arg4 harg4 x3) 127 16256 rfl (by decide) slices_S148x128_o127_0_S1x128 inb_S16x18944_S16x128_0_16256,
    List.forall_mem_cons.mpr ⟨inv_row x3 _ (spread_scale c arg4 harg4 x3) 126 16128 rfl (by decide) slices_S148x128_o126_0_S1x128 inb_S16x18944_S16x128_0_16128,
    List.forall_mem_cons.mpr ⟨inv_row x3 _ (spread_scale c arg4 harg4 x3) 125 16000 rfl (by decide) slices_S148x128_o125_0_S1x128 inb_S16x18944_S16x128_0_16000,
    List.forall_mem_cons.mpr ⟨inv_row x3 _ (spread_scale c arg4 harg4 x3) 124 15872 rfl (by decide) slices_S148x128_o124_0_S1x128 inb_S16x18944_S16x128_0_15872,
    List.forall_mem_cons.mpr ⟨inv_row x3 _ (spread_scale c arg4 harg4 x3) 123 15744 rfl (by decide) slices_S148x128_o123_0_S1x128 inb_S16x18944_S16x128_0_15744,
    List.forall_mem_cons.mpr ⟨inv_row x3 _ (spread_scale c arg4 harg4 x3) 122 15616 rfl (by decide) slices_S148x128_o122_0_S1x128 inb_S16x18944_S16x128_0_15616,
    List.forall_mem_cons.mpr ⟨inv_row x3 _ (spread_scale c arg4 harg4 x3) 121 15488 rfl (by decide) slices_S148x128_o121_0_S1x128 inb_S16x18944_S16x128_0_15488,
    List.forall_mem_cons.mpr ⟨inv_row x3 _ (spread_scale c arg4 harg4 x3) 120 15360 rfl (by decide) slices_S148x128_o120_0_S1x128 inb_S16x18944_S16x128_0_15360,
    List.forall_mem_cons.mpr ⟨inv_row x3 _ (spread_scale c arg4 harg4 x3) 119 15232 rfl (by decide) slices_S148x128_o119_0_S1x128 inb_S16x18944_S16x128_0_15232,
    List.forall_mem_cons.mpr ⟨inv_row x3 _ (spread_scale c arg4 harg4 x3) 118 15104 rfl (by decide) slices_S148x128_o118_0_S1x128 inb_S16x18944_S16x128_0_15104,
    List.forall_mem_cons.mpr ⟨inv_row x3 _ (spread_scale c arg4 harg4 x3) 117 14976 rfl (by decide) slices_S148x128_o117_0_S1x128 inb_S16x18944_S16x128_0_14976,
    List.forall_mem_cons.mpr ⟨inv_row x3 _ (spread_scale c arg4 harg4 x3) 116 14848 rfl (by decide) slices_S148x128_o116_0_S1x128 inb_S16x18944_S16x128_0_14848,
    List.forall_mem_cons.mpr ⟨inv_row x3 _ (spread_scale c arg4 harg4 x3) 115 14720 rfl (by decide) slices_S148x128_o115_0_S1x128 inb_S16x18944_S16x128_0_14720,
    List.forall_mem_cons.mpr ⟨inv_row x3 _ (spread_scale c arg4 harg4 x3) 114 14592 rfl (by decide) slices_S148x128_o114_0_S1x128 inb_S16x18944_S16x128_0_14592,
    List.forall_mem_cons.mpr ⟨inv_row x3 _ (spread_scale c arg4 harg4 x3) 113 14464 rfl (by decide) slices_S148x128_o113_0_S1x128 inb_S16x18944_S16x128_0_14464,
    List.forall_mem_cons.mpr ⟨inv_row x3 _ (spread_scale c arg4 harg4 x3) 112 14336 rfl (by decide) slices_S148x128_o112_0_S1x128 inb_S16x18944_S16x128_0_14336,
    List.forall_mem_cons.mpr ⟨inv_row x3 _ (spread_scale c arg4 harg4 x3) 111 14208 rfl (by decide) slices_S148x128_o111_0_S1x128 inb_S16x18944_S16x128_0_14208,
    List.forall_mem_cons.mpr ⟨inv_row x3 _ (spread_scale c arg4 harg4 x3) 110 14080 rfl (by decide) slices_S148x128_o110_0_S1x128 inb_S16x18944_S16x128_0_14080,
    List.forall_mem_cons.mpr ⟨inv_row x3 _ (spread_scale c arg4 harg4 x3) 109 13952 rfl (by decide) slices_S148x128_o109_0_S1x128 inb_S16x18944_S16x128_0_13952,
    List.forall_mem_cons.mpr ⟨inv_row x3 _ (spread_scale c arg4 harg4 x3) 108 13824 rfl (by decide) slices_S148x128_o108_0_S1x128 inb_S16x18944_S16x128_0_13824,
    List.forall_mem_cons.mpr ⟨inv_row x3 _ (spread_scale c arg4 harg4 x3) 107 13696 rfl (by decide) slices_S148x128_o107_0_S1x128 inb_S16x18944_S16x128_0_13696,
    List.forall_mem_cons.mpr ⟨inv_row x3 _ (spread_scale c arg4 harg4 x3) 106 13568 rfl (by decide) slices_S148x128_o106_0_S1x128 inb_S16x18944_S16x128_0_13568,
    List.forall_mem_cons.mpr ⟨inv_row x3 _ (spread_scale c arg4 harg4 x3) 105 13440 rfl (by decide) slices_S148x128_o105_0_S1x128 inb_S16x18944_S16x128_0_13440,
    List.forall_mem_cons.mpr ⟨inv_row x3 _ (spread_scale c arg4 harg4 x3) 104 13312 rfl (by decide) slices_S148x128_o104_0_S1x128 inb_S16x18944_S16x128_0_13312,
    List.forall_mem_cons.mpr ⟨inv_row x3 _ (spread_scale c arg4 harg4 x3) 103 13184 rfl (by decide) slices_S148x128_o103_0_S1x128 inb_S16x18944_S16x128_0_13184,
    List.forall_mem_cons.mpr ⟨inv_row x3 _ (spread_scale c arg4 harg4 x3) 102 13056 rfl (by decide) slices_S148x128_o102_0_S1x128 inb_S16x18944_S16x128_0_13056,
    List.forall_mem_cons.mpr ⟨inv_row x3 _ (spread_scale c arg4 harg4 x3) 101 12928 rfl (by decide) slices_S148x128_o101_0_S1x128 inb_S16x18944_S16x128_0_12928,
    List.forall_mem_cons.mpr ⟨inv_row x3 _ (spread_scale c arg4 harg4 x3) 100 12800 rfl (by decide) slices_S148x128_o100_0_S1x128 inb_S16x18944_S16x128_0_12800,
    List.forall_mem_cons.mpr ⟨inv_row x3 _ (spread_scale c arg4 harg4 x3) 99 12672 rfl (by decide) slices_S148x128_o99_0_S1x128 inb_S16x18944_S16x128_0_12672,
    List.forall_mem_cons.mpr ⟨inv_row x3 _ (spread_scale c arg4 harg4 x3) 98 12544 rfl (by decide) slices_S148x128_o98_0_S1x128 inb_S16x18944_S16x128_0_12544,
    List.forall_mem_cons.mpr ⟨inv_row x3 _ (spread_scale c arg4 harg4 x3) 97 12416 rfl (by decide) slices_S148x128_o97_0_S1x128 inb_S16x18944_S16x128_0_12416,
    List.forall_mem_cons.mpr ⟨inv_row x3 _ (spread_scale c arg4 harg4 x3) 96 12288 rfl (by decide) slices_S148x128_o96_0_S1x128 inb_S16x18944_S16x128_0_12288,
    List.forall_mem_cons.mpr ⟨inv_row x3 _ (spread_scale c arg4 harg4 x3) 95 12160 rfl (by decide) slices_S148x128_o95_0_S1x128 inb_S16x18944_S16x128_0_12160,
    List.forall_mem_cons.mpr ⟨inv_row x3 _ (spread_scale c arg4 harg4 x3) 94 12032 rfl (by decide) slices_S148x128_o94_0_S1x128 inb_S16x18944_S16x128_0_12032,
    List.forall_mem_cons.mpr ⟨inv_row x3 _ (spread_scale c arg4 harg4 x3) 93 11904 rfl (by decide) slices_S148x128_o93_0_S1x128 inb_S16x18944_S16x128_0_11904,
    List.forall_mem_cons.mpr ⟨inv_row x3 _ (spread_scale c arg4 harg4 x3) 92 11776 rfl (by decide) slices_S148x128_o92_0_S1x128 inb_S16x18944_S16x128_0_11776,
    List.forall_mem_cons.mpr ⟨inv_row x3 _ (spread_scale c arg4 harg4 x3) 91 11648 rfl (by decide) slices_S148x128_o91_0_S1x128 inb_S16x18944_S16x128_0_11648,
    List.forall_mem_cons.mpr ⟨inv_row x3 _ (spread_scale c arg4 harg4 x3) 90 11520 rfl (by decide) slices_S148x128_o90_0_S1x128 inb_S16x18944_S16x128_0_11520,
    List.forall_mem_cons.mpr ⟨inv_row x3 _ (spread_scale c arg4 harg4 x3) 89 11392 rfl (by decide) slices_S148x128_o89_0_S1x128 inb_S16x18944_S16x128_0_11392,
    List.forall_mem_cons.mpr ⟨inv_row x3 _ (spread_scale c arg4 harg4 x3) 88 11264 rfl (by decide) slices_S148x128_o88_0_S1x128 inb_S16x18944_S16x128_0_11264,
    List.forall_mem_cons.mpr ⟨inv_row x3 _ (spread_scale c arg4 harg4 x3) 87 11136 rfl (by decide) slices_S148x128_o87_0_S1x128 inb_S16x18944_S16x128_0_11136,
    List.forall_mem_cons.mpr ⟨inv_row x3 _ (spread_scale c arg4 harg4 x3) 86 11008 rfl (by decide) slices_S148x128_o86_0_S1x128 inb_S16x18944_S16x128_0_11008,
    List.forall_mem_cons.mpr ⟨inv_row x3 _ (spread_scale c arg4 harg4 x3) 85 10880 rfl (by decide) slices_S148x128_o85_0_S1x128 inb_S16x18944_S16x128_0_10880,
    List.forall_mem_cons.mpr ⟨inv_row x3 _ (spread_scale c arg4 harg4 x3) 84 10752 rfl (by decide) slices_S148x128_o84_0_S1x128 inb_S16x18944_S16x128_0_10752,
    List.forall_mem_cons.mpr ⟨inv_row x3 _ (spread_scale c arg4 harg4 x3) 83 10624 rfl (by decide) slices_S148x128_o83_0_S1x128 inb_S16x18944_S16x128_0_10624,
    List.forall_mem_cons.mpr ⟨inv_row x3 _ (spread_scale c arg4 harg4 x3) 82 10496 rfl (by decide) slices_S148x128_o82_0_S1x128 inb_S16x18944_S16x128_0_10496,
    List.forall_mem_cons.mpr ⟨inv_row x3 _ (spread_scale c arg4 harg4 x3) 81 10368 rfl (by decide) slices_S148x128_o81_0_S1x128 inb_S16x18944_S16x128_0_10368,
    List.forall_mem_cons.mpr ⟨inv_row x3 _ (spread_scale c arg4 harg4 x3) 80 10240 rfl (by decide) slices_S148x128_o80_0_S1x128 inb_S16x18944_S16x128_0_10240,
    List.forall_mem_cons.mpr ⟨inv_row x3 _ (spread_scale c arg4 harg4 x3) 79 10112 rfl (by decide) slices_S148x128_o79_0_S1x128 inb_S16x18944_S16x128_0_10112,
    List.forall_mem_cons.mpr ⟨inv_row x3 _ (spread_scale c arg4 harg4 x3) 78 9984 rfl (by decide) slices_S148x128_o78_0_S1x128 inb_S16x18944_S16x128_0_9984,
    List.forall_mem_cons.mpr ⟨inv_row x3 _ (spread_scale c arg4 harg4 x3) 77 9856 rfl (by decide) slices_S148x128_o77_0_S1x128 inb_S16x18944_S16x128_0_9856,
    List.forall_mem_cons.mpr ⟨inv_row x3 _ (spread_scale c arg4 harg4 x3) 76 9728 rfl (by decide) slices_S148x128_o76_0_S1x128 inb_S16x18944_S16x128_0_9728,
    List.forall_mem_cons.mpr ⟨inv_row x3 _ (spread_scale c arg4 harg4 x3) 75 9600 rfl (by decide) slices_S148x128_o75_0_S1x128 inb_S16x18944_S16x128_0_9600,
    List.forall_mem_cons.mpr ⟨inv_row x3 _ (spread_scale c arg4 harg4 x3) 74 9472 rfl (by decide) slices_S148x128_o74_0_S1x128 inb_S16x18944_S16x128_0_9472,
    List.forall_mem_cons.mpr ⟨inv_row x3 _ (spread_scale c arg4 harg4 x3) 73 9344 rfl (by decide) slices_S148x128_o73_0_S1x128 inb_S16x18944_S16x128_0_9344,
    List.forall_mem_cons.mpr ⟨inv_row x3 _ (spread_scale c arg4 harg4 x3) 72 9216 rfl (by decide) slices_S148x128_o72_0_S1x128 inb_S16x18944_S16x128_0_9216,
    List.forall_mem_cons.mpr ⟨inv_row x3 _ (spread_scale c arg4 harg4 x3) 71 9088 rfl (by decide) slices_S148x128_o71_0_S1x128 inb_S16x18944_S16x128_0_9088,
    List.forall_mem_cons.mpr ⟨inv_row x3 _ (spread_scale c arg4 harg4 x3) 70 8960 rfl (by decide) slices_S148x128_o70_0_S1x128 inb_S16x18944_S16x128_0_8960,
    List.forall_mem_cons.mpr ⟨inv_row x3 _ (spread_scale c arg4 harg4 x3) 69 8832 rfl (by decide) slices_S148x128_o69_0_S1x128 inb_S16x18944_S16x128_0_8832,
    List.forall_mem_cons.mpr ⟨inv_row x3 _ (spread_scale c arg4 harg4 x3) 68 8704 rfl (by decide) slices_S148x128_o68_0_S1x128 inb_S16x18944_S16x128_0_8704,
    List.forall_mem_cons.mpr ⟨inv_row x3 _ (spread_scale c arg4 harg4 x3) 67 8576 rfl (by decide) slices_S148x128_o67_0_S1x128 inb_S16x18944_S16x128_0_8576,
    List.forall_mem_cons.mpr ⟨inv_row x3 _ (spread_scale c arg4 harg4 x3) 66 8448 rfl (by decide) slices_S148x128_o66_0_S1x128 inb_S16x18944_S16x128_0_8448,
    List.forall_mem_cons.mpr ⟨inv_row x3 _ (spread_scale c arg4 harg4 x3) 65 8320 rfl (by decide) slices_S148x128_o65_0_S1x128 inb_S16x18944_S16x128_0_8320,
    List.forall_mem_cons.mpr ⟨inv_row x3 _ (spread_scale c arg4 harg4 x3) 64 8192 rfl (by decide) slices_S148x128_o64_0_S1x128 inb_S16x18944_S16x128_0_8192,
    List.forall_mem_cons.mpr ⟨inv_row x3 _ (spread_scale c arg4 harg4 x3) 63 8064 rfl (by decide) slices_S148x128_o63_0_S1x128 inb_S16x18944_S16x128_0_8064,
    List.forall_mem_cons.mpr ⟨inv_row x3 _ (spread_scale c arg4 harg4 x3) 62 7936 rfl (by decide) slices_S148x128_o62_0_S1x128 inb_S16x18944_S16x128_0_7936,
    List.forall_mem_cons.mpr ⟨inv_row x3 _ (spread_scale c arg4 harg4 x3) 61 7808 rfl (by decide) slices_S148x128_o61_0_S1x128 inb_S16x18944_S16x128_0_7808,
    List.forall_mem_cons.mpr ⟨inv_row x3 _ (spread_scale c arg4 harg4 x3) 60 7680 rfl (by decide) slices_S148x128_o60_0_S1x128 inb_S16x18944_S16x128_0_7680,
    List.forall_mem_cons.mpr ⟨inv_row x3 _ (spread_scale c arg4 harg4 x3) 59 7552 rfl (by decide) slices_S148x128_o59_0_S1x128 inb_S16x18944_S16x128_0_7552,
    List.forall_mem_cons.mpr ⟨inv_row x3 _ (spread_scale c arg4 harg4 x3) 58 7424 rfl (by decide) slices_S148x128_o58_0_S1x128 inb_S16x18944_S16x128_0_7424,
    List.forall_mem_cons.mpr ⟨inv_row x3 _ (spread_scale c arg4 harg4 x3) 57 7296 rfl (by decide) slices_S148x128_o57_0_S1x128 inb_S16x18944_S16x128_0_7296,
    List.forall_mem_cons.mpr ⟨inv_row x3 _ (spread_scale c arg4 harg4 x3) 56 7168 rfl (by decide) slices_S148x128_o56_0_S1x128 inb_S16x18944_S16x128_0_7168,
    List.forall_mem_cons.mpr ⟨inv_row x3 _ (spread_scale c arg4 harg4 x3) 55 7040 rfl (by decide) slices_S148x128_o55_0_S1x128 inb_S16x18944_S16x128_0_7040,
    List.forall_mem_cons.mpr ⟨inv_row x3 _ (spread_scale c arg4 harg4 x3) 54 6912 rfl (by decide) slices_S148x128_o54_0_S1x128 inb_S16x18944_S16x128_0_6912,
    List.forall_mem_cons.mpr ⟨inv_row x3 _ (spread_scale c arg4 harg4 x3) 53 6784 rfl (by decide) slices_S148x128_o53_0_S1x128 inb_S16x18944_S16x128_0_6784,
    List.forall_mem_cons.mpr ⟨inv_row x3 _ (spread_scale c arg4 harg4 x3) 52 6656 rfl (by decide) slices_S148x128_o52_0_S1x128 inb_S16x18944_S16x128_0_6656,
    List.forall_mem_cons.mpr ⟨inv_row x3 _ (spread_scale c arg4 harg4 x3) 51 6528 rfl (by decide) slices_S148x128_o51_0_S1x128 inb_S16x18944_S16x128_0_6528,
    List.forall_mem_cons.mpr ⟨inv_row x3 _ (spread_scale c arg4 harg4 x3) 50 6400 rfl (by decide) slices_S148x128_o50_0_S1x128 inb_S16x18944_S16x128_0_6400,
    List.forall_mem_cons.mpr ⟨inv_row x3 _ (spread_scale c arg4 harg4 x3) 49 6272 rfl (by decide) slices_S148x128_o49_0_S1x128 inb_S16x18944_S16x128_0_6272,
    List.forall_mem_cons.mpr ⟨inv_row x3 _ (spread_scale c arg4 harg4 x3) 48 6144 rfl (by decide) slices_S148x128_o48_0_S1x128 inb_S16x18944_S16x128_0_6144,
    List.forall_mem_cons.mpr ⟨inv_row x3 _ (spread_scale c arg4 harg4 x3) 47 6016 rfl (by decide) slices_S148x128_o47_0_S1x128 inb_S16x18944_S16x128_0_6016,
    List.forall_mem_cons.mpr ⟨inv_row x3 _ (spread_scale c arg4 harg4 x3) 46 5888 rfl (by decide) slices_S148x128_o46_0_S1x128 inb_S16x18944_S16x128_0_5888,
    List.forall_mem_cons.mpr ⟨inv_row x3 _ (spread_scale c arg4 harg4 x3) 45 5760 rfl (by decide) slices_S148x128_o45_0_S1x128 inb_S16x18944_S16x128_0_5760,
    List.forall_mem_cons.mpr ⟨inv_row x3 _ (spread_scale c arg4 harg4 x3) 44 5632 rfl (by decide) slices_S148x128_o44_0_S1x128 inb_S16x18944_S16x128_0_5632,
    List.forall_mem_cons.mpr ⟨inv_row x3 _ (spread_scale c arg4 harg4 x3) 43 5504 rfl (by decide) slices_S148x128_o43_0_S1x128 inb_S16x18944_S16x128_0_5504,
    List.forall_mem_cons.mpr ⟨inv_row x3 _ (spread_scale c arg4 harg4 x3) 42 5376 rfl (by decide) slices_S148x128_o42_0_S1x128 inb_S16x18944_S16x128_0_5376,
    List.forall_mem_cons.mpr ⟨inv_row x3 _ (spread_scale c arg4 harg4 x3) 41 5248 rfl (by decide) slices_S148x128_o41_0_S1x128 inb_S16x18944_S16x128_0_5248,
    List.forall_mem_cons.mpr ⟨inv_row x3 _ (spread_scale c arg4 harg4 x3) 40 5120 rfl (by decide) slices_S148x128_o40_0_S1x128 inb_S16x18944_S16x128_0_5120,
    List.forall_mem_cons.mpr ⟨inv_row x3 _ (spread_scale c arg4 harg4 x3) 39 4992 rfl (by decide) slices_S148x128_o39_0_S1x128 inb_S16x18944_S16x128_0_4992,
    List.forall_mem_cons.mpr ⟨inv_row x3 _ (spread_scale c arg4 harg4 x3) 38 4864 rfl (by decide) slices_S148x128_o38_0_S1x128 inb_S16x18944_S16x128_0_4864,
    List.forall_mem_cons.mpr ⟨inv_row x3 _ (spread_scale c arg4 harg4 x3) 37 4736 rfl (by decide) slices_S148x128_o37_0_S1x128 inb_S16x18944_S16x128_0_4736,
    List.forall_mem_cons.mpr ⟨inv_row x3 _ (spread_scale c arg4 harg4 x3) 36 4608 rfl (by decide) slices_S148x128_o36_0_S1x128 inb_S16x18944_S16x128_0_4608,
    List.forall_mem_cons.mpr ⟨inv_row x3 _ (spread_scale c arg4 harg4 x3) 35 4480 rfl (by decide) slices_S148x128_o35_0_S1x128 inb_S16x18944_S16x128_0_4480,
    List.forall_mem_cons.mpr ⟨inv_row x3 _ (spread_scale c arg4 harg4 x3) 34 4352 rfl (by decide) slices_S148x128_o34_0_S1x128 inb_S16x18944_S16x128_0_4352,
    List.forall_mem_cons.mpr ⟨inv_row x3 _ (spread_scale c arg4 harg4 x3) 33 4224 rfl (by decide) slices_S148x128_o33_0_S1x128 inb_S16x18944_S16x128_0_4224,
    List.forall_mem_cons.mpr ⟨inv_row x3 _ (spread_scale c arg4 harg4 x3) 32 4096 rfl (by decide) slices_S148x128_o32_0_S1x128 inb_S16x18944_S16x128_0_4096,
    List.forall_mem_cons.mpr ⟨inv_row x3 _ (spread_scale c arg4 harg4 x3) 31 3968 rfl (by decide) slices_S148x128_o31_0_S1x128 inb_S16x18944_S16x128_0_3968,
    List.forall_mem_cons.mpr ⟨inv_row x3 _ (spread_scale c arg4 harg4 x3) 30 3840 rfl (by decide) slices_S148x128_o30_0_S1x128 inb_S16x18944_S16x128_0_3840,
    List.forall_mem_cons.mpr ⟨inv_row x3 _ (spread_scale c arg4 harg4 x3) 29 3712 rfl (by decide) slices_S148x128_o29_0_S1x128 inb_S16x18944_S16x128_0_3712,
    List.forall_mem_cons.mpr ⟨inv_row x3 _ (spread_scale c arg4 harg4 x3) 28 3584 rfl (by decide) slices_S148x128_o28_0_S1x128 inb_S16x18944_S16x128_0_3584,
    List.forall_mem_cons.mpr ⟨inv_row x3 _ (spread_scale c arg4 harg4 x3) 27 3456 rfl (by decide) slices_S148x128_o27_0_S1x128 inb_S16x18944_S16x128_0_3456,
    List.forall_mem_cons.mpr ⟨inv_row x3 _ (spread_scale c arg4 harg4 x3) 26 3328 rfl (by decide) slices_S148x128_o26_0_S1x128 inb_S16x18944_S16x128_0_3328,
    List.forall_mem_cons.mpr ⟨inv_row x3 _ (spread_scale c arg4 harg4 x3) 25 3200 rfl (by decide) slices_S148x128_o25_0_S1x128 inb_S16x18944_S16x128_0_3200,
    List.forall_mem_cons.mpr ⟨inv_row x3 _ (spread_scale c arg4 harg4 x3) 24 3072 rfl (by decide) slices_S148x128_o24_0_S1x128 inb_S16x18944_S16x128_0_3072,
    List.forall_mem_cons.mpr ⟨inv_row x3 _ (spread_scale c arg4 harg4 x3) 23 2944 rfl (by decide) slices_S148x128_o23_0_S1x128 inb_S16x18944_S16x128_0_2944,
    List.forall_mem_cons.mpr ⟨inv_row x3 _ (spread_scale c arg4 harg4 x3) 22 2816 rfl (by decide) slices_S148x128_o22_0_S1x128 inb_S16x18944_S16x128_0_2816,
    List.forall_mem_cons.mpr ⟨inv_row x3 _ (spread_scale c arg4 harg4 x3) 21 2688 rfl (by decide) slices_S148x128_o21_0_S1x128 inb_S16x18944_S16x128_0_2688,
    List.forall_mem_cons.mpr ⟨inv_row x3 _ (spread_scale c arg4 harg4 x3) 20 2560 rfl (by decide) slices_S148x128_o20_0_S1x128 inb_S16x18944_S16x128_0_2560,
    List.forall_mem_cons.mpr ⟨inv_row x3 _ (spread_scale c arg4 harg4 x3) 19 2432 rfl (by decide) slices_S148x128_o19_0_S1x128 inb_S16x18944_S16x128_0_2432,
    List.forall_mem_cons.mpr ⟨inv_row x3 _ (spread_scale c arg4 harg4 x3) 18 2304 rfl (by decide) slices_S148x128_o18_0_S1x128 inb_S16x18944_S16x128_0_2304,
    List.forall_mem_cons.mpr ⟨inv_row x3 _ (spread_scale c arg4 harg4 x3) 17 2176 rfl (by decide) slices_S148x128_o17_0_S1x128 inb_S16x18944_S16x128_0_2176,
    List.forall_mem_cons.mpr ⟨inv_row x3 _ (spread_scale c arg4 harg4 x3) 16 2048 rfl (by decide) slices_S148x128_o16_0_S1x128 inb_S16x18944_S16x128_0_2048,
    List.forall_mem_cons.mpr ⟨inv_row x3 _ (spread_scale c arg4 harg4 x3) 15 1920 rfl (by decide) slices_S148x128_o15_0_S1x128 inb_S16x18944_S16x128_0_1920,
    List.forall_mem_cons.mpr ⟨inv_row x3 _ (spread_scale c arg4 harg4 x3) 14 1792 rfl (by decide) slices_S148x128_o14_0_S1x128 inb_S16x18944_S16x128_0_1792,
    List.forall_mem_cons.mpr ⟨inv_row x3 _ (spread_scale c arg4 harg4 x3) 13 1664 rfl (by decide) slices_S148x128_o13_0_S1x128 inb_S16x18944_S16x128_0_1664,
    List.forall_mem_cons.mpr ⟨inv_row x3 _ (spread_scale c arg4 harg4 x3) 12 1536 rfl (by decide) slices_S148x128_o12_0_S1x128 inb_S16x18944_S16x128_0_1536,
    List.forall_mem_cons.mpr ⟨inv_row x3 _ (spread_scale c arg4 harg4 x3) 11 1408 rfl (by decide) slices_S148x128_o11_0_S1x128 inb_S16x18944_S16x128_0_1408,
    List.forall_mem_cons.mpr ⟨inv_row x3 _ (spread_scale c arg4 harg4 x3) 10 1280 rfl (by decide) slices_S148x128_o10_0_S1x128 inb_S16x18944_S16x128_0_1280,
    List.forall_mem_cons.mpr ⟨inv_row x3 _ (spread_scale c arg4 harg4 x3) 9 1152 rfl (by decide) slices_S148x128_o9_0_S1x128 inb_S16x18944_S16x128_0_1152,
    List.forall_mem_cons.mpr ⟨inv_row x3 _ (spread_scale c arg4 harg4 x3) 8 1024 rfl (by decide) slices_S148x128_o8_0_S1x128 inb_S16x18944_S16x128_0_1024,
    List.forall_mem_cons.mpr ⟨inv_row x3 _ (spread_scale c arg4 harg4 x3) 7 896 rfl (by decide) slices_S148x128_o7_0_S1x128 inb_S16x18944_S16x128_0_896,
    List.forall_mem_cons.mpr ⟨inv_row x3 _ (spread_scale c arg4 harg4 x3) 6 768 rfl (by decide) slices_S148x128_o6_0_S1x128 inb_S16x18944_S16x128_0_768,
    List.forall_mem_cons.mpr ⟨inv_row x3 _ (spread_scale c arg4 harg4 x3) 5 640 rfl (by decide) slices_S148x128_o5_0_S1x128 inb_S16x18944_S16x128_0_640,
    List.forall_mem_cons.mpr ⟨inv_row x3 _ (spread_scale c arg4 harg4 x3) 4 512 rfl (by decide) slices_S148x128_o4_0_S1x128 inb_S16x18944_S16x128_0_512,
    List.forall_mem_cons.mpr ⟨inv_row x3 _ (spread_scale c arg4 harg4 x3) 3 384 rfl (by decide) slices_S148x128_o3_0_S1x128 inb_S16x18944_S16x128_0_384,
    List.forall_mem_cons.mpr ⟨inv_row x3 _ (spread_scale c arg4 harg4 x3) 2 256 rfl (by decide) slices_S148x128_o2_0_S1x128 inb_S16x18944_S16x128_0_256,
    List.forall_mem_cons.mpr ⟨inv_row x3 _ (spread_scale c arg4 harg4 x3) 1 128 rfl (by decide) slices_S148x128_o1_0_S1x128 inb_S16x18944_S16x128_0_128,
    List.forall_mem_cons.mpr ⟨inv_row x3 _ (spread_scale c arg4 harg4 x3) 0 0 rfl (by decide) slices_S148x128_o0_0_S1x128 inb_S16x18944_S16x128_0_0,
    List.forall_mem_nil _⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩)

variable (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : cond0_0 i) (hc1 : ¬cond0_1 i) (x0 : Vec Ideal S1 .i32) (x1 : Vec Ideal S256x18944 .bf16) (x2 : Vec Ideal S256x1024 .f32) (x3 : Vec Ideal S1x256 .f32)

theorem inv_list : (kernelRun0_A (F := Ideal) c i arg1 harg1 arg2 harg2 arg3 harg3 arg4 harg4 arg5 harg5 arg6 harg6 arg7 harg7 arg8 harg8 arg9 harg9 arg10 harg10 arg11 harg11 hc0 hc1 x0 x1 x2 x3).2.2.2.2.1 = kernelRun0_A.sl.HS0_148 (F := Ideal) c arg4 harg4 x3 := by
  unfold kernelRun0_A
  dsimp only

include c i arg1 harg1 arg2 harg2 arg3 harg3 arg4 harg4 arg5 harg5 arg6 harg6 arg7 harg7 arg8 harg8 arg9 harg9 arg10 harg10 arg11 harg11 hc0 hc1 x0 x1 x2 x3

theorem inv_cover (y : S16x18944.Idx) : ∃ pc ∈ kernelRun0_A.sl.HS0_148 (F := Ideal) c arg4 harg4 x3, y ∈ pc.1.set := by
  have h := scover0_A_0 (F := Ideal) c i arg1 harg1 arg2 harg2 arg3 harg3 arg4 harg4 arg5 harg5 arg6 harg6 arg7 harg7 arg8 harg8 arg9 harg9 arg10 harg10 arg11 harg11 hc0 hc1 x0 x1 x2 x3 y
  rwa [inv_list] at h

/-- After the first grid point the scratch of reciprocals holds them for every column. -/
theorem sout_A_0 : sout0_A_0 (F := Ideal) c i arg1 harg1 arg2 harg2 arg3 harg3 arg4 harg4 arg5 harg5 arg6 harg6 arg7 harg7 arg8 harg8 arg9 harg9 arg10 harg10 arg11 harg11 hc0 hc1 x0 x1 x2 x3 = invG x3 := by
  funext y
  unfold sout0_A_0
  rw [inv_list]
  exact View.read_writes_apply_of_pieces VS0_0 _ (invG x3) _ (inv_pieces c arg4 harg4 x3) y (inv_cover c i arg1 harg1 arg2 harg2 arg3 harg3 arg4 harg4 arg5 harg5 arg6 harg6 arg7 harg7 arg8 harg8 arg9 harg9 arg10 harg10 arg11 harg11 hc0 hc1 x0 x1 x2 x3 y)

/-- The same through the memref the body writes them to. -/
theorem inv_read (f : BufTy.Contents (Elt Ideal) arg9.view.ty) : arg9.view.read (Elt Ideal) (arg9.view.writes (Elt Ideal) f (kernelRun0_A.sl.HS0_148 (F := Ideal) c arg4 harg4 x3)) = invG x3 := by
  funext y
  exact View.read_writes_apply_of_pieces arg9.view _ (invG x3) _ (inv_pieces c arg4 harg4 x3) y (inv_cover c i arg1 harg1 arg2 harg2 arg3 harg3 arg4 harg4 arg5 harg5 arg6 harg6 arg7 harg7 arg8 harg8 arg9 harg9 arg10 harg10 arg11 harg11 hc0 hc1 x0 x1 x2 x3 y)

end Cert.KernelIdeal.Gen
end
-- ==== Proof.Ideal.TripValue.lean ====
/- What one trip of the column loop stores into the codes block, element by element, over the extended reals. -/
module

public import proofs.«01_k».proof.Proof.Ideal.TripSpec
public import proofs.«01_k».proof.Proof.Ideal.Loop
public import Idealize.ShloMosaic.PureOps.Ideal
public import Idealize.ShloMosaic.Lib.Pointwise
public import Idealize.ShloMosaic.Lib.Pipeline.Value

@[expose] public section

set_option maxRecDepth 16384
set_option maxHeartbeats 4000000

noncomputable section

namespace Cert.KernelIdeal.Gen

open Idealize.ShloMosaic Idealize.ShloMosaic.TcCoe Idealize.SL.Sem

section
variable (𝒱 : Variants) (c : Dev nD) (bd : Option 𝒱.V) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (X_arg2 : BufTy.Contents (Elt Ideal) arg2.view.ty) (X_arg9 : BufTy.Contents (Elt Ideal) arg9.view.ty)

/-- Every piece that a trip stores into the codes block holds the codes of the block. -/
theorem trip_codes (k : Fin k0_t1_loop.trips) (f : BufTy.Contents (Elt Ideal) arg5.view.ty) (f10 : BufTy.Contents (Elt Ideal) arg10.view.ty) :
    ∀ p ∈ (tripL_k0_t1 (F := Ideal) 𝒱 c bd i arg1 harg1 arg2 harg2 arg3 harg3 arg4 harg4 arg5 harg5 arg6 harg6 arg7 harg7 arg8 harg8 arg9 harg9 arg10 harg10 arg11 harg11 X_arg2 X_arg9 k f f10).1,
      ∀ x : p.1.shape.Idx, p.2 x = codeAt (arg2.view.read (Elt Ideal) X_arg2) (arg9.view.read (Elt Ideal) X_arg9) (p.1.emb x) := by
  unfold tripL_k0_t1 trip_k0_t1
  dsimp only
  intro p hp
  fin_cases hp
  all_goals
    intro x
    change S32x256.Idx at x
    idx_vars x
    try dsimp only [trip_k0_t1.sl.r, trip_k0_t1.sl.r_2, trip_k0_t1.sl.r_4, trip_k0_t1.sl.r_6, trip_k0_t1.sl.r_8, trip_k0_t1.sl.cst_28]
    unfold_payloads
    pointwise [View.readAt_apply]
    simp only [k0_off1_eq, k0_off2_eq, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, Matrix.cons_val_zero, Matrix.cons_val_one, Nat.zero_add]
    split
  all_goals
    rename_i hx
    refine code_eq ?_ ?_ ?_ ?_
    all_goals
      simp only [Rect.emb_apply, Rect.off_unit, Rect.stride_unit, ix2_0, ix2_1, k0_off4_eq, k0_off7_eq, k0_off10_eq, k0_off13_eq, k0_off16_eq, k0_off19_eq, k0_off22_eq, k0_off25_eq, Matrix.cons_val_zero, Matrix.cons_val_one, Nat.zero_add, Nat.one_mul]
      first | done | omega
end
end Cert.KernelIdeal.Gen
end
-- ==== Proof.Ideal.TripMax.lean ====
/- What one trip of the column loop stores into the running maximum, element by element, over the extended reals. -/
module

public import proofs.«01_k».proof.Proof.Ideal.TripSpec
public import proofs.«01_k».proof.Proof.Ideal.Loop
public import Idealize.ShloMosaic.PureOps.Ideal
public import Idealize.ShloMosaic.Lib.Pointwise
public import Idealize.ShloMosaic.Lib.Pipeline.Value

@[expose] public section

set_option maxRecDepth 16384
set_option maxHeartbeats 4000000

noncomputable section

namespace Cert.KernelIdeal.Gen

open Idealize.ShloMosaic Idealize.ShloMosaic.TcCoe Idealize.SL.Sem

/-- A supremum over sixteen, told one by one. -/
theorem sup16_le {f : Fin 16 → EReal} {z : EReal} : Finset.univ.sup f ≤ z ↔ f ⟨0, by decide⟩ ≤ z ∧ f ⟨1, by decide⟩ ≤ z ∧ f ⟨2, by decide⟩ ≤ z ∧ f ⟨3, by decide⟩ ≤ z ∧ f ⟨4, by decide⟩ ≤ z ∧ f ⟨5, by decide⟩ ≤ z ∧ f ⟨6, by decide⟩ ≤ z ∧ f ⟨7, by decide⟩ ≤ z ∧ f ⟨8, by decide⟩ ≤ z ∧ f ⟨9, by decide⟩ ≤ z ∧ f ⟨10, by decide⟩ ≤ z ∧ f ⟨11, by decide⟩ ≤ z ∧ f ⟨12, by decide⟩ ≤ z ∧ f ⟨13, by decide⟩ ≤ z ∧ f ⟨14, by decide⟩ ≤ z ∧ f ⟨15, by decide⟩ ≤ z := by
  simp only [Finset.sup_le_iff, Finset.mem_univ, true_implies]
  constructor
  · intro h; exact ⟨h ⟨0, by decide⟩, h ⟨1, by decide⟩, h ⟨2, by decide⟩, h ⟨3, by decide⟩, h ⟨4, by decide⟩, h ⟨5, by decide⟩, h ⟨6, by decide⟩, h ⟨7, by decide⟩, h ⟨8, by decide⟩, h ⟨9, by decide⟩, h ⟨10, by decide⟩, h ⟨11, by decide⟩, h ⟨12, by decide⟩, h ⟨13, by decide⟩, h ⟨14, by decide⟩, h ⟨15, by decide⟩⟩
  · rintro ⟨h0, h1, h2, h3, h4, h5, h6, h7, h8, h9, h10, h11, h12, h13, h14, h15⟩ j
    fin_cases j <;> assumption

section
variable (𝒱 : Variants) (c : Dev nD) (bd : Option 𝒱.V) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (X_arg2 : BufTy.Contents (Elt Ideal) arg2.view.ty) (X_arg9 : BufTy.Contents (Elt Ideal) arg9.view.ty)

/-- The piece that a trip stores into the running maximum holds the maximum with the block's rows taken in. -/
theorem trip_max (k : Fin k0_t1_loop.trips) (f : BufTy.Contents (Elt Ideal) arg5.view.ty) (f10 : BufTy.Contents (Elt Ideal) arg10.view.ty) :
    ∀ p ∈ (tripL_k0_t1 (F := Ideal) 𝒱 c bd i arg1 harg1 arg2 harg2 arg3 harg3 arg4 harg4 arg5 harg5 arg6 harg6 arg7 harg7 arg8 harg8 arg9 harg9 arg10 harg10 arg11 harg11 X_arg2 X_arg9 k f f10).2,
      ∀ x : p.1.shape.Idx, p.2 x = maxAt (arg2.view.read (Elt Ideal) X_arg2) (arg10.view.read (Elt Ideal) f10) (p.1.emb x) := by
  unfold tripL_k0_t1 trip_k0_t1
  dsimp only
  intro p hp
  fin_cases hp
  intro x
  change S16x256.Idx at x
  idx_vars x
  dsimp only [trip_k0_t1.sl.r_9, trip_k0_t1.sl.r_7, trip_k0_t1.sl.r_5, trip_k0_t1.sl.r_3, trip_k0_t1.sl.r_1]
  unfold_payloads
  pointwise [View.readAt_apply, maxAt, Ideal.absf_def]
  have he : (Rect.unit (s := S16x18944) (k0_off1 k) S16x256.size (k0_off1_inb k)).emb (ix2 x0 x1) = ix2 x0 ⟨256 * k.val + x1.val, by have := k.isLt; have := k0_t1_abs.2.1; omega⟩ := by
    refine idx2_ext ?_ ?_
    · rw [Rect.emb_apply]; simp [k0_off1_eq]
    · rw [Rect.emb_apply]; simp [k0_off1_eq]
  erw [he]
  simp only [k0_off1_eq, k0_off2_eq, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, Matrix.cons_val_zero, Matrix.cons_val_one, Nat.zero_add]
  refine eq_of_forall_ge_iff fun z => ?_
  simp only [max_le_iff, sup16_le, ix2_0, ix2_1, and_assoc, Nat.reduceMul, Nat.zero_add]
end
end Cert.KernelIdeal.Gen
end
-- ==== Proof.Ideal.LoopValue.lean ====
/- What the column loop leaves in the codes block and in the running maximum, element by element. -/
module

public import proofs.«01_k».proof.Proof.Ideal.TripValue
public import proofs.«01_k».proof.Proof.Ideal.TripMax
public import Idealize.ShloMosaic.PureOps.Ideal
public import Idealize.ShloMosaic.Lib.Pointwise
public import Idealize.ShloMosaic.Lib.Pipeline.Value

@[expose] public section

set_option maxRecDepth 16384
set_option maxHeartbeats 4000000

noncomputable section

namespace Cert.KernelIdeal.Gen

open Idealize.ShloMosaic Idealize.ShloMosaic.TcCoe Idealize.SL.Sem

section
variable (𝒱 : Variants) (c : Dev nD) (bd : Option 𝒱.V) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (X_arg2 : BufTy.Contents (Elt Ideal) arg2.view.ty) (X_arg9 : BufTy.Contents (Elt Ideal) arg9.view.ty)

/-- The pieces of one trip cover its columns of the codes block. -/
theorem trip_codes_cover (k : Fin k0_t1_loop.trips) (f : BufTy.Contents (Elt Ideal) arg5.view.ty) (f10 : BufTy.Contents (Elt Ideal) arg10.view.ty)
    (y : S256x18944.Idx) (h : 256 * k.val ≤ (y 1).val) (h' : (y 1).val < 256 * k.val + 256) :
    ∃ p ∈ (tripL_k0_t1 (F := Ideal) 𝒱 c bd i arg1 harg1 arg2 harg2 arg3 harg3 arg4 harg4 arg5 harg5 arg6 harg6 arg7 harg7 arg8 harg8 arg9 harg9 arg10 harg10 arg11 harg11 X_arg2 X_arg9 k f f10).1, y ∈ p.1.set := by
  unfold tripL_k0_t1 trip_k0_t1
  dsimp only
  have hy : (y 0).val < 256 := (y 0).isLt
  simp only [List.mem_cons, List.not_mem_nil, or_false, exists_eq_or_imp, exists_eq_left, Rect.mem_set_unit, k0_off4_eq, k0_off7_eq, k0_off10_eq, k0_off13_eq, k0_off16_eq, k0_off19_eq, k0_off22_eq, k0_off25_eq, Fin.forall_fin_two, Matrix.cons_val_zero, Matrix.cons_val_one]
  omega

/-- The one piece of a trip into the running maximum lies on the trip's columns. -/
theorem trip_max_mem (k : Fin k0_t1_loop.trips) (f : BufTy.Contents (Elt Ideal) arg5.view.ty) (f10 : BufTy.Contents (Elt Ideal) arg10.view.ty) (y : S16x18944.Idx) :
    (∃ p ∈ (tripL_k0_t1 (F := Ideal) 𝒱 c bd i arg1 harg1 arg2 harg2 arg3 harg3 arg4 harg4 arg5 harg5 arg6 harg6 arg7 harg7 arg8 harg8 arg9 harg9 arg10 harg10 arg11 harg11 X_arg2 X_arg9 k f f10).2, y ∈ p.1.set) ↔ 256 * k.val ≤ (y 1).val ∧ (y 1).val < 256 * k.val + 256 := by
  unfold tripL_k0_t1 trip_k0_t1
  dsimp only
  have hy : (y 0).val < 16 := (y 0).isLt
  simp only [List.mem_cons, List.not_mem_nil, or_false, exists_eq_or_imp, exists_eq_left, Rect.mem_set_unit, k0_off1_eq, Fin.forall_fin_two, Matrix.cons_val_zero, Matrix.cons_val_one]
  omega

/-- Every piece that the trips before `n` store into the codes block holds the codes of the block. -/
theorem loop_codes_pieces (G5 : BufTy.Contents (Elt Ideal) arg5.view.ty) (G10 : BufTy.Contents (Elt Ideal) arg10.view.ty) (n : ℕ) :
    ∀ p ∈ (pb_k0_t1 (F := Ideal) 𝒱 c bd i arg1 harg1 arg2 harg2 arg3 harg3 arg4 harg4 arg5 harg5 arg6 harg6 arg7 harg7 arg8 harg8 arg9 harg9 arg10 harg10 arg11 harg11 X_arg2 X_arg9 G5 G10 n).1,
      ∀ x : p.1.shape.Idx, p.2 x = codeAt (arg2.view.read (Elt Ideal) X_arg2) (arg9.view.read (Elt Ideal) X_arg9) (p.1.emb x) := by
  induction n with
  | zero => intro p hp; exact absurd hp List.not_mem_nil
  | succ n ih =>
    by_cases h : n < k0_t1_loop.trips
    · have e := pb_k0_t1_succ (F := Ideal) 𝒱 c bd i arg1 harg1 arg2 harg2 arg3 harg3 arg4 harg4 arg5 harg5 arg6 harg6 arg7 harg7 arg8 harg8 arg9 harg9 arg10 harg10 arg11 harg11 X_arg2 X_arg9 G5 G10 ⟨n, h⟩
      rw [show n + 1 = (⟨n, h⟩ : Fin k0_t1_loop.trips).val + 1 from rfl, e]
      intro p hp
      rcases List.mem_append.mp hp with hp | hp
      · exact trip_codes 𝒱 c bd i arg1 harg1 arg2 harg2 arg3 harg3 arg4 harg4 arg5 harg5 arg6 harg6 arg7 harg7 arg8 harg8 arg9 harg9 arg10 harg10 arg11 harg11 X_arg2 X_arg9 ⟨n, h⟩ _ _ p hp
      · exact ih p hp
    · rw [pb_k0_t1.eq_2]; unfold pb_k0_t1Step; rw [dif_neg h]; exact ih

/-- The trips before `n` cover the columns before `256 n` of the codes block. -/
theorem loop_codes_cover (G5 : BufTy.Contents (Elt Ideal) arg5.view.ty) (G10 : BufTy.Contents (Elt Ideal) arg10.view.ty) (n : ℕ) (hn : n ≤ k0_t1_loop.trips)
    (y : S256x18944.Idx) (hy : (y 1).val < 256 * n) : ∃ p ∈ (pb_k0_t1 (F := Ideal) 𝒱 c bd i arg1 harg1 arg2 harg2 arg3 harg3 arg4 harg4 arg5 harg5 arg6 harg6 arg7 harg7 arg8 harg8 arg9 harg9 arg10 harg10 arg11 harg11 X_arg2 X_arg9 G5 G10 n).1, y ∈ p.1.set := by
  induction n with
  | zero => omega
  | succ n ih =>
    have e := pb_k0_t1_succ (F := Ideal) 𝒱 c bd i arg1 harg1 arg2 harg2 arg3 harg3 arg4 harg4 arg5 harg5 arg6 harg6 arg7 harg7 arg8 harg8 arg9 harg9 arg10 harg10 arg11 harg11 X_arg2 X_arg9 G5 G10 ⟨n, hn⟩
    rw [show n + 1 = (⟨n, hn⟩ : Fin k0_t1_loop.trips).val + 1 from rfl, e]
    by_cases h : (y 1).val < 256 * n
    · obtain ⟨p, hp, hm⟩ := ih (by omega) h
      exact ⟨p, List.mem_append.mpr (.inr hp), hm⟩
    · obtain ⟨p, hp, hm⟩ := trip_codes_cover 𝒱 c bd i arg1 harg1 arg2 harg2 arg3 harg3 arg4 harg4 arg5 harg5 arg6 harg6 arg7 harg7 arg8 harg8 arg9 harg9 arg10 harg10 arg11 harg11 X_arg2 X_arg9 ⟨n, hn⟩ (arg5.view.writes (Elt Ideal) G5 (pb_k0_t1 (F := Ideal) 𝒱 c bd i arg1 harg1 arg2 harg2 arg3 harg3 arg4 harg4 arg5 harg5 arg6 harg6 arg7 harg7 arg8 harg8 arg9 harg9 arg10 harg10 arg11 harg11 X_arg2 X_arg9 G5 G10 n).1) (arg10.view.writes (Elt Ideal) G10 (pb_k0_t1 (F := Ideal) 𝒱 c bd i arg1 harg1 arg2 harg2 arg3 harg3 arg4 harg4 arg5 harg5 arg6 harg6 arg7 harg7 arg8 harg8 arg9 harg9 arg10 harg10 arg11 harg11 X_arg2 X_arg9 G5 G10 n).2) y (by show 256 * n ≤ _; omega) (by show _ < 256 * n + 256; omega)
      exact ⟨p, List.mem_append.mpr (.inl hp), hm⟩

/-- After the loop the codes block holds the codes of the block. -/
theorem loop_codes (f G5 : BufTy.Contents (Elt Ideal) arg5.view.ty) (G10 : BufTy.Contents (Elt Ideal) arg10.view.ty) :
    arg5.view.read (Elt Ideal) (arg5.view.writes (Elt Ideal) f (pb_k0_t1 (F := Ideal) 𝒱 c bd i arg1 harg1 arg2 harg2 arg3 harg3 arg4 harg4 arg5 harg5 arg6 harg6 arg7 harg7 arg8 harg8 arg9 harg9 arg10 harg10 arg11 harg11 X_arg2 X_arg9 G5 G10 k0_t1_loop.trips).1)
      = codeAt (arg2.view.read (Elt Ideal) X_arg2) (arg9.view.read (Elt Ideal) X_arg9) := by
  funext y
  refine View.read_writes_apply_of_pieces arg5.view f _ _ (loop_codes_pieces 𝒱 c bd i arg1 harg1 arg2 harg2 arg3 harg3 arg4 harg4 arg5 harg5 arg6 harg6 arg7 harg7 arg8 harg8 arg9 harg9 arg10 harg10 arg11 harg11 X_arg2 X_arg9 G5 G10 _) y (loop_codes_cover 𝒱 c bd i arg1 harg1 arg2 harg2 arg3 harg3 arg4 harg4 arg5 harg5 arg6 harg6 arg7 harg7 arg8 harg8 arg9 harg9 arg10 harg10 arg11 harg11 X_arg2 X_arg9 G5 G10 _ le_rfl y ?_)
  have : (y 1).val < 18944 := (y 1).isLt
  have e : k0_t1_loop.trips = 74 := by decide
  rw [e]; omega

/-- After the trips before `n` the columns before `256 n` of the running maximum have taken the block in; the others are
    as they were. -/
theorem loop_max_upto (G5 : BufTy.Contents (Elt Ideal) arg5.view.ty) (G10 : BufTy.Contents (Elt Ideal) arg10.view.ty) (n : ℕ) (hn : n ≤ k0_t1_loop.trips) (y : S16x18944.Idx) :
    arg10.view.read (Elt Ideal) (arg10.view.writes (Elt Ideal) G10 (pb_k0_t1 (F := Ideal) 𝒱 c bd i arg1 harg1 arg2 harg2 arg3 harg3 arg4 harg4 arg5 harg5 arg6 harg6 arg7 harg7 arg8 harg8 arg9 harg9 arg10 harg10 arg11 harg11 X_arg2 X_arg9 G5 G10 n).2) y
      = if (y 1).val < 256 * n then maxAt (arg2.view.read (Elt Ideal) X_arg2) (arg10.view.read (Elt Ideal) G10) y else arg10.view.read (Elt Ideal) G10 y := by
  induction n with
  | zero => rw [if_neg (by omega)]; rfl
  | succ n ih =>
    have e := pb_k0_t1_succ (F := Ideal) 𝒱 c bd i arg1 harg1 arg2 harg2 arg3 harg3 arg4 harg4 arg5 harg5 arg6 harg6 arg7 harg7 arg8 harg8 arg9 harg9 arg10 harg10 arg11 harg11 X_arg2 X_arg9 G5 G10 ⟨n, hn⟩
    rw [show n + 1 = (⟨n, hn⟩ : Fin k0_t1_loop.trips).val + 1 from rfl, e]
    dsimp only
    rw [View.writes_append]
    have ih := ih (by omega)
    have hm := trip_max_mem 𝒱 c bd i arg1 harg1 arg2 harg2 arg3 harg3 arg4 harg4 arg5 harg5 arg6 harg6 arg7 harg7 arg8 harg8 arg9 harg9 arg10 harg10 arg11 harg11 X_arg2 X_arg9 ⟨n, hn⟩ (arg5.view.writes (Elt Ideal) G5 (pb_k0_t1 (F := Ideal) 𝒱 c bd i arg1 harg1 arg2 harg2 arg3 harg3 arg4 harg4 arg5 harg5 arg6 harg6 arg7 harg7 arg8 harg8 arg9 harg9 arg10 harg10 arg11 harg11 X_arg2 X_arg9 G5 G10 n).1) (arg10.view.writes (Elt Ideal) G10 (pb_k0_t1 (F := Ideal) 𝒱 c bd i arg1 harg1 arg2 harg2 arg3 harg3 arg4 harg4 arg5 harg5 arg6 harg6 arg7 harg7 arg8 harg8 arg9 harg9 arg10 harg10 arg11 harg11 X_arg2 X_arg9 G5 G10 n).2) y
    by_cases h : 256 * n ≤ (y 1).val ∧ (y 1).val < 256 * n + 256
    · rw [View.read_writes_apply_of_pieces arg10.view _ _ _ (trip_max 𝒱 c bd i arg1 harg1 arg2 harg2 arg3 harg3 arg4 harg4 arg5 harg5 arg6 harg6 arg7 harg7 arg8 harg8 arg9 harg9 arg10 harg10 arg11 harg11 X_arg2 X_arg9 ⟨n, hn⟩ _ _) y (hm.mpr h)]
      rw [if_neg (by omega)] at ih
      rw [if_pos (by omega)]
      unfold maxAt
      rw [ih]
    · rw [View.read_writes_apply_of_forall_not_mem arg10.view _ y _ (fun p hp hy => h (hm.mp ⟨p, hp, hy⟩)), ih]
      by_cases h2 : (y 1).val < 256 * n
      · rw [if_pos h2, if_pos (by omega)]
      · rw [if_neg h2, if_neg (by omega)]

/-- After the loop the running maximum has taken the block in. -/
theorem loop_max (G5 : BufTy.Contents (Elt Ideal) arg5.view.ty) (G10 : BufTy.Contents (Elt Ideal) arg10.view.ty) :
    arg10.view.read (Elt Ideal) (arg10.view.writes (Elt Ideal) G10 (pb_k0_t1 (F := Ideal) 𝒱 c bd i arg1 harg1 arg2 harg2 arg3 harg3 arg4 harg4 arg5 harg5 arg6 harg6 arg7 harg7 arg8 harg8 arg9 harg9 arg10 harg10 arg11 harg11 X_arg2 X_arg9 G5 G10 k0_t1_loop.trips).2)
      = maxAt (arg2.view.read (Elt Ideal) X_arg2) (arg10.view.read (Elt Ideal) G10) := by
  funext y
  rw [loop_max_upto 𝒱 c bd i arg1 harg1 arg2 harg2 arg3 harg3 arg4 harg4 arg5 harg5 arg6 harg6 arg7 harg7 arg8 harg8 arg9 harg9 arg10 harg10 arg11 harg11 X_arg2 X_arg9 G5 G10 _ le_rfl y, if_pos]
  have : (y 1).val < 18944 := (y 1).isLt
  have e : k0_t1_loop.trips = 74 := by decide
  rw [e]; omega
end
end Cert.KernelIdeal.Gen
end
-- ==== Proof.Ideal.HistMax.lean ====
/- The maximum of each tensor's history, without the slot that is about to be written. -/
module

public import proofs.«01_k».proof.Proof.Ideal.Recip
public import proofs.«01_k».proof.Proof.Ideal.Exponent

@[expose] public section

set_option maxRecDepth 16384
set_option maxHeartbeats 4000000

noncomputable section

namespace Cert.KernelIdeal.Gen

open Idealize.ShloMosaic Idealize.ShloMosaic.TcCoe Idealize.SL.Sem Cert.Exponent

/-- The row of history maxima at tensor `t`: the greatest entry of its history outside slot `s`. -/
theorem hist_apply (s : BitVec 32) (H : Vec Ideal S256x1024 .f32) (t : Fin 256) (z : EReal) :
    k0_pay1 (F := Ideal) (k0_pay194 s H) (ix2 0 t) ≤ z ↔ ∀ k : Fin 1024, BitVec.ofNat 32 k.val ≠ s → H (ix2 t k) ≤ z := by
  pointwise [k0_pay1, k0_pay194]
  rw [neg_inf]
  simp only [Finset.fold_max_le, bot_le, true_and, Finset.mem_univ, forall_true_left]
  have hk : ∀ k : Fin 1024, Scalar.select (IntOp.cmpi .eq (BitVec.ofNat 32 k.val) s) (⊥ : EReal) (H (ix2 t k)) ≤ z ↔ (BitVec.ofNat 32 k.val ≠ s → H (ix2 t k) ≤ z) := by
    intro k
    rw [show IntOp.cmpi .eq (BitVec.ofNat 32 k.val) s = BitVec.ofBool (BitVec.ofNat 32 k.val == s) from rfl]
    by_cases h : BitVec.ofNat 32 k.val = s
    · simp [h, Scalar.select]
    · rw [show (BitVec.ofNat 32 k.val == s) = false from beq_eq_false_iff_ne.mpr h]
      simp [h, Scalar.select]
  have hr : ∀ x : Fin 256, Scalar.select (IntOp.cmpi .eq (BitVec.ofNat 32 x.val) (BitVec.ofNat 32 t.val)) (Finset.univ.fold max (⊥ : EReal) fun k : Fin 1024 => Scalar.select (IntOp.cmpi .eq (BitVec.ofNat 32 k.val) s) (⊥ : EReal) (H (ix2 x k))) ⊥ ≤ z ↔
      (x = t → (Finset.univ.fold max (⊥ : EReal) fun k : Fin 1024 => Scalar.select (IntOp.cmpi .eq (BitVec.ofNat 32 k.val) s) (⊥ : EReal) (H (ix2 x k))) ≤ z) := by
    intro x
    rw [eq_word (by have := x.isLt; omega) (by have := t.isLt; omega), select_ofBool]
    by_cases h : x = t
    · subst h; simp
    · have h' : ¬ x.val = t.val := fun e => h (Fin.ext e)
      rw [if_neg h']; simp [h]
  constructor
  · intro h k hs
    have h1 := (hr t).mp (h t) rfl
    rw [Finset.fold_max_le] at h1
    exact (hk k).mp (h1.2 k (Finset.mem_univ _)) hs
  · intro h x
    refine (hr x).mpr ?_
    rintro rfl
    rw [Finset.fold_max_le]
    exact ⟨bot_le, fun k _ => (hk k).mpr (h k)⟩

end Cert.KernelIdeal.Gen
end
-- ==== Proof.Ideal.CaseA.lean ====
/- What the first grid point leaves: the codes block, the running maxima, the maxima of the history and the scale that was used. -/
module

public import proofs.«01_k».proof.Proof.Ideal.InvValue
public import proofs.«01_k».proof.Proof.Ideal.LoopValue
public import proofs.«01_k».proof.Proof.Ideal.HistMax

@[expose] public section

set_option maxRecDepth 16384
set_option maxHeartbeats 4000000

noncomputable section

namespace Cert.KernelIdeal.Gen

open Idealize.ShloMosaic Idealize.ShloMosaic.TcCoe Idealize.SL.Sem Cert.Exponent

theorem emb_row (x : S1x256.Idx) : (Rect.unit (s := S1x256) ![0, 0] ![1, 256] inb_S1x256_S1x256_0_0).emb x = x := by
  refine idx2_ext ?_ ?_
  · show 0 + 1 * (x 0).val = (x 0).val; omega
  · show 0 + 1 * (x 1).val = (x 1).val; omega

variable (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : cond0_0 i) (hc1 : ¬cond0_1 i) (x0 : Vec Ideal S1 .i32) (x1 : Vec Ideal S256x18944 .bf16) (x2 : Vec Ideal S256x1024 .f32) (x3 : Vec Ideal S1x256 .f32)

include c i arg1 harg1 arg2 harg2 arg3 harg3 arg4 harg4 arg5 harg5 arg6 harg6 arg7 harg7 arg8 harg8 arg9 harg9 arg10 harg10 arg11 harg11 hc0 hc1 x0 x1 x2 x3

theorem codes_list_A : (kernelRun0_A (F := Ideal) c i arg1 harg1 arg2 harg2 arg3 harg3 arg4 harg4 arg5 harg5 arg6 harg6 arg7 harg7 arg8 harg8 arg9 harg9 arg10 harg10 arg11 harg11 hc0 hc1 x0 x1 x2 x3).1 = (pb_k0_t1 (F := Ideal) Variants.none c none i arg1 harg1 arg2 harg2 arg3 harg3 arg4 harg4 arg5 harg5 arg6 harg6 arg7 harg7 arg8 harg8 arg9 harg9 arg10 harg10 arg11 harg11 (harg2.unread x1) (arg9.view.writes (Elt Ideal) arg9.view.junk (kernelRun0_A.sl.HS0_148 (F := Ideal) c arg4 harg4 x3)) arg5.view.junk (arg10.view.writes (Elt Ideal) arg10.view.junk kernelRun0_A.sl.HS1_1) k0_t1_loop.trips).1 := by
  unfold kernelRun0_A
  dsimp only

theorem max_list_A : (kernelRun0_A (F := Ideal) c i arg1 harg1 arg2 harg2 arg3 harg3 arg4 harg4 arg5 harg5 arg6 harg6 arg7 harg7 arg8 harg8 arg9 harg9 arg10 harg10 arg11 harg11 hc0 hc1 x0 x1 x2 x3).2.2.2.2.2.1 = (pb_k0_t1 (F := Ideal) Variants.none c none i arg1 harg1 arg2 harg2 arg3 harg3 arg4 harg4 arg5 harg5 arg6 harg6 arg7 harg7 arg8 harg8 arg9 harg9 arg10 harg10 arg11 harg11 (harg2.unread x1) (arg9.view.writes (Elt Ideal) arg9.view.junk (kernelRun0_A.sl.HS0_148 (F := Ideal) c arg4 harg4 x3)) arg5.view.junk (arg10.view.writes (Elt Ideal) arg10.view.junk kernelRun0_A.sl.HS1_1) k0_t1_loop.trips).2 ++ kernelRun0_A.sl.HS1_1 := by
  unfold kernelRun0_A
  dsimp only

/-- The codes block of the first grid point. -/
theorem out_A_4 : out0_A_4 (F := Ideal) c i arg1 harg1 arg2 harg2 arg3 harg3 arg4 harg4 arg5 harg5 arg6 harg6 arg7 harg7 arg8 harg8 arg9 harg9 arg10 harg10 arg11 harg11 hc0 hc1 x0 x1 x2 x3 = codeAt x1 (invG x3) := by
  have hc := cover0_A_4 (F := Ideal) c i arg1 harg1 arg2 harg2 arg3 harg3 arg4 harg4 arg5 harg5 arg6 harg6 arg7 harg7 arg8 harg8 arg9 harg9 arg10 harg10 arg11 harg11 hc0 hc1 x0 x1 x2 x3
  unfold out0_A_4
  rw [codes_list_A] at hc ⊢
  rw [View.read_writes_of_cover VO0_4 VO0_4.junk arg5.view arg5.view.junk _ hc, loop_codes Variants.none c none i arg1 harg1 arg2 harg2 arg3 harg3 arg4 harg4 arg5 harg5 arg6 harg6 arg7 harg7 arg8 harg8 arg9 harg9 arg10 harg10 arg11 harg11 (harg2.unread x1) (arg9.view.writes (Elt Ideal) arg9.view.junk (kernelRun0_A.sl.HS0_148 (F := Ideal) c arg4 harg4 x3)), harg2.read_unread, inv_read c i arg1 harg1 arg2 harg2 arg3 harg3 arg4 harg4 arg5 harg5 arg6 harg6 arg7 harg7 arg8 harg8 arg9 harg9 arg10 harg10 arg11 harg11 hc0 hc1 x0 x1 x2 x3]

theorem zero_read : arg10.view.read (Elt Ideal) (arg10.view.writes (Elt Ideal) arg10.view.junk (kernelRun0_A.sl.HS1_1 (F := Ideal))) = fun _ => 0 := by
  funext y
  refine View.read_writes_apply_of_pieces arg10.view _ (fun _ => 0) _ ?_ y ?_
  · unfold kernelRun0_A.sl.HS1_1
    intro p hp
    rcases List.mem_singleton.mp hp with rfl
    intro x
    change S16x18944.Idx at x
    idx_vars x
    pointwise [k0_pay193]
  · unfold kernelRun0_A.sl.HS1_1
    refine ⟨_, List.mem_singleton_self _, ?_⟩
    rw [Rect.mem_set_unit]
    intro a
    exact ⟨by match a with | ⟨0, _⟩ => exact Nat.zero_le _ | ⟨1, _⟩ => exact Nat.zero_le _, by
      match a with
      | ⟨0, _⟩ => have : (y 0).val < 16 := (y 0).isLt; show (y 0).val < 0 + 16; omega
      | ⟨1, _⟩ => have : (y 1).val < 18944 := (y 1).isLt; show (y 1).val < 0 + 18944; omega⟩

/-- The running maxima after the first grid point. -/
theorem sout_A_1 : sout0_A_1 (F := Ideal) c i arg1 harg1 arg2 harg2 arg3 harg3 arg4 harg4 arg5 harg5 arg6 harg6 arg7 harg7 arg8 harg8 arg9 harg9 arg10 harg10 arg11 harg11 hc0 hc1 x0 x1 x2 x3 = maxAt x1 (fun _ => 0) := by
  have hc := scover0_A_1 (F := Ideal) c i arg1 harg1 arg2 harg2 arg3 harg3 arg4 harg4 arg5 harg5 arg6 harg6 arg7 harg7 arg8 harg8 arg9 harg9 arg10 harg10 arg11 harg11 hc0 hc1 x0 x1 x2 x3
  unfold sout0_A_1
  rw [max_list_A] at hc ⊢
  rw [View.read_writes_of_cover VS0_1 VS0_1.junk arg10.view arg10.view.junk _ hc, View.writes_append, loop_max Variants.none c none i arg1 harg1 arg2 harg2 arg3 harg3 arg4 harg4 arg5 harg5 arg6 harg6 arg7 harg7 arg8 harg8 arg9 harg9 arg10 harg10 arg11 harg11 (harg2.unread x1) (arg9.view.writes (Elt Ideal) arg9.view.junk (kernelRun0_A.sl.HS0_148 (F := Ideal) c arg4 harg4 x3)), harg2.read_unread, zero_read c i arg1 harg1 arg2 harg2 arg3 harg3 arg4 harg4 arg5 harg5 arg6 harg6 arg7 harg7 arg8 harg8 arg9 harg9 arg10 harg10 arg11 harg11 hc0 hc1 x0 x1 x2 x3]

theorem scale_list_A : (kernelRun0_A (F := Ideal) c i arg1 harg1 arg2 harg2 arg3 harg3 arg4 harg4 arg5 harg5 arg6 harg6 arg7 harg7 arg8 harg8 arg9 harg9 arg10 harg10 arg11 harg11 hc0 hc1 x0 x1 x2 x3).2.2.2.1 = kernelRun0_A.sl.H7_1 (F := Ideal) c arg4 harg4 x3 := by
  unfold kernelRun0_A
  dsimp only

/-- The scale that was used is the scale. -/
theorem out_A_7 : out0_A_7 (F := Ideal) c i arg1 harg1 arg2 harg2 arg3 harg3 arg4 harg4 arg5 harg5 arg6 harg6 arg7 harg7 arg8 harg8 arg9 harg9 arg10 harg10 arg11 harg11 hc0 hc1 x0 x1 x2 x3 = x3 := by
  have hc := cover0_A_7 (F := Ideal) c i arg1 harg1 arg2 harg2 arg3 harg3 arg4 harg4 arg5 harg5 arg6 harg6 arg7 harg7 arg8 harg8 arg9 harg9 arg10 harg10 arg11 harg11 hc0 hc1 x0 x1 x2 x3
  unfold out0_A_7
  rw [scale_list_A] at hc ⊢
  funext y
  refine View.read_writes_apply_of_pieces VO0_7 _ x3 _ ?_ y (hc y)
  unfold kernelRun0_A.sl.H7_1
  intro p hp
  rcases List.mem_singleton.mp hp with rfl
  intro x
  change S1x256.Idx at x
  rw [emb_row]
  show k0_pay4 (F := Ideal) (loadRow arg4 harg4 x3) x = x3 x
  idx_vars x
  obtain rfl : ‹Fin 1› = 0 := Subsingleton.elim _ _
  rw [← load_row arg4 harg4 x3]
  pointwise [k0_pay4]

theorem hist_list_A : (kernelRun0_A (F := Ideal) c i arg1 harg1 arg2 harg2 arg3 harg3 arg4 harg4 arg5 harg5 arg6 harg6 arg7 harg7 arg8 harg8 arg9 harg9 arg10 harg10 arg11 harg11 hc0 hc1 x0 x1 x2 x3).2.2.2.2.2.2.1 = kernelRun0_A.sl.HS2_1 (F := Ideal) c arg1 harg1 arg3 harg3 x0 x2 := by
  unfold kernelRun0_A
  dsimp only

/-- The maxima of the history: at tensor `t` the greatest entry outside the slot. -/
theorem sout_A_2 (t : Fin 256) (z : EReal) : sout0_A_2 (F := Ideal) c i arg1 harg1 arg2 harg2 arg3 harg3 arg4 harg4 arg5 harg5 arg6 harg6 arg7 harg7 arg8 harg8 arg9 harg9 arg10 harg10 arg11 harg11 hc0 hc1 x0 x1 x2 x3 (ix2 0 t) ≤ z ↔ ∀ k : Fin 1024, BitVec.ofNat 32 k.val ≠ x0 (ix1 0) → x2 (ix2 t k) ≤ z := by
  have hc := scover0_A_2 (F := Ideal) c i arg1 harg1 arg2 harg2 arg3 harg3 arg4 harg4 arg5 harg5 arg6 harg6 arg7 harg7 arg8 harg8 arg9 harg9 arg10 harg10 arg11 harg11 hc0 hc1 x0 x1 x2 x3
  unfold sout0_A_2
  rw [hist_list_A] at hc ⊢
  rw [View.read_writes_apply_of_pieces VS0_2 _ (fun y => k0_pay1 (F := Ideal) (kernelRun0_A.sl.r_37 (F := Ideal) c arg1 harg1 arg3 harg3 x0 x2) y) _ ?_ _ (hc _)]
  · unfold kernelRun0_A.sl.r_37
    rw [hist_apply]
    unfold kernelRun0_A.sl.r_36
    have e : ∀ k : Fin 1024, View.readAt (Elt Ideal) arg3.view (Rect.unit (s := S256x1024) ![0, 0] S256x1024.size inb_S256x1024_S256x1024_0_0).toLoadRect (harg3.unread x2) (ix2 t k) = x2 (ix2 t k) := by
      intro k
      have e' : View.readAt (Elt Ideal) arg3.view (Rect.unit (s := S256x1024) ![0, 0] S256x1024.size inb_S256x1024_S256x1024_0_0).toLoadRect (harg3.unread x2) (ix2 t k)
        = arg3.view.read (Elt Ideal) (harg3.unread x2) ((Rect.unit (s := S256x1024) ![0, 0] S256x1024.size inb_S256x1024_S256x1024_0_0).emb (ix2 t k)) := rfl
      rw [e', harg3.read_unread]
      congr 1
      refine idx2_ext ?_ ?_
      · show 0 + 1 * t.val = t.val; omega
      · show 0 + 1 * k.val = k.val; omega
    simp only [e]
    have e1 : ∀ hh, View.readAt (Elt Ideal) arg1.view (Rect.unit (s := S1) ![0] ![1] inb_S1_S1_0).toLoadRect (harg1.unread x0) (Shape.Idx.first (s := S1) hh) = x0 (ix1 0) := by
      intro hh
      have e' : View.readAt (Elt Ideal) arg1.view (Rect.unit (s := S1) ![0] ![1] inb_S1_S1_0).toLoadRect (harg1.unread x0) (Shape.Idx.first (s := S1) hh)
        = arg1.view.read (Elt Ideal) (harg1.unread x0) ((Rect.unit (s := S1) ![0] ![1] inb_S1_S1_0).emb (Shape.Idx.first (s := S1) hh)) := rfl
      rw [e', harg1.read_unread]
      congr 1
      funext a
      match a with
      | ⟨0, _⟩ => exact Subsingleton.elim (α := Fin 1) _ _
    rw [e1]
  · unfold kernelRun0_A.sl.HS2_1
    intro p hp
    rcases List.mem_singleton.mp hp with rfl
    intro x
    change S1x256.Idx at x
    rw [emb_row]

end Cert.KernelIdeal.Gen
end
-- ==== Proof.Ideal.CaseB.lean ====
/- What a middle grid point leaves: the codes block and the running maxima. -/
module

public import proofs.«01_k».proof.Proof.Ideal.LoopValue
public import proofs.«01_k».proof.Proof.Ideal.Exponent
public import proofs.«01_k».proof.Proof.Ideal.Frame

@[expose] public section

set_option maxRecDepth 16384
set_option maxHeartbeats 4000000

noncomputable section

namespace Cert.KernelIdeal.Gen

open Idealize.ShloMosaic Idealize.ShloMosaic.TcCoe Idealize.SL.Sem Cert.Exponent

variable (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : ¬cond0_0 i) (hc1 : ¬cond0_1 i) (x0 : Vec Ideal S1 .i32) (x1 : Vec Ideal S256x18944 .bf16) (x2 : Vec Ideal S256x1024 .f32) (x3 : Vec Ideal S1x256 .f32) (xs0 : Vec Ideal S16x18944 .bf16) (xs1 : Vec Ideal S16x18944 .bf16) (xs2 : Vec Ideal S1x256 .f32)

include c i arg1 harg1 arg2 harg2 arg3 harg3 arg4 harg4 arg5 harg5 arg6 harg6 arg7 harg7 arg8 harg8 arg9 harg9 arg10 harg10 arg11 harg11 hc0 hc1 x0 x1 x2 x3 xs0 xs1 xs2

theorem codes_list_B : (kernelRun0_B (F := Ideal) c i arg1 harg1 arg2 harg2 arg3 harg3 arg4 harg4 arg5 harg5 arg6 harg6 arg7 harg7 arg8 harg8 arg9 harg9 arg10 harg10 arg11 harg11 hc0 hc1 x0 x1 x2 x3 xs0 xs1 xs2).1 = (pb_k0_t1 (F := Ideal) Variants.none c none i arg1 harg1 arg2 harg2 arg3 harg3 arg4 harg4 arg5 harg5 arg6 harg6 arg7 harg7 arg8 harg8 arg9 harg9 arg10 harg10 arg11 harg11 (harg2.unread x1) (harg9.unread xs0) arg5.view.junk (harg10.unread xs1) k0_t1_loop.trips).1 := by
  unfold kernelRun0_B
  dsimp only

theorem max_list_B : (kernelRun0_B (F := Ideal) c i arg1 harg1 arg2 harg2 arg3 harg3 arg4 harg4 arg5 harg5 arg6 harg6 arg7 harg7 arg8 harg8 arg9 harg9 arg10 harg10 arg11 harg11 hc0 hc1 x0 x1 x2 x3 xs0 xs1 xs2).2.2.2.2.2.1 = (pb_k0_t1 (F := Ideal) Variants.none c none i arg1 harg1 arg2 harg2 arg3 harg3 arg4 harg4 arg5 harg5 arg6 harg6 arg7 harg7 arg8 harg8 arg9 harg9 arg10 harg10 arg11 harg11 (harg2.unread x1) (harg9.unread xs0) arg5.view.junk (harg10.unread xs1) k0_t1_loop.trips).2 := by
  unfold kernelRun0_B
  dsimp only

/-- The codes block. -/
theorem out_B_4 : out0_B_4 (F := Ideal) c i arg1 harg1 arg2 harg2 arg3 harg3 arg4 harg4 arg5 harg5 arg6 harg6 arg7 harg7 arg8 harg8 arg9 harg9 arg10 harg10 arg11 harg11 hc0 hc1 x0 x1 x2 x3 xs0 xs1 xs2 = codeAt x1 xs0 := by
  have hc := cover0_B_4 (F := Ideal) c i arg1 harg1 arg2 harg2 arg3 harg3 arg4 harg4 arg5 harg5 arg6 harg6 arg7 harg7 arg8 harg8 arg9 harg9 arg10 harg10 arg11 harg11 hc0 hc1 x0 x1 x2 x3 xs0 xs1 xs2
  unfold out0_B_4
  rw [codes_list_B] at hc ⊢
  rw [View.read_writes_of_cover VO0_4 VO0_4.junk arg5.view arg5.view.junk _ hc, loop_codes Variants.none c none i arg1 harg1 arg2 harg2 arg3 harg3 arg4 harg4 arg5 harg5 arg6 harg6 arg7 harg7 arg8 harg8 arg9 harg9 arg10 harg10 arg11 harg11 (harg2.unread x1) (harg9.unread xs0), harg2.read_unread, harg9.read_unread]

/-- The running maxima after the loop, through the memref the body writes them to. -/
theorem max_read_B : arg10.view.read (Elt Ideal) (arg10.view.writes (Elt Ideal) (harg10.unread xs1) (pb_k0_t1 (F := Ideal) Variants.none c none i arg1 harg1 arg2 harg2 arg3 harg3 arg4 harg4 arg5 harg5 arg6 harg6 arg7 harg7 arg8 harg8 arg9 harg9 arg10 harg10 arg11 harg11 (harg2.unread x1) (harg9.unread xs0) arg5.view.junk (harg10.unread xs1) k0_t1_loop.trips).2) = maxAt x1 xs1 := by
  rw [loop_max Variants.none c none i arg1 harg1 arg2 harg2 arg3 harg3 arg4 harg4 arg5 harg5 arg6 harg6 arg7 harg7 arg8 harg8 arg9 harg9 arg10 harg10 arg11 harg11 (harg2.unread x1) (harg9.unread xs0), harg2.read_unread, harg10.read_unread]

/-- The running maxima. -/
theorem sout_B_1 : sout0_B_1 (F := Ideal) c i arg1 harg1 arg2 harg2 arg3 harg3 arg4 harg4 arg5 harg5 arg6 harg6 arg7 harg7 arg8 harg8 arg9 harg9 arg10 harg10 arg11 harg11 hc0 hc1 x0 x1 x2 x3 xs0 xs1 xs2 = maxAt x1 xs1 := by
  have hc := scover0_B_1 (F := Ideal) c i arg1 harg1 arg2 harg2 arg3 harg3 arg4 harg4 arg5 harg5 arg6 harg6 arg7 harg7 arg8 harg8 arg9 harg9 arg10 harg10 arg11 harg11 hc0 hc1 x0 x1 x2 x3 xs0 xs1 xs2
  unfold sout0_B_1
  rw [max_list_B] at hc ⊢
  rw [View.read_writes_of_cover VS0_1 VS0_1.junk arg10.view (harg10.unread xs1) _ hc, max_read_B c i arg1 harg1 arg2 harg2 arg3 harg3 arg4 harg4 arg5 harg5 arg6 harg6 arg7 harg7 arg8 harg8 arg9 harg9 arg10 harg10 arg11 harg11 hc0 hc1 x0 x1 x2 x3 xs0 xs1 xs2]

end Cert.KernelIdeal.Gen
end
-- ==== Proof.Ideal.ColMax.lean ====
/- The maximum of each column over the sixteen rows of running maxima. -/
module

public import Idealize.ShloMosaic.Lib.Pipeline.ValueKit.Tiles
public import proofs.«01_k».proof.Proof.Ideal.TripSpec
public import proofs.«01_k».proof.Proof.Ideal.Spread
public import proofs.«01_k».proof.Proof.Ideal.Frame

@[expose] public section

set_option maxRecDepth 16384
set_option maxHeartbeats 4000000

noncomputable section

namespace Cert.KernelIdeal.Gen

open Idealize.ShloMosaic Idealize.ShloMosaic.TcCoe Idealize.SL.Sem Cert.Exponent

/-- The maximum of one column of the running maxima. -/
def colTop (A : S16x18944.Idx → EReal) (j : Fin 148) (l : Fin 128) : EReal :=
  Finset.univ.fold max (⊥ : EReal) fun r : Fin 16 => A (ix2 r ⟨128 * j.val + l.val, by have := j.isLt; have := l.isLt; omega⟩)

theorem colTop_le (A : S16x18944.Idx → EReal) (j : Fin 148) (l : Fin 128) (z : EReal) :
    colTop A j l ≤ z ↔ ∀ r : Fin 16, A (ix2 r ⟨128 * j.val + l.val, by have := j.isLt; have := l.isLt; omega⟩) ≤ z := by
  unfold colTop
  rw [Finset.fold_max_le]
  exact ⟨fun h r => h.2 r (Finset.mem_univ _), fun h => ⟨bot_le, fun r _ => h r⟩⟩

/-- The maxima of 128 columns, as the body takes them. -/
def colRow (w : Vec Ideal S16x128 .bf16) : FVec Ideal S1x128 .f32 :=
  shapeCast S1x128 (multiReduction .maximumf [0] S128 (extf .f32 w bitsLt_bf16_f32) 0xFF800000#32 reduces_S16x128_S128 (.inl rfl) rfl) shapeCasts_S128_S1x128

theorem colRow_apply (w : Vec Ideal S16x128 .bf16) (l : Fin 128) :
    colRow w (ix2 0 l) = Finset.univ.fold max (⊥ : EReal) fun r : Fin 16 => w (ix2 r l) := by
  unfold colRow
  rw [← neg_inf]
  pointwise []

/-- The piece of the concatenation that row `J` comes from. -/
theorem col_piece {v : View sig .tc .vmem S16x18944 .bf16} (f : v.ty.Contents (Elt Ideal)) (A : S16x18944.Idx → EReal) (hA : v.read (Elt Ideal) f = A)
    (J o : ℕ) (ho : o = 128 * J) (inb : ∀ a, (![0, o] : Fin 2 → Nat) a + S16x128.size a ≤ S16x18944.size a) (j : Fin 148) (l : Fin 128) :
    PieceAt (t := S148x128) 0 (ix2 j l) (colTop A j l) S1x128 (colRow (View.readAt (Elt Ideal) v (Rect.unit (s := S16x18944) ![0, o] S16x128.size inb).toLoadRect f)) J := by
  subst ho
  intro hk hr i hi0 hoff
  have hj : j.val = J := hk
  subst hj
  have hi : i = ix2 0 l := by
    refine idx2_ext ?_ ?_
    · exact hi0
    · exact hoff 1 (by decide)
  rw [hi, colRow_apply]
  unfold colTop
  congr 1
  funext r
  have e' : View.readAt (Elt Ideal) v (Rect.unit (s := S16x18944) ![0, 128 * j.val] S16x128.size inb).toLoadRect f (ix2 r l)
    = v.read (Elt Ideal) f ((Rect.unit (s := S16x18944) ![0, 128 * j.val] S16x128.size inb).emb (ix2 r l)) := rfl
  rw [e', hA]
  congr 1
  refine idx2_ext ?_ ?_
  · show 0 + 1 * r.val = r.val; omega
  · show 128 * j.val + 1 * l.val = 128 * j.val + l.val; omega

end Cert.KernelIdeal.Gen
end
-- ==== Proof.Ideal.MaxRow.lean ====
/- The maximum of each tensor, from the maxima of the columns. -/
module

public import proofs.«01_k».proof.Proof.Ideal.Spread
public import proofs.«01_k».proof.Proof.Ideal.Exponent

@[expose] public section

set_option maxRecDepth 16384
set_option maxHeartbeats 4000000

noncomputable section

namespace Cert.KernelIdeal.Gen

open Idealize.ShloMosaic Idealize.ShloMosaic.TcCoe Idealize.SL.Sem

theorem first_eq : k0_pay385 = k0_pay12 := rfl

theorem owner_eq : k0_pay388 k0_pay386 74#32 k0_pay387 = k0_pay16 k0_pay13 74#32 k0_pay14 k0_pay15 0#32 := rfl

/-- The row of maxima at tensor `t`, from the column maxima `C`: the least number that is at least zero and at least
    the maximum of each column of tensor `t`. -/
theorem amax_apply (C : FVec Ideal S148x128 .f32) (t : Fin 256) (z : EReal) :
    k0_pay391 (F := Ideal) C k0_pay385 (k0_pay388 k0_pay386 74#32 k0_pay387) (iota Kind.tc S148x256 32 [1] iota_S148x256_d1_w32) (k0_pay389 C k0_pay385 k0_pay386 74#32 k0_pay387) (k0_pay390 k0_pay385 k0_pay386 74#32 k0_pay387) (FloatOps.ofBits FTy.f32 0#32) (ix2 0 t) ≤ z
      ↔ 0 ≤ z ∧ ∀ j : Fin 148, ∀ l : Fin 128, (128 * j.val + l.val) / 74 = t.val → C (ix2 j l) ≤ z := by
  pointwise [k0_pay391, k0_pay389, k0_pay390]
  simp only [first_eq, owner_eq, owner_apply, first_apply, add_word]
  rw [neg_inf]
  have sel : ∀ (j : Fin 148) (k : ℕ), k ≤ 2 → 0 ≤ z →
      (Scalar.select (IntOp.cmpi .eq (BitVec.ofNat 32 t.val) (BitVec.ofNat 32 (128 * j.val / 74 + k)))
        (Finset.univ.fold max (⊥ : EReal) fun l : Fin 128 => Scalar.select (IntOp.cmpi .eq (BitVec.ofNat 32 ((128 * j.val + l.val) / 74)) (BitVec.ofNat 32 (128 * j.val / 74 + k))) (C (ix2 j l)) 0) 0 ≤ z
        ↔ (t.val = 128 * j.val / 74 + k → ∀ l : Fin 128, (128 * j.val + l.val) / 74 = t.val → C (ix2 j l) ≤ z)) := by
    intro j k hk hz
    have hj := j.isLt
    have ht := t.isLt
    rw [eq_word (by omega) (by omega), select_ofBool]
    by_cases h : t.val = 128 * j.val / 74 + k
    · rw [if_pos h, Finset.fold_max_le]
      constructor
      · intro h1 _ l hl
        have h2 := h1.2 l (Finset.mem_univ _)
        rwa [eq_word (by have := l.isLt; omega) (by omega), select_ofBool, if_pos (hl.trans h)] at h2
      · intro h1
        refine ⟨bot_le, fun l _ => ?_⟩
        rw [eq_word (by have := l.isLt; omega) (by omega), select_ofBool]
        split
        · rename_i hl; exact h1 h l (hl.trans h.symm)
        · exact hz
    · rw [if_neg h]
      exact ⟨fun _ h' => absurd h' h, fun _ => hz⟩
  rw [Finset.fold_max_le]
  simp only [max_le_iff]
  constructor
  · rintro ⟨-, h⟩
    have hz : 0 ≤ z := (h 0 (Finset.mem_univ _)).1.1.1
    refine ⟨hz, fun j l hl => ?_⟩
    obtain ⟨⟨⟨-, h0⟩, h1⟩, h2⟩ := h j (Finset.mem_univ _)
    have h0 := (sel j 0 (by omega) hz).mp h0
    have h1 := (sel j 1 (by omega) hz).mp h1
    have h2 := (sel j 2 (by omega) hz).mp h2
    have hj := j.isLt
    have hl' := l.isLt
    have : t.val = 128 * j.val / 74 + 0 ∨ t.val = 128 * j.val / 74 + 1 ∨ t.val = 128 * j.val / 74 + 2 := by omega
    rcases this with e | e | e
    · exact h0 e l hl
    · exact h1 e l hl
    · exact h2 e l hl
  · rintro ⟨hz, h⟩
    exact ⟨bot_le, fun j _ => ⟨⟨⟨hz, (sel j 0 (by omega) hz).mpr fun _ => h j⟩, (sel j 1 (by omega) hz).mpr fun _ => h j⟩, (sel j 2 (by omega) hz).mpr fun _ => h j⟩⟩

end Cert.KernelIdeal.Gen
end
-- ==== Proof.Ideal.ScaleUp.lean ====
/- The power of two above a value, as the kernel computes it from the word of its exponent. -/
module

public import proofs.«01_k».proof.Proof.Ideal.Recip
public import proofs.«01_k».proof.Proof.Ideal.Exponent

@[expose] public section

set_option maxRecDepth 16384
set_option maxHeartbeats 4000000

noncomputable section

namespace Cert.KernelIdeal.Gen

open Idealize.ShloMosaic Idealize.ShloMosaic.TcCoe Idealize.SL.Sem Cert.Exponent

/-- The row of new scales: tensor `t` gets the power of two above the absolute value of its entry. -/
theorem up_apply (w : FVec Ideal S1x256 .f32) (t : Fin 256) :
    k0_pay3 (F := Ideal) (k0_pay399 w (k0_pay397 w k0_pay393 (absf w) k0_pay395 k0_pay396) (k0_pay398 w)) 0#32 (ix2 0 t)
      = up (max (w (ix2 0 t)) (-(w (ix2 0 t)))) := by
  pointwise [k0_pay3, k0_pay399, k0_pay397, k0_pay393, k0_pay395, k0_pay396, k0_pay398]
  rw [show FloatOps.absf (F := Ideal) (φ := .f32) (w (ix2 0 t)) = max (w (ix2 0 t)) (-(w (ix2 0 t))) from rfl]
  have h0 : (0 : EReal) ≤ max (w (ix2 0 t)) (-(w (ix2 0 t))) := by
    rcases le_total 0 (w (ix2 0 t)) with h | h
    · exact le_max_of_le_left h
    · exact le_max_of_le_right (by simpa using EReal.neg_le_neg_iff.mpr h)
  generalize max (w (ix2 0 t)) (-(w (ix2 0 t))) = a at h0 ⊢
  simp only [step_if]
  have hw := searchW_eq h0
  unfold searchW at hw
  simp only [hw]
  exact up_word a

end Cert.KernelIdeal.Gen
end
-- ==== Proof.Ideal.CaseC.lean ====
/- What the last grid point leaves: the codes block, the maximum of each tensor and the new scales. -/
module

public import proofs.«01_k».proof.Proof.Ideal.LoopValue
public import proofs.«01_k».proof.Proof.Ideal.ColMax
public import proofs.«01_k».proof.Proof.Ideal.MaxRow
public import proofs.«01_k».proof.Proof.Ideal.ScaleUp

@[expose] public section

set_option maxRecDepth 16384
set_option maxHeartbeats 4000000

noncomputable section

namespace Cert.KernelIdeal.Gen

open Idealize.ShloMosaic Idealize.ShloMosaic.TcCoe Idealize.SL.Sem Cert.Exponent

variable (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : ¬cond0_0 i) (hc1 : cond0_1 i) (x0 : Vec Ideal S1 .i32) (x1 : Vec Ideal S256x18944 .bf16) (x2 : Vec Ideal S256x1024 .f32) (x3 : Vec Ideal S1x256 .f32) (xo7 : Vec Ideal S1x256 .f32) (xs0 : Vec Ideal S16x18944 .bf16) (xs1 : Vec Ideal S16x18944 .bf16) (xs2 : Vec Ideal S1x256 .f32)

include c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2

theorem codes_list_C : (kernelRun0_C (F := Ideal) c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2).1 = (pb_k0_t1 (F := Ideal) Variants.none c none i arg1 harg1 arg2 harg2 arg3 harg3 arg4 harg4 arg5 harg5 arg6 harg6 arg7 harg7 arg8 harg8 arg9 harg9 arg10 harg10 arg11 harg11 (harg2.unread x1) (harg9.unread xs0) arg5.view.junk (harg10.unread xs1) k0_t1_loop.trips).1 := by
  unfold kernelRun0_C
  dsimp only

theorem max_list_C : (kernelRun0_C (F := Ideal) c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2).2.2.2.2.2.1 = (pb_k0_t1 (F := Ideal) Variants.none c none i arg1 harg1 arg2 harg2 arg3 harg3 arg4 harg4 arg5 harg5 arg6 harg6 arg7 harg7 arg8 harg8 arg9 harg9 arg10 harg10 arg11 harg11 (harg2.unread x1) (harg9.unread xs0) arg5.view.junk (harg10.unread xs1) k0_t1_loop.trips).2 := by
  unfold kernelRun0_C
  dsimp only

/-- The codes block. -/
theorem out_C_4 : out0_C_4 (F := Ideal) c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2 = codeAt x1 xs0 := by
  have hc := cover0_C_4 (F := Ideal) c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2
  unfold out0_C_4
  rw [codes_list_C] at hc ⊢
  rw [View.read_writes_of_cover VO0_4 VO0_4.junk arg5.view arg5.view.junk _ hc, loop_codes Variants.none c none i arg1 harg1 arg2 harg2 arg3 harg3 arg4 harg4 arg5 harg5 arg6 harg6 arg7 harg7 arg8 harg8 arg9 harg9 arg10 harg10 arg11 harg11 (harg2.unread x1) (harg9.unread xs0), harg2.read_unread, harg9.read_unread]

/-- The running maxima after the loop, through the memref the body writes them to. -/
theorem max_read_C : arg10.view.read (Elt Ideal) (arg10.view.writes (Elt Ideal) (harg10.unread xs1) (pb_k0_t1 (F := Ideal) Variants.none c none i arg1 harg1 arg2 harg2 arg3 harg3 arg4 harg4 arg5 harg5 arg6 harg6 arg7 harg7 arg8 harg8 arg9 harg9 arg10 harg10 arg11 harg11 (harg2.unread x1) (harg9.unread xs0) arg5.view.junk (harg10.unread xs1) k0_t1_loop.trips).2) = maxAt x1 xs1 := by
  rw [loop_max Variants.none c none i arg1 harg1 arg2 harg2 arg3 harg3 arg4 harg4 arg5 harg5 arg6 harg6 arg7 harg7 arg8 harg8 arg9 harg9 arg10 harg10 arg11 harg11 (harg2.unread x1) (harg9.unread xs0), harg2.read_unread, harg10.read_unread]

theorem col_apply_C (A : S16x18944.Idx → EReal) (hA : arg10.view.read (Elt Ideal) (arg10.view.writes (Elt Ideal) (harg10.unread xs1) (pb_k0_t1 (F := Ideal) Variants.none c none i arg1 harg1 arg2 harg2 arg3 harg3 arg4 harg4 arg5 harg5 arg6 harg6 arg7 harg7 arg8 harg8 arg9 harg9 arg10 harg10 arg11 harg11 (harg2.unread x1) (harg9.unread xs0) arg5.view.junk (harg10.unread xs1) k0_t1_loop.trips).2) = A) (j : Fin 148) (l : Fin 128) :
    kernelRun0_C.sl.r_153 (F := Ideal) c i arg1 harg1 arg2 harg2 arg3 harg3 arg4 harg4 arg5 harg5 arg6 harg6 arg7 harg7 arg8 harg8 arg9 harg9 arg10 harg10 arg11 harg11 x1 xs0 xs1 (ix2 j l) = colTop A j l := by
  unfold kernelRun0_C.sl.r_153 k0_pay384
  refine concatenate_unit_eq _ _ _ _ _ rfl ?_
  exact
    (concatAt_cons _ _ _ _ (col_piece _ A hA 0 0 rfl inb_S16x18944_S16x128_0_0 j l)
    (concatAt_cons _ _ _ _ (col_piece _ A hA 1 128 rfl inb_S16x18944_S16x128_0_128 j l)
    (concatAt_cons _ _ _ _ (col_piece _ A hA 2 256 rfl inb_S16x18944_S16x128_0_256 j l)
    (concatAt_cons _ _ _ _ (col_piece _ A hA 3 384 rfl inb_S16x18944_S16x128_0_384 j l)
    (concatAt_cons _ _ _ _ (col_piece _ A hA 4 512 rfl inb_S16x18944_S16x128_0_512 j l)
    (concatAt_cons _ _ _ _ (col_piece _ A hA 5 640 rfl inb_S16x18944_S16x128_0_640 j l)
    (concatAt_cons _ _ _ _ (col_piece _ A hA 6 768 rfl inb_S16x18944_S16x128_0_768 j l)
    (concatAt_cons _ _ _ _ (col_piece _ A hA 7 896 rfl inb_S16x18944_S16x128_0_896 j l)
    (concatAt_cons _ _ _ _ (col_piece _ A hA 8 1024 rfl inb_S16x18944_S16x128_0_1024 j l)
    (concatAt_cons _ _ _ _ (col_piece _ A hA 9 1152 rfl inb_S16x18944_S16x128_0_1152 j l)
    (concatAt_cons _ _ _ _ (col_piece _ A hA 10 1280 rfl inb_S16x18944_S16x128_0_1280 j l)
    (concatAt_cons _ _ _ _ (col_piece _ A hA 11 1408 rfl inb_S16x18944_S16x128_0_1408 j l)
    (concatAt_cons _ _ _ _ (col_piece _ A hA 12 1536 rfl inb_S16x18944_S16x128_0_1536 j l)
    (concatAt_cons _ _ _ _ (col_piece _ A hA 13 1664 rfl inb_S16x18944_S16x128_0_1664 j l)
    (concatAt_cons _ _ _ _ (col_piece _ A hA 14 1792 rfl inb_S16x18944_S16x128_0_1792 j l)
    (concatAt_cons _ _ _ _ (col_piece _ A hA 15 1920 rfl inb_S16x18944_S16x128_0_1920 j l)
    (concatAt_cons _ _ _ _ (col_piece _ A hA 16 2048 rfl inb_S16x18944_S16x128_0_2048 j l)
    (concatAt_cons _ _ _ _ (col_piece _ A hA 17 2176 rfl inb_S16x18944_S16x128_0_2176 j l)
    (concatAt_cons _ _ _ _ (col_piece _ A hA 18 2304 rfl inb_S16x18944_S16x128_0_2304 j l)
    (concatAt_cons _ _ _ _ (col_piece _ A hA 19 2432 rfl inb_S16x18944_S16x128_0_2432 j l)
    (concatAt_cons _ _ _ _ (col_piece _ A hA 20 2560 rfl inb_S16x18944_S16x128_0_2560 j l)
    (concatAt_cons _ _ _ _ (col_piece _ A hA 21 2688 rfl inb_S16x18944_S16x128_0_2688 j l)
    (concatAt_cons _ _ _ _ (col_piece _ A hA 22 2816 rfl inb_S16x18944_S16x128_0_2816 j l)
    (concatAt_cons _ _ _ _ (col_piece _ A hA 23 2944 rfl inb_S16x18944_S16x128_0_2944 j l)
    (concatAt_cons _ _ _ _ (col_piece _ A hA 24 3072 rfl inb_S16x18944_S16x128_0_3072 j l)
    (concatAt_cons _ _ _ _ (col_piece _ A hA 25 3200 rfl inb_S16x18944_S16x128_0_3200 j l)
    (concatAt_cons _ _ _ _ (col_piece _ A hA 26 3328 rfl inb_S16x18944_S16x128_0_3328 j l)
    (concatAt_cons _ _ _ _ (col_piece _ A hA 27 3456 rfl inb_S16x18944_S16x128_0_3456 j l)
    (concatAt_cons _ _ _ _ (col_piece _ A hA 28 3584 rfl inb_S16x18944_S16x128_0_3584 j l)
    (concatAt_cons _ _ _ _ (col_piece _ A hA 29 3712 rfl inb_S16x18944_S16x128_0_3712 j l)
    (concatAt_cons _ _ _ _ (col_piece _ A hA 30 3840 rfl inb_S16x18944_S16x128_0_3840 j l)
    (concatAt_cons _ _ _ _ (col_piece _ A hA 31 3968 rfl inb_S16x18944_S16x128_0_3968 j l)
    (concatAt_cons _ _ _ _ (col_piece _ A hA 32 4096 rfl inb_S16x18944_S16x128_0_4096 j l)
    (concatAt_cons _ _ _ _ (col_piece _ A hA 33 4224 rfl inb_S16x18944_S16x128_0_4224 j l)
    (concatAt_cons _ _ _ _ (col_piece _ A hA 34 4352 rfl inb_S16x18944_S16x128_0_4352 j l)
    (concatAt_cons _ _ _ _ (col_piece _ A hA 35 4480 rfl inb_S16x18944_S16x128_0_4480 j l)
    (concatAt_cons _ _ _ _ (col_piece _ A hA 36 4608 rfl inb_S16x18944_S16x128_0_4608 j l)
    (concatAt_cons _ _ _ _ (col_piece _ A hA 37 4736 rfl inb_S16x18944_S16x128_0_4736 j l)
    (concatAt_cons _ _ _ _ (col_piece _ A hA 38 4864 rfl inb_S16x18944_S16x128_0_4864 j l)
    (concatAt_cons _ _ _ _ (col_piece _ A hA 39 4992 rfl inb_S16x18944_S16x128_0_4992 j l)
    (concatAt_cons _ _ _ _ (col_piece _ A hA 40 5120 rfl inb_S16x18944_S16x128_0_5120 j l)
    (concatAt_cons _ _ _ _ (col_piece _ A hA 41 5248 rfl inb_S16x18944_S16x128_0_5248 j l)
    (concatAt_cons _ _ _ _ (col_piece _ A hA 42 5376 rfl inb_S16x18944_S16x128_0_5376 j l)
    (concatAt_cons _ _ _ _ (col_piece _ A hA 43 5504 rfl inb_S16x18944_S16x128_0_5504 j l)
    (concatAt_cons _ _ _ _ (col_piece _ A hA 44 5632 rfl inb_S16x18944_S16x128_0_5632 j l)
    (concatAt_cons _ _ _ _ (col_piece _ A hA 45 5760 rfl inb_S16x18944_S16x128_0_5760 j l)
    (concatAt_cons _ _ _ _ (col_piece _ A hA 46 5888 rfl inb_S16x18944_S16x128_0_5888 j l)
    (concatAt_cons _ _ _ _ (col_piece _ A hA 47 6016 rfl inb_S16x18944_S16x128_0_6016 j l)
    (concatAt_cons _ _ _ _ (col_piece _ A hA 48 6144 rfl inb_S16x18944_S16x128_0_6144 j l)
    (concatAt_cons _ _ _ _ (col_piece _ A hA 49 6272 rfl inb_S16x18944_S16x128_0_6272 j l)
    (concatAt_cons _ _ _ _ (col_piece _ A hA 50 6400 rfl inb_S16x18944_S16x128_0_6400 j l)
    (concatAt_cons _ _ _ _ (col_piece _ A hA 51 6528 rfl inb_S16x18944_S16x128_0_6528 j l)
    (concatAt_cons _ _ _ _ (col_piece _ A hA 52 6656 rfl inb_S16x18944_S16x128_0_6656 j l)
    (concatAt_cons _ _ _ _ (col_piece _ A hA 53 6784 rfl inb_S16x18944_S16x128_0_6784 j l)
    (concatAt_cons _ _ _ _ (col_piece _ A hA 54 6912 rfl inb_S16x18944_S16x128_0_6912 j l)
    (concatAt_cons _ _ _ _ (col_piece _ A hA 55 7040 rfl inb_S16x18944_S16x128_0_7040 j l)
    (concatAt_cons _ _ _ _ (col_piece _ A hA 56 7168 rfl inb_S16x18944_S16x128_0_7168 j l)
    (concatAt_cons _ _ _ _ (col_piece _ A hA 57 7296 rfl inb_S16x18944_S16x128_0_7296 j l)
    (concatAt_cons _ _ _ _ (col_piece _ A hA 58 7424 rfl inb_S16x18944_S16x128_0_7424 j l)
    (concatAt_cons _ _ _ _ (col_piece _ A hA 59 7552 rfl inb_S16x18944_S16x128_0_7552 j l)
    (concatAt_cons _ _ _ _ (col_piece _ A hA 60 7680 rfl inb_S16x18944_S16x128_0_7680 j l)
    (concatAt_cons _ _ _ _ (col_piece _ A hA 61 7808 rfl inb_S16x18944_S16x128_0_7808 j l)
    (concatAt_cons _ _ _ _ (col_piece _ A hA 62 7936 rfl inb_S16x18944_S16x128_0_7936 j l)
    (concatAt_cons _ _ _ _ (col_piece _ A hA 63 8064 rfl inb_S16x18944_S16x128_0_8064 j l)
    (concatAt_cons _ _ _ _ (col_piece _ A hA 64 8192 rfl inb_S16x18944_S16x128_0_8192 j l)
    (concatAt_cons _ _ _ _ (col_piece _ A hA 65 8320 rfl inb_S16x18944_S16x128_0_8320 j l)
    (concatAt_cons _ _ _ _ (col_piece _ A hA 66 8448 rfl inb_S16x18944_S16x128_0_8448 j l)
    (concatAt_cons _ _ _ _ (col_piece _ A hA 67 8576 rfl inb_S16x18944_S16x128_0_8576 j l)
    (concatAt_cons _ _ _ _ (col_piece _ A hA 68 8704 rfl inb_S16x18944_S16x128_0_8704 j l)
    (concatAt_cons _ _ _ _ (col_piece _ A hA 69 8832 rfl inb_S16x18944_S16x128_0_8832 j l)
    (concatAt_cons _ _ _ _ (col_piece _ A hA 70 8960 rfl inb_S16x18944_S16x128_0_8960 j l)
    (concatAt_cons _ _ _ _ (col_piece _ A hA 71 9088 rfl inb_S16x18944_S16x128_0_9088 j l)
    (concatAt_cons _ _ _ _ (col_piece _ A hA 72 9216 rfl inb_S16x18944_S16x128_0_9216 j l)
    (concatAt_cons _ _ _ _ (col_piece _ A hA 73 9344 rfl inb_S16x18944_S16x128_0_9344 j l)
    (concatAt_cons _ _ _ _ (col_piece _ A hA 74 9472 rfl inb_S16x18944_S16x128_0_9472 j l)
    (concatAt_cons _ _ _ _ (col_piece _ A hA 75 9600 rfl inb_S16x18944_S16x128_0_9600 j l)
    (concatAt_cons _ _ _ _ (col_piece _ A hA 76 9728 rfl inb_S16x18944_S16x128_0_9728 j l)
    (concatAt_cons _ _ _ _ (col_piece _ A hA 77 9856 rfl inb_S16x18944_S16x128_0_9856 j l)
    (concatAt_cons _ _ _ _ (col_piece _ A hA 78 9984 rfl inb_S16x18944_S16x128_0_9984 j l)
    (concatAt_cons _ _ _ _ (col_piece _ A hA 79 10112 rfl inb_S16x18944_S16x128_0_10112 j l)
    (concatAt_cons _ _ _ _ (col_piece _ A hA 80 10240 rfl inb_S16x18944_S16x128_0_10240 j l)
    (concatAt_cons _ _ _ _ (col_piece _ A hA 81 10368 rfl inb_S16x18944_S16x128_0_10368 j l)
    (concatAt_cons _ _ _ _ (col_piece _ A hA 82 10496 rfl inb_S16x18944_S16x128_0_10496 j l)
    (concatAt_cons _ _ _ _ (col_piece _ A hA 83 10624 rfl inb_S16x18944_S16x128_0_10624 j l)
    (concatAt_cons _ _ _ _ (col_piece _ A hA 84 10752 rfl inb_S16x18944_S16x128_0_10752 j l)
    (concatAt_cons _ _ _ _ (col_piece _ A hA 85 10880 rfl inb_S16x18944_S16x128_0_10880 j l)
    (concatAt_cons _ _ _ _ (col_piece _ A hA 86 11008 rfl inb_S16x18944_S16x128_0_11008 j l)
    (concatAt_cons _ _ _ _ (col_piece _ A hA 87 11136 rfl inb_S16x18944_S16x128_0_11136 j l)
    (concatAt_cons _ _ _ _ (col_piece _ A hA 88 11264 rfl inb_S16x18944_S16x128_0_11264 j l)
    (concatAt_cons _ _ _ _ (col_piece _ A hA 89 11392 rfl inb_S16x18944_S16x128_0_11392 j l)
    (concatAt_cons _ _ _ _ (col_piece _ A hA 90 11520 rfl inb_S16x18944_S16x128_0_11520 j l)
    (concatAt_cons _ _ _ _ (col_piece _ A hA 91 11648 rfl inb_S16x18944_S16x128_0_11648 j l)
    (concatAt_cons _ _ _ _ (col_piece _ A hA 92 11776 rfl inb_S16x18944_S16x128_0_11776 j l)
    (concatAt_cons _ _ _ _ (col_piece _ A hA 93 11904 rfl inb_S16x18944_S16x128_0_11904 j l)
    (concatAt_cons _ _ _ _ (col_piece _ A hA 94 12032 rfl inb_S16x18944_S16x128_0_12032 j l)
    (concatAt_cons _ _ _ _ (col_piece _ A hA 95 12160 rfl inb_S16x18944_S16x128_0_12160 j l)
    (concatAt_cons _ _ _ _ (col_piece _ A hA 96 12288 rfl inb_S16x18944_S16x128_0_12288 j l)
    (concatAt_cons _ _ _ _ (col_piece _ A hA 97 12416 rfl inb_S16x18944_S16x128_0_12416 j l)
    (concatAt_cons _ _ _ _ (col_piece _ A hA 98 12544 rfl inb_S16x18944_S16x128_0_12544 j l)
    (concatAt_cons _ _ _ _ (col_piece _ A hA 99 12672 rfl inb_S16x18944_S16x128_0_12672 j l)
    (concatAt_cons _ _ _ _ (col_piece _ A hA 100 12800 rfl inb_S16x18944_S16x128_0_12800 j l)
    (concatAt_cons _ _ _ _ (col_piece _ A hA 101 12928 rfl inb_S16x18944_S16x128_0_12928 j l)
    (concatAt_cons _ _ _ _ (col_piece _ A hA 102 13056 rfl inb_S16x18944_S16x128_0_13056 j l)
    (concatAt_cons _ _ _ _ (col_piece _ A hA 103 13184 rfl inb_S16x18944_S16x128_0_13184 j l)
    (concatAt_cons _ _ _ _ (col_piece _ A hA 104 13312 rfl inb_S16x18944_S16x128_0_13312 j l)
    (concatAt_cons _ _ _ _ (col_piece _ A hA 105 13440 rfl inb_S16x18944_S16x128_0_13440 j l)
    (concatAt_cons _ _ _ _ (col_piece _ A hA 106 13568 rfl inb_S16x18944_S16x128_0_13568 j l)
    (concatAt_cons _ _ _ _ (col_piece _ A hA 107 13696 rfl inb_S16x18944_S16x128_0_13696 j l)
    (concatAt_cons _ _ _ _ (col_piece _ A hA 108 13824 rfl inb_S16x18944_S16x128_0_13824 j l)
    (concatAt_cons _ _ _ _ (col_piece _ A hA 109 13952 rfl inb_S16x18944_S16x128_0_13952 j l)
    (concatAt_cons _ _ _ _ (col_piece _ A hA 110 14080 rfl inb_S16x18944_S16x128_0_14080 j l)
    (concatAt_cons _ _ _ _ (col_piece _ A hA 111 14208 rfl inb_S16x18944_S16x128_0_14208 j l)
    (concatAt_cons _ _ _ _ (col_piece _ A hA 112 14336 rfl inb_S16x18944_S16x128_0_14336 j l)
    (concatAt_cons _ _ _ _ (col_piece _ A hA 113 14464 rfl inb_S16x18944_S16x128_0_14464 j l)
    (concatAt_cons _ _ _ _ (col_piece _ A hA 114 14592 rfl inb_S16x18944_S16x128_0_14592 j l)
    (concatAt_cons _ _ _ _ (col_piece _ A hA 115 14720 rfl inb_S16x18944_S16x128_0_14720 j l)
    (concatAt_cons _ _ _ _ (col_piece _ A hA 116 14848 rfl inb_S16x18944_S16x128_0_14848 j l)
    (concatAt_cons _ _ _ _ (col_piece _ A hA 117 14976 rfl inb_S16x18944_S16x128_0_14976 j l)
    (concatAt_cons _ _ _ _ (col_piece _ A hA 118 15104 rfl inb_S16x18944_S16x128_0_15104 j l)
    (concatAt_cons _ _ _ _ (col_piece _ A hA 119 15232 rfl inb_S16x18944_S16x128_0_15232 j l)
    (concatAt_cons _ _ _ _ (col_piece _ A hA 120 15360 rfl inb_S16x18944_S16x128_0_15360 j l)
    (concatAt_cons _ _ _ _ (col_piece _ A hA 121 15488 rfl inb_S16x18944_S16x128_0_15488 j l)
    (concatAt_cons _ _ _ _ (col_piece _ A hA 122 15616 rfl inb_S16x18944_S16x128_0_15616 j l)
    (concatAt_cons _ _ _ _ (col_piece _ A hA 123 15744 rfl inb_S16x18944_S16x128_0_15744 j l)
    (concatAt_cons _ _ _ _ (col_piece _ A hA 124 15872 rfl inb_S16x18944_S16x128_0_15872 j l)
    (concatAt_cons _ _ _ _ (col_piece _ A hA 125 16000 rfl inb_S16x18944_S16x128_0_16000 j l)
    (concatAt_cons _ _ _ _ (col_piece _ A hA 126 16128 rfl inb_S16x18944_S16x128_0_16128 j l)
    (concatAt_cons _ _ _ _ (col_piece _ A hA 127 16256 rfl inb_S16x18944_S16x128_0_16256 j l)
    (concatAt_cons _ _ _ _ (col_piece _ A hA 128 16384 rfl inb_S16x18944_S16x128_0_16384 j l)
    (concatAt_cons _ _ _ _ (col_piece _ A hA 129 16512 rfl inb_S16x18944_S16x128_0_16512 j l)
    (concatAt_cons _ _ _ _ (col_piece _ A hA 130 16640 rfl inb_S16x18944_S16x128_0_16640 j l)
    (concatAt_cons _ _ _ _ (col_piece _ A hA 131 16768 rfl inb_S16x18944_S16x128_0_16768 j l)
    (concatAt_cons _ _ _ _ (col_piece _ A hA 132 16896 rfl inb_S16x18944_S16x128_0_16896 j l)
    (concatAt_cons _ _ _ _ (col_piece _ A hA 133 17024 rfl inb_S16x18944_S16x128_0_17024 j l)
    (concatAt_cons _ _ _ _ (col_piece _ A hA 134 17152 rfl inb_S16x18944_S16x128_0_17152 j l)
    (concatAt_cons _ _ _ _ (col_piece _ A hA 135 17280 rfl inb_S16x18944_S16x128_0_17280 j l)
    (concatAt_cons _ _ _ _ (col_piece _ A hA 136 17408 rfl inb_S16x18944_S16x128_0_17408 j l)
    (concatAt_cons _ _ _ _ (col_piece _ A hA 137 17536 rfl inb_S16x18944_S16x128_0_17536 j l)
    (concatAt_cons _ _ _ _ (col_piece _ A hA 138 17664 rfl inb_S16x18944_S16x128_0_17664 j l)
    (concatAt_cons _ _ _ _ (col_piece _ A hA 139 17792 rfl inb_S16x18944_S16x128_0_17792 j l)
    (concatAt_cons _ _ _ _ (col_piece _ A hA 140 17920 rfl inb_S16x18944_S16x128_0_17920 j l)
    (concatAt_cons _ _ _ _ (col_piece _ A hA 141 18048 rfl inb_S16x18944_S16x128_0_18048 j l)
    (concatAt_cons _ _ _ _ (col_piece _ A hA 142 18176 rfl inb_S16x18944_S16x128_0_18176 j l)
    (concatAt_cons _ _ _ _ (col_piece _ A hA 143 18304 rfl inb_S16x18944_S16x128_0_18304 j l)
    (concatAt_cons _ _ _ _ (col_piece _ A hA 144 18432 rfl inb_S16x18944_S16x128_0_18432 j l)
    (concatAt_cons _ _ _ _ (col_piece _ A hA 145 18560 rfl inb_S16x18944_S16x128_0_18560 j l)
    (concatAt_cons _ _ _ _ (col_piece _ A hA 146 18688 rfl inb_S16x18944_S16x128_0_18688 j l)
    (concatAt_cons _ _ _ _ (col_piece _ A hA 147 18816 rfl inb_S16x18944_S16x128_0_18816 j l)
    (concatAt_nil _ _ _ _)))))))))))))))))))))))))))))))))))))))))))))))))))))))))))))))))))))))))))))))))))))))))))))))))))))))))))))))))))))))))))))))))))))))))))))))))))))

/-- The row of maxima of the tensors, as the body computes it. -/
def amaxRow (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : ¬cond0_0 i) (hc1 : cond0_1 i) (x0 : Vec Ideal S1 .i32) (x1 : Vec Ideal S256x18944 .bf16) (x2 : Vec Ideal S256x1024 .f32) (x3 : Vec Ideal S1x256 .f32) (xo7 : Vec Ideal S1x256 .f32) (xs0 : Vec Ideal S16x18944 .bf16) (xs1 : Vec Ideal S16x18944 .bf16) (xs2 : Vec Ideal S1x256 .f32) : FVec Ideal S1x256 .f32 :=
  k0_pay391 (F := Ideal) (kernelRun0_C.sl.r_153 (F := Ideal) c i arg1 harg1 arg2 harg2 arg3 harg3 arg4 harg4 arg5 harg5 arg6 harg6 arg7 harg7 arg8 harg8 arg9 harg9 arg10 harg10 arg11 harg11 x1 xs0 xs1) k0_pay385 (k0_pay388 k0_pay386 74#32 k0_pay387) (iota Kind.tc S148x256 32 [1] iota_S148x256_d1_w32) (k0_pay389 (kernelRun0_C.sl.r_153 (F := Ideal) c i arg1 harg1 arg2 harg2 arg3 harg3 arg4 harg4 arg5 harg5 arg6 harg6 arg7 harg7 arg8 harg8 arg9 harg9 arg10 harg10 arg11 harg11 x1 xs0 xs1) k0_pay385 k0_pay386 74#32 k0_pay387) (k0_pay390 k0_pay385 k0_pay386 74#32 k0_pay387) (FloatOps.ofBits FTy.f32 0#32)

/-- A load of the row of history maxima. -/
def loadHist (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : ¬cond0_0 i) (hc1 : cond0_1 i) (x0 : Vec Ideal S1 .i32) (x1 : Vec Ideal S256x18944 .bf16) (x2 : Vec Ideal S256x1024 .f32) (x3 : Vec Ideal S1x256 .f32) (xo7 : Vec Ideal S1x256 .f32) (xs0 : Vec Ideal S16x18944 .bf16) (xs1 : Vec Ideal S16x18944 .bf16) (xs2 : Vec Ideal S1x256 .f32) : Vec Ideal S1x256 .f32 := View.readAt (Elt Ideal) arg11.view (Rect.unit (s := S1x256) ![0, 0] S1x256.size inb_S1x256_S1x256_0_0).toLoadRect (harg11.unread xs2)

/-- The row that the new scales are the powers of two above of. -/
def scaleRow (c : Dev nD) (i : grid0.Coords) (arg1 : Memref sig .tc .smem S1 .i32) (harg1 : arg1.IsWhole) (arg2 : Memref sig .tc .vmem S256x18944 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x18944 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S16x18944 .bf16) (harg9 : arg9.IsWhole) (arg10 : Memref sig .tc .vmem S16x18944 .bf16) (harg10 : arg10.IsWhole) (arg11 : Memref sig .tc .vmem S1x256 .f32) (harg11 : arg11.IsWhole) (hc0 : ¬cond0_0 i) (hc1 : cond0_1 i) (x0 : Vec Ideal S1 .i32) (x1 : Vec Ideal S256x18944 .bf16) (x2 : Vec Ideal S256x1024 .f32) (x3 : Vec Ideal S1x256 .f32) (xo7 : Vec Ideal S1x256 .f32) (xs0 : Vec Ideal S16x18944 .bf16) (xs1 : Vec Ideal S16x18944 .bf16) (xs2 : Vec Ideal S1x256 .f32) : FVec Ideal S1x256 .f32 := mulf (maximumf (loadHist c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2) (amaxRow c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2)) (broadcast S1x256 (Scalar.ofBits .f32 0x3B124925#32))

theorem amax_list_C : (kernelRun0_C (F := Ideal) c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2).2.1 = [⟨Rect.unit (s := S1x256) ![0, 0] ![1, 256] inb_S1x256_S1x256_0_0, amaxRow c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2⟩] := by
  unfold kernelRun0_C
  dsimp only
  unfold kernelRun0_C.sl.r_154 kernelRun0_C.sl.v656 kernelRun0_C.sl.r_155 kernelRun0_C.sl.r_156 kernelRun0_C.sl.cst_321 amaxRow
  rfl

theorem up_list_C : (kernelRun0_C (F := Ideal) c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2).2.2.1 = [⟨Rect.unit (s := S1x256) ![0, 0] ![1, 256] inb_S1x256_S1x256_0_0, k0_pay3 (F := Ideal) (k0_pay399 (scaleRow c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2) (k0_pay397 (scaleRow c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2) k0_pay393 (absf (scaleRow c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2)) k0_pay395 k0_pay396) (k0_pay398 (scaleRow c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2))) 0#32⟩] := by
  unfold kernelRun0_C
  dsimp only
  unfold kernelRun0_C.sl.r_161 kernelRun0_C.sl.r_160 kernelRun0_C.sl.r_159 kernelRun0_C.sl.r_158 kernelRun0_C.sl.r_157 kernelRun0_C.sl.r_154 kernelRun0_C.sl.v656 kernelRun0_C.sl.r_155 kernelRun0_C.sl.r_156 kernelRun0_C.sl.cst_321
  unfold k0_pay392 k0_pay394
  unfold scaleRow amaxRow loadHist
  rfl

theorem emb_row_C (x : S1x256.Idx) : (Rect.unit (s := S1x256) ![0, 0] ![1, 256] inb_S1x256_S1x256_0_0).emb x = x := by
  refine idx2_ext ?_ ?_
  · show 0 + 1 * (x 0).val = (x 0).val; omega
  · show 0 + 1 * (x 1).val = (x 1).val; omega

theorem out_C_5_eq : out0_C_5 (F := Ideal) c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2 = amaxRow c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2 := by
  have hc := cover0_C_5 (F := Ideal) c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2
  unfold out0_C_5
  rw [amax_list_C] at hc ⊢
  funext y
  refine View.read_writes_apply_of_pieces VO0_5 _ (amaxRow c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2) _ ?_ y (hc y)
  intro p hp
  rcases List.mem_singleton.mp hp with rfl
  intro x
  rw [emb_row_C c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2]

/-- The maximum of tensor `t`: the least number that is at least zero and at least every running maximum of its columns. -/
theorem out_C_5 (t : Fin 256) (z : EReal) : out0_C_5 (F := Ideal) c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2 (ix2 0 t) ≤ z ↔ 0 ≤ z ∧ ∀ n : Fin 18944, n.val / 74 = t.val → ∀ r : Fin 16, maxAt x1 xs1 (ix2 r n) ≤ z := by
  rw [out_C_5_eq]
  unfold amaxRow
  rw [amax_apply]
  refine and_congr_right fun _ => ?_
  constructor
  · intro h n hn r
    have hn' := n.isLt
    have h1 := h ⟨n.val / 128, by omega⟩ ⟨n.val % 128, Nat.mod_lt _ (by decide)⟩ (by show (128 * (n.val / 128) + n.val % 128) / 74 = t.val; rw [Nat.div_add_mod]; exact hn)
    rw [col_apply_C c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2 _ (max_read_C c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2), colTop_le] at h1
    have h2 := h1 r
    rwa [show (⟨128 * (n.val / 128) + n.val % 128, by omega⟩ : Fin 18944) = n from Fin.ext (Nat.div_add_mod n.val 128)] at h2
  · intro h j l hl
    rw [col_apply_C c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2 _ (max_read_C c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2), colTop_le]
    intro r
    exact h ⟨128 * j.val + l.val, by have := j.isLt; have := l.isLt; omega⟩ hl r

/-- The new scale of tensor `t`: the power of two above the greater of its history's maximum and its own, over 448. -/
theorem out_C_6 (t : Fin 256) : out0_C_6 (F := Ideal) c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2 (ix2 0 t)
    = up (max (max (xs2 (ix2 0 t)) (out0_C_5 (F := Ideal) c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2 (ix2 0 t)) * Ideal.ofBits .f32 0x3B124925#32) (-(max (xs2 (ix2 0 t)) (out0_C_5 (F := Ideal) c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2 (ix2 0 t)) * Ideal.ofBits .f32 0x3B124925#32))) := by
  rw [out_C_5_eq]
  have hc := cover0_C_6 (F := Ideal) c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2
  unfold out0_C_6
  rw [up_list_C] at hc ⊢
  have key : ∀ y, VO0_6.read (Elt Ideal) (VO0_6.writes (Elt Ideal) VO0_6.junk [⟨Rect.unit (s := S1x256) ![0, 0] ![1, 256] inb_S1x256_S1x256_0_0, k0_pay3 (F := Ideal) (k0_pay399 (scaleRow c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2) (k0_pay397 (scaleRow c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2) k0_pay393 (absf (scaleRow c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2)) k0_pay395 k0_pay396) (k0_pay398 (scaleRow c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2))) 0#32⟩]) y
      = k0_pay3 (F := Ideal) (k0_pay399 (scaleRow c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2) (k0_pay397 (scaleRow c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2) k0_pay393 (absf (scaleRow c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2)) k0_pay395 k0_pay396) (k0_pay398 (scaleRow c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2))) 0#32 y := by
    intro y
    refine View.read_writes_apply_of_pieces VO0_6 _ _ _ ?_ y (hc y)
    intro p hp
    rcases List.mem_singleton.mp hp with rfl
    intro x
    rw [emb_row_C c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2]
  rw [key, up_apply]
  have e : scaleRow c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2 (ix2 0 t) = max (loadHist c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2 (ix2 0 t)) (amaxRow c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2 (ix2 0 t)) * Ideal.ofBits .f32 0x3B124925#32 := rfl
  have e2 : loadHist c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2 (ix2 0 t) = xs2 (ix2 0 t) := by
    have e' : loadHist c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2 (ix2 0 t) = arg11.view.read (Elt Ideal) (harg11.unread xs2) ((Rect.unit (s := S1x256) ![0, 0] ![1, 256] inb_S1x256_S1x256_0_0).emb (ix2 0 t)) := rfl
    rw [e', harg11.read_unread, emb_row_C c i arg1 harg1 arg2 harg2 arg3 harg3 arg4 harg4 arg5 harg5 arg6 harg6 arg7 harg7 arg8 harg8 arg9 harg9 arg10 harg10 arg11 harg11 hc0 hc1 x0 x1 x2 x3 xo7 xs0 xs1 xs2]
  rw [e, e2]

end Cert.KernelIdeal.Gen
end
-- ==== Proof.Ideal.Points.lean ====
/- What the grid's points leave, by induction over the points, and the four results of the kernel's run in closed form. -/
module

public import proofs.«01_k».proof.Proof.Ideal.Value
public import proofs.«01_k».proof.Proof.Ideal.CaseA
public import proofs.«01_k».proof.Proof.Ideal.CaseB
public import proofs.«01_k».proof.Proof.Ideal.CaseC

@[expose] public section

set_option maxRecDepth 16384
set_option maxHeartbeats 4000000

noncomputable section

namespace Cert.KernelIdeal.Value

open Idealize.ShloMosaic Idealize.ShloMosaic.TcCoe Idealize.SL.Sem Cert.Exponent Cert.KernelIdeal.Gen

variable (m : (ℓ : Loc nD τ sig) → Buf (Elt Ideal) ℓ)

/-- The magnitude of a value. -/
def mag (x : EReal) : EReal := max x (-x)

/-- The tensors as the region finds them: one row of 18944 elements per row of the input. -/
def X (c : Dev nD) : S11264x18944.Idx → EReal := V m c main_v2
/-- The row of scales as the region finds it. -/
def S (c : Dev nD) : S1x256.Idx → EReal := V m c main_v3
/-- The history as the region finds it. -/
def H (c : Dev nD) : S256x1024.Idx → EReal := V m c main_arg1
/-- The slot of the history that the step overwrites, as the region finds it. -/
def W (c : Dev nD) : S1.Idx → BitVec 32 := V m c main_v1

theorem index1 : ∀ t : Fin cfg0.N, win0_1.index t (0 : Fin 2) = t.val ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)

theorem lt44 (t : Fin cfg0.N) : t.val < 44 := lt_of_lt_of_eq t.isLt N_0

/-- A block of the tensors: 256 rows, from row `256 t` on. -/
theorem block1 (c : Dev nD) (t : Fin cfg0.N) (y : S256x18944.Idx) : iblk m c 1 t y
    = X m c (ix2 ⟨256 * t.val + (y 0).val, by have := lt44 t; have h : (y 0).val < 256 := (y 0).isLt; omega⟩ (y 1)) := by
  show V m c main_v2 ((win0_1.rect t).emb y) = V m c main_v2 _
  refine congrArg _ (idx2_ext ?_ ?_)
  · show win0_1.index t (0 : Fin 2) * 256 + 1 * (y 0).val = 256 * t.val + (y 0).val
    rw [(index1 t).1]; omega
  · show win0_1.index t (1 : Fin 2) * 18944 + 1 * (y 1).val = (y 1).val
    rw [(index1 t).2]; omega

theorem block2 (c : Dev nD) (t : Fin cfg0.N) : iblk m c 2 t = H m c := by
  funext y
  show V m c main_arg1 ((win0_2.rect t).emb y) = V m c main_arg1 y
  refine congrArg _ (idx2_ext ?_ ?_)
  · show win0_2.index t (0 : Fin 2) * 256 + 1 * (y 0).val = (y 0).val
    rw [(index2 t).1]; omega
  · show win0_2.index t (1 : Fin 2) * 1024 + 1 * (y 1).val = (y 1).val
    rw [(index2 t).2]; omega

theorem block3 (c : Dev nD) (t : Fin cfg0.N) : iblk m c 3 t = S m c := by
  funext y
  show V m c main_v3 ((win0_3.rect t).emb y) = V m c main_v3 y
  refine congrArg _ (idx2_ext ?_ ?_)
  · show win0_3.index t (0 : Fin 2) * 1 + 1 * (y 0).val = (y 0).val
    rw [(index3 t).1]; omega
  · show win0_3.index t (1 : Fin 2) * 256 + 1 * (y 1).val = (y 1).val
    rw [(index3 t).2]; omega

theorem block0 (c : Dev nD) (t : Fin cfg0.N) : iblk m c 0 t = W m c := by
  funext y
  show V m c main_v1 ((win0_0.rect t).emb y) = V m c main_v1 y
  have h : ∀ a b : S1.Idx, a = b := fun a b => by
    funext k
    match k with
    | ⟨0, _⟩ => exact Subsingleton.elim (α := Fin 1) _ _
  exact congrArg _ (h _ _)

/-- What the buffers hold after point `n`. -/
structure After (c : Dev nD) (n : ℕ) (hn : n < cfg0.N)
    (o : Vec Ideal S256x18944 .fp8e4m3 × Vec Ideal S1x256 .f32 × Vec Ideal S1x256 .f32 × Vec Ideal S1x256 .f32 × Vec Ideal S16x18944 .bf16 × Vec Ideal S16x18944 .bf16 × Vec Ideal S1x256 .f32) : Prop where
  codes : o.1 = codeAt (iblk m c 1 ⟨n, hn⟩) (invG (S m c))
  scale : o.2.2.2.1 = S m c
  inv : o.2.2.2.2.1 = invG (S m c)
  acc : ∀ (r : Fin 16) (q : Fin 18944) (z : EReal), o.2.2.2.2.2.1 (ix2 r q) ≤ z ↔ 0 ≤ z ∧ ∀ p : Fin 44, p.val ≤ n → ∀ j : Fin 16,
    mag (X m c (ix2 ⟨256 * p.val + (16 * j.val + r.val), by have := p.isLt; have := j.isLt; have := r.isLt; omega⟩ q)) ≤ z
  hist : ∀ (t : Fin 256) (z : EReal), o.2.2.2.2.2.2 (ix2 0 t) ≤ z ↔ ∀ k : Fin 1024, BitVec.ofNat 32 k.val ≠ W m c (ix1 0) → H m c (ix2 t k) ≤ z

/-- A running maximum taken over one more block. -/
theorem maxAt_le (c : Dev nD) (t : Fin cfg0.N) (A : S16x18944.Idx → EReal) (r : Fin 16) (q : Fin 18944) (z : EReal) :
    maxAt (iblk m c 1 t) A (ix2 r q) ≤ z ↔ A (ix2 r q) ≤ z ∧ ∀ j : Fin 16,
      mag (X m c (ix2 ⟨256 * t.val + (16 * j.val + r.val), by have := lt44 t; have := j.isLt; have := r.isLt; omega⟩ q)) ≤ z := by
  unfold maxAt
  rw [max_le_iff, Finset.sup_le_iff]
  refine and_congr_right fun _ => ⟨fun h j => ?_, fun h j _ => ?_⟩
  · have h1 := h j (Finset.mem_univ _)
    rw [block1] at h1
    exact h1
  · rw [block1]
    exact h j

theorem after_zero (c : Dev nD) (t : Fin cfg0.N) (h : t.val = 0) : After m c t.val t.isLt (outsAt0 m c t.val t.isLt) := by
  have h0 : t.val % 44 = 0 := by omega
  have h1 : ¬t.val % 44 = 43 := by omega
  rw [outsAt0_A m c t h0 h1]
  constructor
  · dsimp only; rw [out_A_4, block3]
  · dsimp only; rw [out_A_7, block3]
  · dsimp only; rw [sout_A_0, block3]
  · intro r q z
    dsimp only
    rw [sout_A_1, maxAt_le]
    refine and_congr_right fun _ => ⟨fun hj p hp j => ?_, fun hp j => hp ⟨t.val, lt44 t⟩ le_rfl j⟩
    have e : p.val = t.val := by omega
    have e' : p = ⟨t.val, lt44 t⟩ := Fin.ext e
    subst e'
    exact hj j
  · intro t' z
    dsimp only
    rw [sout_A_2, block0, block2]

theorem after_mid (c : Dev nD) (t : Fin cfg0.N) (h : ¬t.val = 0) (h' : ¬t.val = 43)
    (ih : After m c (t.val - 1) (Nat.lt_of_le_of_lt (Nat.sub_le _ _) t.isLt) (outsAt0 m c (t.val - 1) (Nat.lt_of_le_of_lt (Nat.sub_le _ _) t.isLt))) :
    After m c t.val t.isLt (outsAt0 m c t.val t.isLt) := by
  have hN := lt44 t
  have h0 : ¬t.val % 44 = 0 := by omega
  have h1 : ¬t.val % 44 = 43 := by omega
  rw [outsAt0_B m c t h0 h1]
  constructor
  · dsimp only; rw [out_B_4, ih.inv]
  · dsimp only; exact ih.scale
  · dsimp only; exact ih.inv
  · intro r q z
    dsimp only
    rw [sout_B_1, maxAt_le, ih.acc, and_assoc]
    refine and_congr_right fun _ => ⟨fun hh p hp j => ?_, fun hp => ⟨fun p hp' j => hp p (by omega) j, fun j => hp ⟨t.val, lt44 t⟩ le_rfl j⟩⟩
    by_cases e : p.val = t.val
    · have e' : p = ⟨t.val, lt44 t⟩ := Fin.ext e
      subst e'
      exact hh.2 j
    · exact hh.1 p (by omega) j
  · intro t' z
    dsimp only
    exact ih.hist t' z

theorem after_upto (c : Dev nD) : ∀ (n : ℕ) (hn : n < cfg0.N), n < 43 → After m c n hn (outsAt0 m c n hn) := by
  intro n
  induction n with
  | zero => intro hn _; exact after_zero m c ⟨0, hn⟩ rfl
  | succ n ih =>
    intro hn h
    exact after_mid m c ⟨n + 1, hn⟩ (by simp) (by show ¬(n + 1 = 43); omega) (ih _ (by omega))

/-- What the last point leaves in the four results. -/
theorem last (c : Dev nD) (t : Fin cfg0.N) (h : t.val = 43) :
    (outsAt0 m c t.val t.isLt).1 = codeAt (iblk m c 1 t) (invG (S m c))
    ∧ (outsAt0 m c t.val t.isLt).2.2.2.1 = S m c
    ∧ (∀ (d : Fin 256) (z : EReal), (outsAt0 m c t.val t.isLt).2.1 (ix2 0 d) ≤ z ↔ 0 ≤ z ∧ ∀ (r : Fin 11264) (q : Fin 18944), q.val / 74 = d.val → mag (X m c (ix2 r q)) ≤ z)
    ∧ ∀ d : Fin 256, ∃ hm : EReal, (∀ z, hm ≤ z ↔ ∀ k : Fin 1024, BitVec.ofNat 32 k.val ≠ W m c (ix1 0) → H m c (ix2 d k) ≤ z)
      ∧ (outsAt0 m c t.val t.isLt).2.2.1 (ix2 0 d) = up (mag (max hm ((outsAt0 m c t.val t.isLt).2.1 (ix2 0 d)) * Ideal.ofBits .f32 0x3B124925#32)) := by
  have h0 : ¬t.val % 44 = 0 := by omega
  have h1 : t.val % 44 = 43 := by omega
  have ih := after_upto m c (t.val - 1) (Nat.lt_of_le_of_lt (Nat.sub_le _ _) t.isLt) (by omega)
  rw [outsAt0_C m c t h0 h1]
  dsimp only
  refine ⟨?_, ih.scale, ?_, ?_⟩
  · rw [out_C_4, ih.inv]
  · intro d z
    rw [out_C_5]
    refine and_congr_right fun hz => ⟨fun hh r q hq => ?_, fun hh q hq r => ?_⟩
    · have h2 := hh q hq ⟨r.val % 16, Nat.mod_lt _ (by decide)⟩
      rw [maxAt_le, ih.acc] at h2
      have hr := r.isLt
      have e : r.val = 256 * (r.val / 256) + (16 * (r.val % 256 / 16) + r.val % 16) := by omega
      have er : ∀ (a : ℕ) (ha : a < 11264), a = r.val → (⟨a, ha⟩ : Fin 11264) = r := fun a ha e => Fin.ext e
      by_cases ep : r.val / 256 = 43
      · have h3 := h2.2 ⟨r.val % 256 / 16, by omega⟩
        rw [er _ _ (by show 256 * t.val + (16 * (r.val % 256 / 16) + r.val % 16) = r.val; omega)] at h3
        exact h3
      · have h3 := h2.1.2 ⟨r.val / 256, by omega⟩ (by show r.val / 256 ≤ t.val - 1; omega) ⟨r.val % 256 / 16, by omega⟩
        rw [er _ _ (by show 256 * (r.val / 256) + (16 * (r.val % 256 / 16) + r.val % 16) = r.val; omega)] at h3
        exact h3
    · rw [maxAt_le, ih.acc]
      exact ⟨⟨hz, fun p _ j => hh _ q hq⟩, fun j => hh _ q hq⟩
  · intro d
    refine ⟨_, ih.hist d, ?_⟩
    rw [out_C_6]
    rfl

end Cert.KernelIdeal.Value
end
-- ==== Proof.Ideal.Args.lean ====
/- What the host operations leave for the kernel. -/
module

public import Idealize.ShloMosaic.Lib.Claim
public import Idealize.ShloMosaic.Lib.StableHlo.RunRead
public import proofs.«01_k».proof.Proof.Ideal.Points
public import proofs.«01_k».proof.Proof.Ref.Terms

@[expose] public section

set_option maxRecDepth 16384
set_option maxHeartbeats 4000000

noncomputable section

namespace Cert.KernelIdeal.Value

open Idealize.ShloMosaic Idealize.ShloMosaic.TcCoe Idealize.SL.Sem Cert.KernelIdeal Cert.KernelIdeal.Gen Cert.Exponent

variable (m : (ℓ : Loc nD τ sig) → Buf (Elt Ideal) ℓ)

/-- The arguments of the kernel. -/
def argX (c : Dev nD) : FVec Ideal S11x1024x18944 .bf16 := m ((c : Thread nD τ).loc main_arg0)
def argH (c : Dev nD) : FVec Ideal S256x1024 .f32 := m ((c : Thread nD τ).loc main_arg1)
def argS (c : Dev nD) : FVec Ideal S256 .f32 := m ((c : Thread nD τ).loc main_arg2)
def argT (c : Dev nD) : IVec S_ 32 := m ((c : Thread nD τ).loc main_arg3)

theorem X_eq (c : Dev nD) : X m c = shapeCast S11264x18944 (argX m c) shapeCasts_S11x1024x18944_S11264x18944 := by
  unfold X V
  simp only [hostOps0, hostOps0_1, hostOps0_2, List.flatten_cons, List.flatten_nil, List.cons_append, List.nil_append, List.append_nil]
  after_reads_simp
  rfl

theorem S_eq (c : Dev nD) : S m c = shapeCast S1x256 (argS m c) shapeCasts_S256_S1x256 := by
  unfold S V
  simp only [hostOps0, hostOps0_1, hostOps0_2, List.flatten_cons, List.flatten_nil, List.cons_append, List.nil_append, List.append_nil]
  after_reads_simp
  rfl

theorem H_eq (c : Dev nD) : H m c = argH m c := V_main_arg1 m c

/-- The slot that the kernel is given is the step modulo 1024. -/
theorem W_eq (c : Dev nD) : W m c = shapeCast S1 (Cert.ReferenceIdeal.Terms.remR (argT m c)) shapeCasts_S_S1 := by
  unfold W V
  simp only [hostOps0, hostOps0_1, hostOps0_2, List.flatten_cons, List.flatten_nil, List.cons_append, List.nil_append, List.append_nil]
  after_reads_simp
  all_goals simp -implicitDefEqProofs only [StableHlo.TRef.toBuf, StableHlo.TRef.ofBuf, cast_cast, cast_eq, id_eq]
  rfl

theorem X_apply (c : Dev nD) (r : Fin 11264) (q : Fin 18944) : X m c (ix2 r q) = argX m c (ix3 ⟨r.val / 1024, by omega⟩ ⟨r.val % 1024, by omega⟩ q) := by
  rw [X_eq]
  pointwise

theorem S_apply (c : Dev nD) (d : Fin 256) : S m c (ix2 0 d) = argS m c (ix1 d) := by
  rw [S_eq]
  pointwise

theorem W_apply (c : Dev nD) : W m c (ix1 0) = Cert.ReferenceIdeal.Terms.remR (argT m c) ix0 := by
  rw [W_eq]
  pointwise

end Cert.KernelIdeal.Value
end
-- ==== Proof.Ideal.FinalRows.lean ====
/- The kernel's three rows of results, element by element, over its arguments. -/
module

public import proofs.«01_k».proof.Proof.Ideal.Points
public import proofs.«01_k».proof.Proof.Ideal.Args

@[expose] public section

set_option maxRecDepth 16384
set_option maxHeartbeats 4000000

noncomputable section

namespace Cert.KernelIdeal.Value

open Idealize.ShloMosaic Idealize.ShloMosaic.TcCoe Idealize.SL.Sem Cert.KernelIdeal Cert.KernelIdeal.Gen Cert.Exponent

variable (m : (ℓ : Loc nD τ sig) → Buf (Elt Ideal) ℓ)

/-- Row 1 is what the last point leaves. -/
theorem G5_eq (c : Dev nD) (n : ℕ) (hn : n < cfg0.N) (h : n = 43) : G5 m c = (outsAt0 m c n hn).2.1 := by
  rw [G5_last, outsAt0_sweep m c n hn]
  rw [fold0_congr m c 43 _ n (by omega) h.symm]

/-- Row 2 is what the last point leaves. -/
theorem G6_eq (c : Dev nD) (n : ℕ) (hn : n < cfg0.N) (h : n = 43) : G6 m c = (outsAt0 m c n hn).2.2.1 := by
  rw [G6_last, outsAt0_sweep m c n hn]
  rw [fold0_congr m c 43 _ n (by omega) h.symm]

/-- Row 3 is what the last point leaves. -/
theorem G7_eq (c : Dev nD) (n : ℕ) (hn : n < cfg0.N) (h : n = 43) : G7 m c = (outsAt0 m c n hn).2.2.2.1 := by
  rw [G7_last, outsAt0_sweep m c n hn]
  rw [fold0_congr m c 43 _ n (by omega) h.symm]

end Cert.KernelIdeal.Value
end
-- ==== Proof.Ideal.Rows.lean ====
/- The kernel's three rows of results, by the largest magnitude of each tensor. -/
module

public import proofs.«01_k».proof.Proof.Ideal.Args
public import proofs.«01_k».proof.Proof.Ideal.FinalRows

@[expose] public section

set_option maxRecDepth 16384
set_option maxHeartbeats 4000000

noncomputable section

namespace Cert.KernelIdeal.Value

open Idealize.ShloMosaic Idealize.ShloMosaic.TcCoe Idealize.SL.Sem Cert.KernelIdeal Cert.KernelIdeal.Gen Cert.Exponent

variable (m : (ℓ : Loc nD τ sig) → Buf (Elt Ideal) ℓ)

/-- What the last point leaves in the four results, the point named by its number. -/
theorem last_at (c : Dev nD) (n : ℕ) (hn : n < cfg0.N) (h : n = 43) :
    (outsAt0 m c n hn).2.2.2.1 = S m c
    ∧ (∀ (d : Fin 256) (z : EReal), (outsAt0 m c n hn).2.1 (ix2 0 d) ≤ z ↔ 0 ≤ z ∧ ∀ (r : Fin 11264) (q : Fin 18944), q.val / 74 = d.val → mag (X m c (ix2 r q)) ≤ z)
    ∧ ∀ d : Fin 256, ∃ hm : EReal, (∀ z, hm ≤ z ↔ ∀ k : Fin 1024, BitVec.ofNat 32 k.val ≠ W m c (ix1 0) → H m c (ix2 d k) ≤ z)
      ∧ (outsAt0 m c n hn).2.2.1 (ix2 0 d) = up (mag (max hm ((outsAt0 m c n hn).2.1 (ix2 0 d)) * Ideal.ofBits .f32 0x3B124925#32)) :=
  (last m c ⟨n, hn⟩ h).2

/-- The number of the last point. -/
theorem exists_last : ∃ n : ℕ, ∃ hn : n < cfg0.N, n = 43 := ⟨43, lt_of_lt_of_eq (by decide) N_0.symm, rfl⟩

/-- The row of maxima, by its upper bounds. -/
theorem G5_le (c : Dev nD) (d : Fin 256) (z : EReal) : @LE.le EReal _ ((G5 m c : S1x256.Idx → EReal) (ix2 0 d)) z
    ↔ 0 ≤ z ∧ ∀ (r : Fin 11264) (q : Fin 18944), q.val / 74 = d.val → mag (X m c (ix2 r q)) ≤ z := by
  obtain ⟨n, hn, h⟩ := exists_last
  have key := (last_at m c n hn h).2.1 d z
  rw [G5_eq m c n hn h]
  exact key

/-- The new scales: of the larger of the row's maximum and the greatest kept entry of the history. -/
theorem G6_apply (c : Dev nD) (d : Fin 256) : ∃ hm : EReal, (∀ z, hm ≤ z ↔ ∀ k : Fin 1024, BitVec.ofNat 32 k.val ≠ W m c (ix1 0) → H m c (ix2 d k) ≤ z)
    ∧ (G6 m c : S1x256.Idx → EReal) (ix2 0 d) = up (mag (@max EReal _ hm ((G5 m c : S1x256.Idx → EReal) (ix2 0 d)) * Ideal.ofBits .f32 0x3B124925#32)) := by
  obtain ⟨n, hn, h⟩ := exists_last
  have key := (last_at m c n hn h).2.2 d
  rw [G5_eq m c n hn h, G6_eq m c n hn h]
  exact key

/-- The scales that were used are the scales given. -/
theorem G7_apply (c : Dev nD) (d : Fin 256) : (G7 m c : S1x256.Idx → EReal) (ix2 0 d) = S m c (ix2 0 d) := by
  obtain ⟨n, hn, h⟩ := exists_last
  have key := (last_at m c n hn h).1
  rw [G7_eq m c n hn h]
  exact congrFun key (ix2 0 d)

end Cert.KernelIdeal.Value
end
-- ==== Proof.Ideal.FinalCodes.lean ====
/- The kernel's codes, element by element, over its arguments. -/
module

public import proofs.«01_k».proof.Proof.Ideal.Points
public import proofs.«01_k».proof.Proof.Ideal.Args

@[expose] public section

set_option maxRecDepth 16384
set_option maxHeartbeats 4000000

noncomputable section

namespace Cert.KernelIdeal.Value

open Idealize.ShloMosaic Idealize.ShloMosaic.TcCoe Idealize.SL.Sem Cert.KernelIdeal Cert.KernelIdeal.Gen Cert.Exponent

variable (m : (ℓ : Loc nD τ sig) → Buf (Elt Ideal) ℓ)

/-- The codes that every point writes. -/
theorem codes_at (c : Dev nD) (n : ℕ) (hn : n < cfg0.N) : (outsAt0 m c n hn).1 = codeAt (iblk m c 1 ⟨n, hn⟩) (invG (S m c)) := by
  have h44 := lt44 ⟨n, hn⟩
  dsimp only at h44
  rcases Nat.lt_or_ge n 43 with h | h
  · exact (after_upto m c n hn h).codes
  · exact (last m c ⟨n, hn⟩ (by dsimp only; omega)).1

/-- An element of a block of codes. -/
theorem code_block (c : Dev nD) (n : ℕ) (hn : n < cfg0.N) (a : Fin 256) (q : Fin 18944) (h : 256 * n + a.val < 11264) :
    codeAt (iblk m c 1 ⟨n, hn⟩) (invG (S m c)) (ix2 a q) = clip448 (X m c (ix2 ⟨256 * n + a.val, h⟩ q)
      * recip (max (S m c (ix2 0 ⟨q.val / 74, by omega⟩)) (-(S m c (ix2 0 ⟨q.val / 74, by omega⟩))))) := by
  unfold codeAt
  rw [block1, invG_apply (S m c) _ q.val rfl (by omega)]
  rfl

/-- The codes: each element times the reciprocal of its tensor's scale, clipped. -/
theorem G4_apply (c : Dev nD) (r : Fin 11264) (q : Fin 18944) :
    (G4 m c : S11264x18944.Idx → EReal) (ix2 r q) = clip448 (argX m c (ix3 ⟨r.val / 1024, by omega⟩ ⟨r.val % 1024, by omega⟩ q)
      * recip (max (argS m c (ix1 ⟨q.val / 74, by omega⟩)) (-(argS m c (ix1 ⟨q.val / 74, by omega⟩))))) := by
  rw [← X_apply, ← S_apply]
  have hp : pt4Of (ix2 r q) = r.val / 256 := by
    have := q.isLt
    show 1 * (r.val / 256 - 0) + 1 * (q.val / 18944 - 0) = _
    omega
  have hN : r.val / 256 < cfg0.N := by
    have := r.isLt
    exact lt_of_lt_of_eq (by omega) N_0.symm
  unfold G4
  rw [dif_pos (by rw [hp]; exact hN), fold0_congr m c _ _ (r.val / 256) (by omega) hp, ← outsAt0_sweep m c _ hN, codes_at m c _ hN]
  have hl : loc4Of (ix2 r q) = ix2 (⟨r.val % 256, Nat.mod_lt _ (by decide)⟩ : Fin 256) q := idx2_ext rfl (by
    show q.val % 18944 = q.val
    exact Nat.mod_eq_of_lt q.isLt)
  rw [hl, code_block m c _ hN _ q (by dsimp only; omega)]
  have e : (⟨256 * (r.val / 256) + (⟨r.val % 256, Nat.mod_lt _ (by decide)⟩ : Fin 256).val, by dsimp only; omega⟩ : Fin 11264) = r := Fin.ext (by dsimp only; omega)
  rw [e]

end Cert.KernelIdeal.Value
end
-- ==== Proof.Ref.Frexp.lean ====
/- The reference's `frexp` and `ldexp`, by the exponent of the magnitude. -/
module

public import proofs.«01_k».proof.Proof.Ref.Terms
public import proofs.«01_k».proof.Proof.Ideal.Exponent

@[expose] public section

set_option maxRecDepth 16384
set_option maxHeartbeats 4000000

noncomputable section

namespace Cert.ReferenceIdeal.Terms

open Idealize.ShloMosaic Idealize.ShloMosaic.TcCoe Idealize.SL.Sem Cert.ReferenceIdeal Cert.ReferenceIdeal.Gen Cert.Exponent

theorem bot_word : Ideal.ofBits .f32 4286578688#32 = ⊥ := by
  show Ideal.ieee 8 23 (4286578688#32 : BitVec 32) = _
  unfold Ideal.ieee
  simp

theorem top_word : Ideal.ofBits .f32 2139095040#32 = ⊤ := by
  show Ideal.ieee 8 23 (2139095040#32 : BitVec 32) = _
  unfold Ideal.ieee
  simp

theorem two_word : Ideal.ofBits .f32 1073741824#32 = ((2 : ℝ) : EReal) := by
  have h := ofBits_shl 128 (by decide)
  rw [pw_128] at h
  have e : (BitVec.ofNat 32 128 <<< 23) = (1073741824#32 : BitVec 32) := by decide
  rw [e] at h
  rw [h]; rfl

theorem word127 : Ideal.ofBits .f32 1123942400#32 = ((127 : ℝ) : EReal) := by
  show Ideal.ieee 8 23 (1123942400#32 : BitVec 32) = _
  unfold Ideal.ieee
  simp
  rw [← EReal.coe_mul]
  congr 1
  norm_num

theorem word126 : Ideal.ofBits .f32 3271294976#32 = ((-126 : ℝ) : EReal) := by
  show Ideal.ieee 8 23 (3271294976#32 : BitVec 32) = _
  unfold Ideal.ieee
  simp
  rw [← EReal.coe_mul]
  congr 1
  norm_num

/-- The power of two with the integer exponent `e - 127`. -/
theorem pow_two {e : ℕ} (h1 : 1 ≤ e) (h2 : e ≤ 254) : Ideal.pow ((2 : ℝ) : EReal) (((e : ℝ) - 127 : ℝ) : EReal) = pw e := by
  unfold pw
  rw [if_neg (by omega), if_neg (by omega)]
  show ((Real.rpow 2 ((e : ℝ) - 127) : ℝ) : EReal) = _
  congr 1
  show (2 : ℝ) ^ ((e : ℝ) - 127) = _
  rw [← Real.rpow_intCast]
  congr 1
  push_cast
  ring

/-- The `k`-th exponent. -/
theorem exp_at (k : Fin 254) : FloatOps.sitofp (F := Ideal) FTy.f32 (IntOp.addi (4294967170#32) (BitVec.ofNat 32 k.val)) = (((k.val + 1 : ℕ) : ℝ) - 127 : ℝ) := by
  have h : ∀ k : Fin 254, (IntOp.addi (4294967170#32) (BitVec.ofNat 32 k.val)).toInt = (k.val : ℤ) - 126 := by decide +kernel
  show (((IntOp.addi (4294967170#32) (BitVec.ofNat 32 k.val)).toInt : ℝ) : EReal) = _
  rw [h]
  congr 1
  push_cast
  ring

/-- The magnitude of an element. -/
theorem absf_eq (v : EReal) : FloatOps.absf (F := Ideal) (φ := .f32) v = max v (-v) := rfl

theorem abs_nonneg' (v : EReal) : 0 ≤ max v (-v) := by
  rcases le_total 0 v with h | h
  · exact le_max_of_le_left h
  · exact le_max_of_le_right (EReal.neg_nonneg.mpr h)

theorem expo_top {a : EReal} (ha : 0 ≤ a) : expo a = 255 ↔ a = ⊤ := by
  have h := pw_le_iff ha (m := 255) le_rfl
  have e : pw 255 = ⊤ := by unfold pw; simp
  rw [e, top_le_iff] at h
  have := expo_le a
  constructor
  · intro h'; exact h.mpr (by omega)
  · intro h'; have := h.mp h'; omega

/-- The search for the exponent: minus infinity below the least power of two, else the exponent, no more than 254, less 126. -/
theorem rawR_apply (a : FVec Ideal S256 .f32) (d : Fin 256) :
    rawR a (ix1 d) = if expo (max (a (ix1 d)) (-(a (ix1 d)))) = 0 then (⊥ : EReal) else ((((min (expo (max (a (ix1 d)) (-(a (ix1 d))))) 254 : ℕ) : ℝ) - 126 : ℝ) : EReal) := by
  have h0 := abs_nonneg' (a (ix1 d))
  pointwise [rawR, expsR]
  rw [absf_eq, bot_word, two_word]
  generalize max (a (ix1 d)) (-(a (ix1 d))) = A at h0 ⊢
  have hb := expo_le A
  have key : ∀ k : Fin 254, (Ideal.pow ((2 : ℝ) : EReal) (FloatOps.sitofp (F := Ideal) FTy.f32 (IntOp.addi (4294967170#32) (BitVec.ofNat 32 k.val))) ≤ A) ↔ k.val + 1 ≤ expo A := by
    intro k
    have hk := k.isLt
    rw [exp_at, pow_two (by omega) (by omega), pw_le_iff h0 (by omega)]
  have val : ∀ k : Fin 254, FloatOps.sitofp (F := Ideal) FTy.f32 (IntOp.addi (4294967170#32) (BitVec.ofNat 32 k.val)) + 1 = (((k.val + 1 : ℕ) : ℝ) - 126 : ℝ) := by
    intro k
    rw [exp_at, ← EReal.coe_one, ← EReal.coe_add]
    congr 1
    ring
  simp only [key, val]
  by_cases he : expo A = 0
  · rw [if_pos he]
    refine le_antisymm ((Finset.fold_max_le _).mpr ⟨le_rfl, fun k _ => ?_⟩) bot_le
    rw [if_neg (by omega)]
  · rw [if_neg he]
    refine le_antisymm ((Finset.fold_max_le _).mpr ⟨bot_le, fun k _ => ?_⟩) ((Finset.le_fold_max _).mpr (Or.inr ⟨⟨min (expo A) 254 - 1, by omega⟩, Finset.mem_univ _, ?_⟩))
    · split
      · rename_i hk
        have h2 : k.val + 1 ≤ min (expo A) 254 := by have := k.isLt; omega
        have h3 : ((k.val + 1 : ℕ) : ℝ) ≤ ((min (expo A) 254 : ℕ) : ℝ) := by exact_mod_cast h2
        exact EReal.coe_le_coe_iff.mpr (by linarith)
      · exact bot_le
    · have e : (min (expo A) 254 - 1) + 1 = min (expo A) 254 := by omega
      dsimp only
      rw [e, if_pos (by omega)]

/-- The exponent that `frexp` returns: zero when the magnitude is below the least power of two or infinite. -/
theorem frexpR_apply (a : FVec Ideal S256 .f32) (d : Fin 256) :
    frexpR a (ix1 d) = open Classical in if Special (max (a (ix1 d)) (-(a (ix1 d)))) then (0 : EReal) else ((((expo (max (a (ix1 d)) (-(a (ix1 d)))) : ℕ) : ℝ) - 126 : ℝ) : EReal) := by
  have h0 := abs_nonneg' (a (ix1 d))
  have hr := rawR_apply a d
  pointwise [frexpR]
  rw [absf_eq, bot_word, top_word]
  rw [hr]
  generalize max (a (ix1 d)) (-(a (ix1 d))) = A at h0 ⊢
  have hb := expo_le A
  by_cases he : expo A = 0
  · rw [if_pos (show Special A from Or.inl he), if_pos he]
    have hv : ∀ b : Bool, (IntOp.ori (BitVec.ofBool true) (BitVec.ofBool b)) = 1#1 := by decide
    rw [decide_eq_true rfl, hv]
    rfl
  · by_cases h5 : expo A = 255
    · rw [if_pos (show Special A from Or.inr h5), if_neg he]
      have hv : ∀ b : Bool, (IntOp.ori (BitVec.ofBool b) (BitVec.ofBool true)) = 1#1 := by decide
      rw [decide_eq_true ((expo_top h0).mp h5), hv]
      rfl
    · rw [if_neg (show ¬ Special A from fun h => h.elim he h5), if_neg he, show min (expo A) 254 = expo A by omega]
      have ht : ¬ A = ⊤ := fun h => h5 ((expo_top h0).mpr h)
      have hn : ¬ ((((expo A : ℕ) : ℝ) - 126 : ℝ) : EReal) = ⊥ := EReal.coe_ne_bot _
      rw [decide_eq_false ht, decide_eq_false hn]
      rfl

/-- `ldexp(1, n)` for an integer `n = e - 127` of the range. -/
theorem ldexpR_apply (v : FVec Ideal S256 .f32) (d : Fin 256) (e : ℕ) (he : e ≤ 255) (hv : v (ix1 d) = (((e : ℝ) - 127 : ℝ) : EReal)) :
    ldexpR v (ix1 d) = pw e := by
  pointwise [ldexpR]
  rw [hv, word127, word126, top_word, two_word]
  by_cases h5 : e = 255
  · subst h5
    rw [if_pos (by exact_mod_cast (by norm_num : (127 : ℝ) < (255 : ℝ) - 127))]
    unfold pw; simp
  · have h3 : (e : ℝ) ≤ 254 := by exact_mod_cast (by omega : e ≤ 254)
    rw [if_neg (by rw [EReal.coe_lt_coe_iff]; linarith)]
    by_cases h0 : e = 0
    · subst h0
      rw [if_pos (by rw [EReal.coe_lt_coe_iff]; norm_num)]
      unfold pw; simp
    · have h4 : (1 : ℝ) ≤ (e : ℝ) := by exact_mod_cast (by omega : 1 ≤ e)
      rw [if_neg (by rw [EReal.coe_lt_coe_iff]; linarith), pow_two (by omega) (by omega)]

/-- The reciprocal of a scale, as the reference computes it. -/
theorem invR_apply (s : FVec Ideal S256 .f32) (d : Fin 256) : invR s (ix1 d) = recip (max (s (ix1 d)) (-(s (ix1 d)))) := by
  have hf := frexpR_apply s d
  have hb := expo_le (max (s (ix1 d)) (-(s (ix1 d))))
  unfold invR recip
  by_cases hs : Special (max (s (ix1 d)) (-(s (ix1 d))))
  · rw [if_pos hs] at hf ⊢
    rw [ldexpR_apply _ d 128 (by decide), pw_128]
    pointwise
    rw [hf, sub_zero, ← EReal.coe_one]
    congr 1
    norm_num
  · rw [if_neg hs] at hf ⊢
    have h0 : expo (max (s (ix1 d)) (-(s (ix1 d)))) ≤ 254 := by
      rcases Nat.lt_or_ge (expo (max (s (ix1 d)) (-(s (ix1 d))))) 255 with h | h
      · omega
      · exact absurd (Or.inr (by omega)) hs
    refine ldexpR_apply _ d _ (by omega) ?_
    pointwise
    rw [hf, ← EReal.coe_one, ← EReal.coe_sub, Nat.cast_sub h0]
    congr 1
    push_cast
    ring

/-- The new scale, as the reference computes it from the greatest entry of the history. -/
theorem newR_apply (top : FVec Ideal S256 .f32) (d : Fin 256) :
    newR top (ix1 d) = up (max (top (ix1 d) * Ideal.ofBits .f32 0x3B124925#32) (-(top (ix1 d) * Ideal.ofBits .f32 0x3B124925#32))) := by
  have hf := frexpR_apply (mulf top (broadcastInDim S256 ![] bcast_S_S256 (constant S_ .f32 0x3B124925#32))) d
  have he : (mulf top (broadcastInDim S256 ![] bcast_S_S256 (constant S_ .f32 0x3B124925#32))) (ix1 d) = top (ix1 d) * Ideal.ofBits .f32 0x3B124925#32 := by pointwise
  rw [he] at hf
  have hb := expo_le (max (top (ix1 d) * Ideal.ofBits .f32 0x3B124925#32) (-(top (ix1 d) * Ideal.ofBits .f32 0x3B124925#32)))
  have h00 : expo 0 = 0 := by
    by_contra h
    have h1 := (pw_le_iff (a := 0) le_rfl (m := 1) (by decide)).mpr (by omega)
    have : (0 : EReal) < pw 1 := by
      unfold pw
      rw [if_neg (by decide), if_neg (by decide)]
      exact_mod_cast (by positivity : (0 : ℝ) < (2 : ℝ) ^ (((1 : ℕ) : ℤ) - 127))
    exact absurd h1 (not_le.mpr this)
  unfold newR up
  by_cases hs : Special (max (top (ix1 d) * Ideal.ofBits .f32 0x3B124925#32) (-(top (ix1 d) * Ideal.ofBits .f32 0x3B124925#32)))
  · rw [if_pos hs] at hf ⊢
    rw [ldexpR_apply _ d 127 (by decide), pw_127]
    pointwise
    rw [hf]
    simp
  · rw [if_neg hs] at hf ⊢
    refine ldexpR_apply _ d _ (by have : ¬ expo _ = 255 := fun h => hs (Or.inr h); omega) ?_
    have hz : ¬ top (ix1 d) = 0 := by
      intro h
      apply hs
      rw [h]
      left
      simp [h00]
    pointwise
    rw [hf, if_neg hz]
    congr 1
    push_cast
    ring

end Cert.ReferenceIdeal.Terms
end
-- ==== Proof.Ref.Top.lean ====
/- The slot that the reference overwrites, and the greatest entry of the updated history. -/
module

public import proofs.«01_k».proof.Proof.Ref.Frexp
public import Idealize.ShloMosaic.Lib.Routing.OpsPair
public import Idealize.ShloMosaic.Lib.Routing.OpsSet

@[expose] public section

set_option maxRecDepth 16384
set_option maxHeartbeats 4000000

noncomputable section

namespace Cert.ReferenceIdeal.Terms

open Idealize.ShloMosaic Idealize.ShloMosaic.TcCoe Idealize.SL.Sem Cert.ReferenceIdeal Cert.ReferenceIdeal.Gen Cert.Exponent

/-- The scatter writes column `k` exactly when the index word is `k`. -/
theorem lands (idx : IVec S1 32) (e d : Fin 256) (k : Fin 1024) :
    scatter_S256x1024_S1_S256_0_1_1_0.resultIdx? (ix1 e) idx = some (ix2 d k) ↔ e = d ∧ (idx (ix1 0)).toInt = (k.val : Int) := by
  rw [show (ix2 d k : S256x1024.Idx) = ix2 d k from rfl]
  refine (Routing.resultIdx?_ix2 scatter_S256x1024_S1_S256_0_1_1_0 (ix1 e) idx d k).trans ?_
  have h0 : scatter_S256x1024_S1_S256_0_1_1_0.start (ix1 e) idx 0 = 0 := by
    unfold ScatterDims.start
    rw [dif_neg (by decide)]
  have h1 : scatter_S256x1024_S1_S256_0_1_1_0.start (ix1 e) idx 1 = (idx (ix1 0)).toInt := by
    unfold ScatterDims.start
    rw [dif_pos (by decide)]
    congr 2
    funext b
    match b with
    | ⟨0, _⟩ => exact Subsingleton.elim (α := Fin 1) _ _
  have w0 : scatter_S256x1024_S1_S256_0_1_1_0.window (ix1 e) 0 = e.val := by
    unfold ScatterDims.window
    rw [dif_pos (by decide)]
    rfl
  have w1 : scatter_S256x1024_S1_S256_0_1_1_0.window (ix1 e) 1 = 0 := by
    unfold ScatterDims.window
    rw [dif_neg (by decide)]
  rw [h0, h1, w0, w1]
  constructor
  · rintro ⟨a, b⟩
    exact ⟨Fin.ext (by omega), by omega⟩
  · rintro ⟨rfl, b⟩
    exact ⟨by omega, by omega⟩

/-- The remainder as a word of the range. -/
theorem remR_range (t : IVec S_ 32) : 0 ≤ (remR t ix0).toInt ∧ (remR t ix0).toInt < 1024 := by
  pointwise [remR, divR]
  generalize t ix0 = a
  have e : Scalar.select (IntOp.cmpi .eq (1024#32) (0#32)) (1#32) (1024#32) = (1024#32 : BitVec 32) := by decide
  rw [e]
  rw [IntOp.remsi_of_pos ArithUnit.host (by decide)]
  have hr : (a.srem 1024#32).toInt = a.toInt.tmod 1024 := by rw [BitVec.toInt_srem]; rfl
  have h1 : a.toInt.tmod 1024 < 1024 := Int.tmod_lt_of_pos _ (by decide)
  have h2 : -1024 < a.toInt.tmod 1024 := Int.lt_tmod_of_pos _ (by decide)
  rw [← hr] at h1 h2
  generalize a.srem 1024#32 = r at h1 h2
  have hs : ∀ b : Bool, IntOp.cmpi .ne (BitVec.ofBool b) (IntOp.cmpi .slt (1024#32) (0#32)) = BitVec.ofBool b := by decide
  have hlt : IntOp.cmpi .slt r (0#32) = BitVec.ofBool (decide (r.toInt < 0)) := by
    show BitVec.ofBool (r.slt 0#32) = _
    rfl
  rw [hlt, hs]
  by_cases hn : r.toInt < 0
  · have hz : IntOp.cmpi .ne r (0#32) = 1#1 := by
      show BitVec.ofBool (r != 0#32) = _
      have : r ≠ 0#32 := by rintro rfl; exact absurd hn (by decide)
      rw [bne_iff_ne.mpr this]; rfl
    rw [decide_eq_true hn, hz]
    show 0 ≤ (r + 1024#32).toInt ∧ (r + 1024#32).toInt < 1024
    have : (r + 1024#32).toInt = r.toInt + 1024 := by
      rw [BitVec.toInt_add]
      show (r.toInt + 1024).bmod _ = _
      rw [Int.bmod_eq_of_le] <;> omega
    omega
  · have hz : ∀ b : BitVec 1, IntOp.andi (BitVec.ofBool false) b = 0#1 := by decide
    rw [decide_eq_false hn, hz]
    show 0 ≤ r.toInt ∧ r.toInt < 1024
    omega

/-- The slot is the remainder. -/
theorem slotR_apply (t : IVec S_ 32) : slotR t (ix1 0) = remR t ix0 := by
  have h := (remR_range t).1
  have e : slotR t (ix1 0) = Scalar.select (IntOp.cmpi .slt (remR t ix0) (0#32)) (IntOp.addi (remR t ix0) (1024#32)) (remR t ix0) := by
    pointwise [slotR]
  rw [e]
  generalize remR t ix0 = a at h ⊢
  have hb : IntOp.cmpi .slt a (0#32) = 0#1 := by
    have e : IntOp.cmpi .slt a (0#32) = BitVec.ofBool (decide (a.toInt < 0)) := rfl
    rw [e, decide_eq_false (by omega)]
    rfl
  rw [hb]
  rfl

/-- The greatest entry of an updated history, by its upper bounds. -/
theorem topR_le (x : FVec Ideal S11x1024x18944 .bf16) (h : FVec Ideal S256x1024 .f32) (t : IVec S_ 32) (d : Fin 256) (z : EReal) :
    topR x h t (ix1 d) ≤ z ↔ ampR x (ix1 d) ≤ z ∧ ∀ k : Fin 1024, BitVec.ofNat 32 k.val ≠ remR t ix0 → h (ix2 d k) ≤ z := by
  have hr := remR_range t
  have hs := slotR_apply t
  have hk : ∀ k : Fin 1024, (BitVec.ofNat 32 k.val = remR t ix0) ↔ (remR t ix0).toInt = (k.val : Int) := by
    intro k
    have hi : (BitVec.ofNat 32 k.val).toInt = (k.val : Int) := by
      have : ∀ k : Fin 1024, (BitVec.ofNat 32 k.val).toInt = (k.val : Int) := by decide +kernel
      exact this k
    rw [← BitVec.toInt_inj, hi]
    exact eq_comm
  have hit : ∀ k : Fin 1024, BitVec.ofNat 32 k.val = remR t ix0 →
      Host.scatter scatter_S256x1024_S1_S256_0_1_1_0 (fun _ b => b) h (slotR t) (ampR x) (ix2 d k) = ampR x (ix1 d) := by
    intro k hkk
    refine Routing.scatter_set_hit scatter_S256x1024_S1_S256_0_1_1_0 h (slotR t) (ampR x) (ix2 d k) (ampR x (ix1 d)) ?_ (ix1 d) ((lands _ _ _ _).mpr ⟨rfl, by rw [hs]; exact (hk k).mp hkk⟩)
    intro j hj
    obtain ⟨e, rfl⟩ : ∃ e : Fin 256, j = ix1 e := ⟨j 0, by funext b; match b with | ⟨0, _⟩ => rfl⟩
    rw [((lands _ _ _ _).mp hj).1]
  have miss : ∀ k : Fin 1024, BitVec.ofNat 32 k.val ≠ remR t ix0 →
      Host.scatter scatter_S256x1024_S1_S256_0_1_1_0 (fun _ b => b) h (slotR t) (ampR x) (ix2 d k) = h (ix2 d k) := by
    intro k hkk
    refine Routing.scatter_set_miss scatter_S256x1024_S1_S256_0_1_1_0 h (slotR t) (ampR x) (ix2 d k) ?_
    intro j hj
    obtain ⟨e, rfl⟩ : ∃ e : Fin 256, j = ix1 e := ⟨j 0, by funext b; match b with | ⟨0, _⟩ => rfl⟩
    exact hkk ((hk k).mpr (by rw [← hs]; exact ((lands _ _ _ _).mp hj).2))
  pointwise [topR]
  rw [bot_word]
  refine (Finset.fold_max_le _).trans ?_
  constructor
  · rintro ⟨-, hz⟩
    refine ⟨?_, fun k hkk => ?_⟩
    · obtain ⟨k, hkk⟩ : ∃ k : Fin 1024, BitVec.ofNat 32 k.val = remR t ix0 :=
        ⟨⟨(remR t ix0).toInt.toNat, by omega⟩, (hk _).mpr (by dsimp only; omega)⟩
      have := hz k (Finset.mem_univ _)
      rwa [hit k hkk] at this
    · have := hz k (Finset.mem_univ _)
      rwa [miss k hkk] at this
  · rintro ⟨ha, hh⟩
    refine ⟨bot_le, fun k _ => ?_⟩
    by_cases hkk : BitVec.ofNat 32 k.val = remR t ix0
    · rw [hit k hkk]; exact ha
    · rw [miss k hkk]; exact hh k hkk

end Cert.ReferenceIdeal.Terms
end
-- ==== Proof.Ref.Amp.lean ====
/- The largest magnitude of each tensor, as the reference computes it. -/
module

public import proofs.«01_k».proof.Proof.Ref.Frexp

@[expose] public section

set_option maxRecDepth 16384
set_option maxHeartbeats 4000000

noncomputable section

namespace Cert.ReferenceIdeal.Terms

open Idealize.ShloMosaic Idealize.ShloMosaic.TcCoe Idealize.SL.Sem Cert.ReferenceIdeal Cert.ReferenceIdeal.Gen Cert.Exponent

theorem bot_word16 : Ideal.ofBits .bf16 65408#16 = ⊥ := by
  show Ideal.ieee 8 7 (65408#16 : BitVec 16) = _
  unfold Ideal.ieee
  simp

/-- The indices that are reduced into tensor `d`. -/
theorem drop_eq (r : Fin 11264) (e : Fin 256) (j : Fin 74) (d : Fin 256) :
    reducesTo_S11264x256x74_S256_d0_2.drop (ix3 r e j) = ix1 d ↔ e = d := by
  have h : reducesTo_S11264x256x74_S256_d0_2.drop (ix3 r e j) = ix1 e := by
    funext a
    match a with
    | ⟨0, _⟩ => rfl
  rw [h]
  constructor
  · intro h; exact congrFun h 0
  · rintro rfl; rfl

theorem absf16 (v : EReal) : FloatOps.absf (F := Ideal) (φ := .bf16) v = max v (-v) := rfl

/-- The largest magnitude of tensor `d`, by its upper bounds. -/
theorem ampR_le (x : FVec Ideal S11x1024x18944 .bf16) (d : Fin 256) (z : EReal) :
    ampR x (ix1 d) ≤ z ↔ ∀ r : Fin 11264, ∀ j : Fin 74, max (x (ix3 ⟨r.val / 1024, by omega⟩ ⟨r.val % 1024, by omega⟩ ⟨d.val * 74 + j.val, by omega⟩)) (-(x (ix3 ⟨r.val / 1024, by omega⟩ ⟨r.val % 1024, by omega⟩ ⟨d.val * 74 + j.val, by omega⟩))) ≤ z := by
  have hy : ∀ r : Fin 11264, ∀ j : Fin 74, shapeCast S11264x256x74 x shapeCasts_S11x1024x18944_S11264x256x74 (ix3 r d j) = x (ix3 ⟨r.val / 1024, by omega⟩ ⟨r.val % 1024, by omega⟩ ⟨d.val * 74 + j.val, by omega⟩) := by
    intro r j
    pointwise
  simp only [← hy]
  unfold ampR
  generalize shapeCast S11264x256x74 x shapeCasts_S11x1024x18944_S11264x256x74 = y
  pointwise
  rw [bot_word16]
  refine (Finset.fold_max_le _).trans ?_
  constructor
  · rintro ⟨-, h⟩ r j
    exact h (ix3 r d j) (Finset.mem_filter.mpr ⟨Finset.mem_univ _, (drop_eq r d j d).mpr rfl⟩)
  · intro h
    refine ⟨bot_le, fun i hi => ?_⟩
    obtain ⟨r, e, j, rfl⟩ : ∃ (r : Fin 11264) (e : Fin 256) (j : Fin 74), i = ix3 r e j :=
      ⟨i 0, i 1, i 2, by funext b; match b with | ⟨0, _⟩ => rfl | ⟨1, _⟩ => rfl | ⟨2, _⟩ => rfl⟩
    have he := (drop_eq r e j d).mp (Finset.mem_filter.mp hi).2
    subst he
    exact h r j

end Cert.ReferenceIdeal.Terms
end
-- ==== Proof.Ref.Same.lean ====
/- Kernel and reference have equal results over equal arguments. -/
module

public import proofs.«01_k».proof.Proof.Ideal.Rows
public import proofs.«01_k».proof.Proof.Ideal.FinalCodes
public import proofs.«01_k».proof.Proof.Ref.Frexp
public import proofs.«01_k».proof.Proof.Ref.Top
public import proofs.«01_k».proof.Proof.Ref.Amp
public import proofs.«01_k».proof.Proof.Ref.Run

@[expose] public section

set_option maxRecDepth 16384
set_option maxHeartbeats 4000000

noncomputable section

namespace Cert.Same

open Idealize.ShloMosaic Idealize.ShloMosaic.TcCoe Idealize.SL.Sem Cert.Exponent

/-- An index of a row of 256. -/
theorem row_idx (y : (⟨2, ![1, 256]⟩ : Shape).Idx) : ∃ d : Fin 256, y = ix2 0 d :=
  ⟨y 1, Cert.KernelIdeal.Gen.idx2_ext (by have h : (y 0).val < 1 := (y 0).isLt; show (y 0).val = 0; omega) rfl⟩

variable (m : (ℓ : Loc Cert.KernelIdeal.nD Cert.KernelIdeal.τ Cert.KernelIdeal.sig) → Buf (Elt Ideal) ℓ)

open Cert.KernelIdeal.Value Cert.ReferenceIdeal.Terms

/-- The largest magnitudes. -/
theorem amp_same (c : Dev Cert.KernelIdeal.nD) (d : Fin 256) : ampR (argX m c) (ix1 d) = (G5 m c : Cert.KernelIdeal.S1x256.Idx → EReal) (ix2 0 d) := by
  refine eq_of_forall_ge_iff (α := EReal) fun z => ?_
  rw [ampR_le, G5_le]
  simp only [X_apply]
  constructor
  · intro h
    refine ⟨(abs_nonneg' _).trans (h ⟨0, by decide⟩ ⟨0, by decide⟩), fun r q hq => ?_⟩
    have := h r ⟨q.val % 74, Nat.mod_lt _ (by decide)⟩
    have e : (⟨d.val * 74 + (⟨q.val % 74, Nat.mod_lt _ (by decide)⟩ : Fin 74).val, by dsimp only; omega⟩ : Fin 18944) = q := Fin.ext (by dsimp only; omega)
    rw [e] at this
    exact this
  · rintro ⟨-, h⟩ r j
    exact h r ⟨d.val * 74 + j.val, by omega⟩ (by dsimp only; omega)

/-- The new scales. -/
theorem scale_same (c : Dev Cert.KernelIdeal.nD) (d : Fin 256) : newR (topR (argX m c) (argH m c) (argT m c)) (ix1 d) = (G6 m c : Cert.KernelIdeal.S1x256.Idx → EReal) (ix2 0 d) := by
  obtain ⟨hm, hh, hg⟩ := G6_apply m c d
  rw [newR_apply, hg, ← amp_same]
  have e : topR (argX m c) (argH m c) (argT m c) (ix1 d) = @max EReal _ hm (ampR (argX m c) (ix1 d)) := by
    refine eq_of_forall_ge_iff (α := EReal) fun z => ?_
    rw [topR_le, max_le_iff, hh, W_apply, H_eq]
    exact and_comm
  rw [e]
  rfl

/-- The codes. -/
theorem code_same (c : Dev Cert.KernelIdeal.nD) (r : Fin 11264) (q : Fin 18944) :
    shapeCast Cert.ReferenceIdeal.S11264x18944 (clipR (argX m c) (argS m c)) Cert.ReferenceIdeal.Gen.shapeCasts_S11264x256x74_S11264x18944 (ix2 r q) = (G4 m c : Cert.KernelIdeal.S11264x18944.Idx → EReal) (ix2 r q) := by
  rw [G4_apply]
  pointwise [clipR]
  rw [invR_apply]
  unfold Cert.KernelIdeal.Gen.clip448
  rfl

variable (m' : (ℓ : Loc Cert.ReferenceIdeal.nD Cert.ReferenceIdeal.τ Cert.ReferenceIdeal.sig) → Buf (Elt Ideal) ℓ)

/-- The reference's row of largest magnitudes is the kernel's. -/
theorem result1 (c : Dev Cert.KernelIdeal.nD) (hx : x m' c = argX m c) :
    (shapeCast Cert.ReferenceIdeal.S1x256 (ampR (x m' c)) Cert.ReferenceIdeal.Gen.shapeCasts_S256_S1x256 : Cert.KernelIdeal.S1x256.Idx → EReal) = G5 m c := by
  rw [hx]
  funext y
  obtain ⟨d, rfl⟩ := row_idx y
  refine Eq.trans ?_ (amp_same m c d)
  generalize ampR (argX m c) = a
  pointwise

/-- The reference's row of new scales is the kernel's. -/
theorem result2 (c : Dev Cert.KernelIdeal.nD) (hx : x m' c = argX m c) (hh : h m' c = argH m c) (hw : w m' c = argT m c) :
    (shapeCast Cert.ReferenceIdeal.S1x256 (newR (topR (x m' c) (h m' c) (w m' c))) Cert.ReferenceIdeal.Gen.shapeCasts_S256_S1x256 : Cert.KernelIdeal.S1x256.Idx → EReal) = G6 m c := by
  rw [hx, hh, hw]
  funext y
  obtain ⟨d, rfl⟩ := row_idx y
  refine Eq.trans ?_ (scale_same m c d)
  generalize newR (topR (argX m c) (argH m c) (argT m c)) = a
  pointwise

/-- The reference's codes are the kernel's. -/
theorem result3 (c : Dev Cert.KernelIdeal.nD) (hx : x m' c = argX m c) (hs : s m' c = argS m c) :
    (shapeCast Cert.ReferenceIdeal.S11264x18944 (clipR (x m' c) (s m' c)) Cert.ReferenceIdeal.Gen.shapeCasts_S11264x256x74_S11264x18944 : Cert.KernelIdeal.S11264x18944.Idx → EReal) = G4 m c := by
  rw [hx, hs]
  funext y
  obtain ⟨r, q, rfl⟩ : ∃ (r : Fin 11264) (q : Fin 18944), y = ix2 r q := ⟨y 0, y 1, by funext b; match b with | ⟨0, _⟩ => rfl | ⟨1, _⟩ => rfl⟩
  exact code_same m c r q

/-- The reference's row of scales used is the kernel's. -/
theorem result4 (c : Dev Cert.KernelIdeal.nD) (hs : s m' c = argS m c) :
    (shapeCast Cert.ReferenceIdeal.S1x256 (s m' c) Cert.ReferenceIdeal.Gen.shapeCasts_S256_S1x256 : Cert.KernelIdeal.S1x256.Idx → EReal) = G7 m c := by
  rw [hs]
  funext y
  obtain ⟨d, rfl⟩ := row_idx y
  refine Eq.trans ?_ ((G7_apply m c d).trans (S_apply m c d)).symm
  generalize argS m c = a
  pointwise

end Cert.Same
end
-- ==== Proof.lean ====
/- The proof of the certificate's claim: the frames of the kernel at both instances and of the reference, that the
   idealization preserves the kernel, and that kernel and reference have equal results at the ideal instance. -/
module

public import proofs.«01_k».proof.Defs
public import proofs.«01_k».proof.Proof.Bits.Frame
public import proofs.«01_k».proof.Proof.Ideal.Frame
public import proofs.«01_k».proof.Proof.Gen.ReferenceIdeal.Run
public import proofs.«01_k».proof.Proof.Ref.Run
public import proofs.«01_k».proof.Proof.Ref.Same
public import Idealize.ShloMosaic.Adequacy
public import Idealize.ShloMosaic.Init

@[expose] public section

noncomputable section

namespace Cert.Proof

open Idealize.ShloMosaic Idealize.SL.Sem Cert.Kernel

/-- Kernel and reference have equal results: the kernel's own arrays are the common values. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Value.G5 m c, fun c => Cert.KernelIdeal.Value.G6 m c, fun c => Cert.KernelIdeal.Value.G4 m c, fun c => Cert.KernelIdeal.Value.G7 m c, ?_, ?_⟩
  · refine (θ_run Cert.KernelIdeal.defs _ _).mono (fun r h c => ?_) (Cert.KernelIdeal.Value.run m g)
    obtain ⟨h4, h5, h6, h7, h⟩ := h c
    exact ⟨h5, h6, h4, h7, h⟩
  · refine (θ_run Cert.ReferenceIdeal.defs _ _).mono (fun r h c => ?_) (Cert.ReferenceIdeal.Terms.run m' g')
    obtain ⟨h0, h1, h2, h3, h⟩ := h c
    obtain ⟨hx, hh, hs, hw⟩ := hargs c
    exact ⟨h0.trans (Cert.Same.result1 m m' c hx), h1.trans (Cert.Same.result2 m m' c hx hh hw), h2.trans (Cert.Same.result3 m m' c hx hs),
      h3.trans (Cert.Same.result4 m m' c hs), h⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Terms.frame m ρ, trivial, algebraic⟩

end Cert.Proof

end
